-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x192x224x224 : Shape := ⟨4, ![1, 192, 224, 224]⟩
abbrev S192x192x1x1 : Shape := ⟨4, ![192, 192, 1, 1]⟩
abbrev S192x1x3x3 : Shape := ⟨4, ![192, 1, 3, 3]⟩
abbrev S384x192x1x1 : Shape := ⟨4, ![384, 192, 1, 1]⟩
abbrev S384x1x3x3 : Shape := ⟨4, ![384, 1, 3, 3]⟩
abbrev S8x1x1 : Shape := ⟨3, ![8, 1, 1]⟩
abbrev S1 : Shape := ⟨1, ![1]⟩
abbrev S_ : Shape := ⟨0, ![]⟩

class Facts : Prop where
  bcast_S_S1x192x224x224 : S_.BroadcastsInDim S1x192x224x224 (![] : Fin 0 → Fin S1x192x224x224.rank)
  reducesTo_S1x192x224x224_S_d0_1_2_3 : S1x192x224x224.ReducesTo [0, 1, 2, 3] S_
  h_S_ : 0 < S_.numel
  bcast_S_S384x192x1x1 : S_.BroadcastsInDim S384x192x1x1 (![] : Fin 0 → Fin S384x192x1x1.rank)
  reducesTo_S384x192x1x1_S_d0_1_2_3 : S384x192x1x1.ReducesTo [0, 1, 2, 3] S_
  bcast_S_S384x1x3x3 : S_.BroadcastsInDim S384x1x3x3 (![] : Fin 0 → Fin S384x1x3x3.rank)
  reducesTo_S384x1x3x3_S_d0_1_2_3 : S384x1x3x3.ReducesTo [0, 1, 2, 3] S_
  bcast_S_S192x192x1x1 : S_.BroadcastsInDim S192x192x1x1 (![] : Fin 0 → Fin S192x192x1x1.rank)
  reducesTo_S192x192x1x1_S_d0_1_2_3 : S192x192x1x1.ReducesTo [0, 1, 2, 3] S_
  bcast_S_S8x1x1 : S_.BroadcastsInDim S8x1x1 (![] : Fin 0 → Fin S8x1x1.rank)
  reducesTo_S8x1x1_S_d0_1_2 : S8x1x1.ReducesTo [0, 1, 2] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1 .f32) (main_arg11 : FVec F S1 .f32) (main_v33 : IVec S_ 1) : IVec S_ 1 :=
  let main_v34 : FVec F S1 .f32 := Host.absf main_arg10
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S8x1x1 .f32) (main_arg8 : FVec F S1 .f32) (main_arg9 : FVec F S1 .f32) (main_arg10 : FVec F S1 .f32) (main_arg11 : FVec F S1 .f32) (main_v13 : IVec S_ 1) (main_v16 : IVec S192x192x1x1 1) : IVec S_ 1 :=
  let main_c_5 : IVec S_ 1 := constantI S_ 1 1#1
  let main_v17 : IVec S_ 1 := (fun x v => Host.reduce IntOp.andi x v reducesTo_S192x192x1x1_S_d0_1_2_3 h_S_) main_v16 main_c_5
  let main_v18 : IVec S_ 1 := andi main_v13 main_v17
  let main_v19 : FVec F S8x1x1 .f32 := Host.absf main_arg7
  let main_cst_6 : FVec F S_ .f32 := constant S_ .f32 0x7F800000#32
  let main_v20 : FVec F S8x1x1 .f32 := broadcastInDim S8x1x1 ![] bcast_S_S8x1x1 main_cst_6
  let main_v21 : IVec S8x1x1 1 := cmpf .olt main_v19 main_v20
  let main_c_7 : IVec S_ 1 := constantI S_ 1 1#1
  let main_v22 : IVec S_ 1 := (fun x v => Host.reduce IntOp.andi x v reducesTo_S8x1x1_S_d0_1_2 h_S_) main_v21 main_c_7
  let main_v23 : IVec S_ 1 := andi main_v18 main_v22
  let main_v24 : FVec F S1 .f32 := Host.absf main_arg8
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg10 main_arg11 main_v33

def fn {F : FTy → Type} [FloatOps F] (main_arg0 : FVec F S1x192x224x224 .f32) (main_arg1 : FVec F S1x192x224x224 .f32) (main_arg2 : FVec F S192x192x1x1 .f32) (main_arg3 : FVec F S192x1x3x3 .f32) (main_arg4 : FVec F S384x192x1x1 .f32) (main_arg5 : FVec F S384x1x3x3 .f32) (main_arg6 : FVec F S192x192x1x1 .f32) (main_arg7 : FVec F S8x1x1 .f32) (main_arg8 : FVec F S1 .f32) (main_arg9 : FVec F S1 .f32) (main_arg10 : FVec F S1 .f32) (main_arg11 : FVec F S1 .f32) : IVec S_ 1 :=
  let main_v0 : FVec F S1x192x224x224 .f32 := Host.absf main_arg1
  let main_cst : FVec F S_ .f32 := constant S_ .f32 0x7F800000#32
  let main_v1 : FVec F S1x192x224x224 .f32 := broadcastInDim S1x192x224x224 ![] bcast_S_S1x192x224x224 main_cst
  let main_v2 : IVec S1x192x224x224 1 := cmpf .olt main_v0 main_v1
  let main_c : IVec S_ 1 := constantI S_ 1 1#1
  let main_v3 : IVec S_ 1 := (fun x v => Host.reduce IntOp.andi x v reducesTo_S1x192x224x224_S_d0_1_2_3 h_S_) main_v2 main_c
  let main_v4 : FVec F S384x192x1x1 .f32 := Host.absf main_arg4
  let main_cst_0 : FVec F S_ .f32 := constant S_ .f32 0x7F800000#32
  let main_v5 : FVec F S384x192x1x1 .f32 := broadcastInDim S384x192x1x1 ![] bcast_S_S384x192x1x1 main_cst_0
  let main_v6 : IVec S384x192x1x1 1 := cmpf .olt main_v4 main_v5
  let main_c_1 : IVec S_ 1 := constantI S_ 1 1#1
  let main_v7 : IVec S_ 1 := (fun x v => Host.reduce IntOp.andi x v reducesTo_S384x192x1x1_S_d0_1_2_3 h_S_) main_v6 main_c_1
  let main_v8 : IVec S_ 1 := andi main_v3 main_v7
  let main_v9 : FVec F S384x1x3x3 .f32 := Host.absf main_arg5
  let main_cst_2 : FVec F S_ .f32 := constant S_ .f32 0x7F800000#32
  let main_v10 : FVec F S384x1x3x3 .f32 := broadcastInDim S384x1x3x3 ![] bcast_S_S384x1x3x3 main_cst_2
  let main_v11 : IVec S384x1x3x3 1 := cmpf .olt main_v9 main_v10
  let main_c_3 : IVec S_ 1 := constantI S_ 1 1#1
  let main_v12 : IVec S_ 1 := (fun x v => Host.reduce IntOp.andi x v reducesTo_S384x1x3x3_S_d0_1_2_3 h_S_) main_v11 main_c_3
  let main_v13 : IVec S_ 1 := andi main_v8 main_v12
  let main_v14 : FVec F S192x192x1x1 .f32 := Host.absf main_arg6
  let main_cst_4 : FVec F S_ .f32 := constant S_ .f32 0x7F800000#32
  let main_v15 : FVec F S192x192x1x1 .f32 := broadcastInDim S192x192x1x1 ![] bcast_S_S192x192x1x1 main_cst_4
  let main_v16 : IVec S192x192x1x1 1 := cmpf .olt main_v14 main_v15
  fn_part1 (F := F) main_arg7 main_arg8 main_arg9 main_arg10 main_arg11 main_v13 main_v16
-- ==== Kernel.lean ====
abbrev S1x192x224x224 : Shape := ⟨4, ![1, 192, 224, 224]⟩
abbrev S192x192x1x1 : Shape := ⟨4, ![192, 192, 1, 1]⟩
abbrev S192x1x3x3 : Shape := ⟨4, ![192, 1, 3, 3]⟩
abbrev S384x192x1x1 : Shape := ⟨4, ![384, 192, 1, 1]⟩
abbrev S384x1x3x3 : Shape := ⟨4, ![384, 1, 3, 3]⟩
abbrev S8x1x1 : Shape := ⟨3, ![8, 1, 1]⟩
abbrev S1 : Shape := ⟨1, ![1]⟩
abbrev S192x50176 : Shape := ⟨2, ![192, 50176]⟩
abbrev S192x192 : Shape := ⟨2, ![192, 192]⟩
abbrev S384x192 : Shape := ⟨2, ![384, 192]⟩
abbrev S192x9 : Shape := ⟨2, ![192, 9]⟩
abbrev S384x9 : Shape := ⟨2, ![384, 9]⟩
abbrev S8x1 : Shape := ⟨2, ![8, 1]⟩
abbrev S8x24 : Shape := ⟨2, ![8, 24]⟩
abbrev S4 : Shape := ⟨1, ![4]⟩
abbrev S1x4 : Shape := ⟨2, ![1, 4]⟩
abbrev S8x4 : Shape := ⟨2, ![8, 4]⟩
abbrev S384x50176 : Shape := ⟨2, ![384, 50176]⟩
abbrev S192x3584 : Shape := ⟨2, ![192, 3584]⟩
abbrev S384x3584 : Shape := ⟨2, ![384, 3584]⟩
abbrev S8x32x24 : Shape := ⟨3, ![8, 32, 24]⟩
abbrev S24x50176 : Shape := ⟨2, ![24, 50176]⟩
abbrev S24x9 : Shape := ⟨2, ![24, 9]⟩
abbrev S1x32x24 : Shape := ⟨3, ![1, 32, 24]⟩
abbrev S1x3584 : Shape := ⟨2, ![1, 3584]⟩
abbrev S1x24 : Shape := ⟨2, ![1, 24]⟩
abbrev S24x3359 : Shape := ⟨2, ![24, 3359]⟩
abbrev S24x225 : Shape := ⟨2, ![24, 225]⟩
abbrev S24x3584 : Shape := ⟨2, ![24, 3584]⟩
abbrev S24x1 : Shape := ⟨2, ![24, 1]⟩
abbrev S24 : Shape := ⟨1, ![24]⟩
abbrev S24x3360 : Shape := ⟨2, ![24, 3360]⟩
abbrev S24x224 : Shape := ⟨2, ![24, 224]⟩
abbrev S24x3361 : Shape := ⟨2, ![24, 3361]⟩
abbrev S24x223 : Shape := ⟨2, ![24, 223]⟩
abbrev S24x3583 : Shape := ⟨2, ![24, 3583]⟩
abbrev S24x24 : Shape := ⟨2, ![24, 24]⟩
abbrev S6x24 : Shape := ⟨2, ![6, 24]⟩
abbrev S32x24 : Shape := ⟨2, ![32, 24]⟩
abbrev S8 : Shape := ⟨1, ![8]⟩
abbrev S8x24x24 : Shape := ⟨3, ![8, 24, 24]⟩
abbrev S8x24x24x1 : Shape := ⟨4, ![8, 24, 24, 1]⟩
abbrev S8x24x1x24 : Shape := ⟨4, ![8, 24, 1, 24]⟩
abbrev S1x1x24x24 : Shape := ⟨4, ![1, 1, 24, 24]⟩
abbrev S8x24x24x24 : Shape := ⟨4, ![8, 24, 24, 24]⟩
abbrev S8x24x1 : Shape := ⟨3, ![8, 24, 1]⟩
abbrev S1x1 : Shape := ⟨2, ![1, 1]⟩
abbrev S192x24 : Shape := ⟨2, ![192, 24]⟩
abbrev S1x24x24 : Shape := ⟨3, ![1, 24, 24]⟩

abbrev nBuf : Space → Nat
  | .hbm => 30
  | .vmem => 35
  | .smem => 0
  | _ => 0

abbrev bufTy : (tb : Table) → Fin (tcTables nBuf tb) → BufTy
  | .hbm, ⟨0, _⟩ => ⟨S1x192x224x224, .f32⟩
  | .hbm, ⟨1, _⟩ => ⟨S1x192x224x224, .f32⟩
  | .hbm, ⟨2, _⟩ => ⟨S192x192x1x1, .f32⟩
  | .hbm, ⟨3, _⟩ => ⟨S192x1x3x3, .f32⟩
  | .hbm, ⟨4, _⟩ => ⟨S384x192x1x1, .f32⟩
  | .hbm, ⟨5, _⟩ => ⟨S384x1x3x3, .f32⟩
  | .hbm, ⟨6, _⟩ => ⟨S192x192x1x1, .f32⟩
  | .hbm, ⟨7, _⟩ => ⟨S8x1x1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S192x50176, .f32⟩
  | .hbm, ⟨13, _⟩ => ⟨S192x50176, .f32⟩
  | .hbm, ⟨14, _⟩ => ⟨S192x192, .f32⟩
  | .hbm, ⟨15, _⟩ => ⟨S384x192, .f32⟩
  | .hbm, ⟨16, _⟩ => ⟨S192x9, .f32⟩
  | .hbm, ⟨17, _⟩ => ⟨S384x9, .f32⟩
  | .hbm, ⟨18, _⟩ => ⟨S192x192, .f32⟩
  | .hbm, ⟨19, _⟩ => ⟨S8x1, .f32⟩
  | .hbm, ⟨20, _⟩ => ⟨S8x24, .f32⟩
  | .hbm, ⟨21, _⟩ => ⟨S4, .f32⟩
  | .hbm, ⟨22, _⟩ => ⟨S1x4, .f32⟩
  | .hbm, ⟨23, _⟩ => ⟨S8x4, .f32⟩
  | .hbm, ⟨24, _⟩ => ⟨S192x50176, .bf16⟩
  | .hbm, ⟨25, _⟩ => ⟨S384x50176, .bf16⟩
  | .hbm, ⟨26, _⟩ => ⟨S8x32x24, .f32⟩
  | .hbm, ⟨27, _⟩ => ⟨S192x50176, .bf16⟩
  | .hbm, ⟨28, _⟩ => ⟨S192x50176, .f32⟩
  | .hbm, ⟨29, _⟩ => ⟨S1x192x224x224, .f32⟩
  | .local _ .vmem, ⟨0, _⟩ => ⟨S192x3584, .f32⟩
  | .local _ .vmem, ⟨1, _⟩ => ⟨S192x3584, .f32⟩
  | .local _ .vmem, ⟨2, _⟩ => ⟨S192x3584, .f32⟩
  | .local _ .vmem, ⟨3, _⟩ => ⟨S192x3584, .f32⟩
  | .local _ .vmem, ⟨4, _⟩ => ⟨S192x192, .f32⟩
  | .local _ .vmem, ⟨5, _⟩ => ⟨S384x192, .f32⟩
  | .local _ .vmem, ⟨6, _⟩ => ⟨S192x3584, .bf16⟩
  | .local _ .vmem, ⟨7, _⟩ => ⟨S192x3584, .bf16⟩
  | .local _ .vmem, ⟨8, _⟩ => ⟨S384x3584, .bf16⟩
  | .local _ .vmem, ⟨9, _⟩ => ⟨S384x3584, .bf16⟩
  | .local _ .vmem, ⟨10, _⟩ => ⟨S24x50176, .bf16⟩
  | .local _ .vmem, ⟨11, _⟩ => ⟨S24x50176, .bf16⟩
  | .local _ .vmem, ⟨12, _⟩ => ⟨S24x50176, .bf16⟩
  | .local _ .vmem, ⟨13, _⟩ => ⟨S24x50176, .bf16⟩
  | .local _ .vmem, ⟨14, _⟩ => ⟨S24x9, .f32⟩
  | .local _ .vmem, ⟨15, _⟩ => ⟨S24x9, .f32⟩
  | .local _ .vmem, ⟨16, _⟩ => ⟨S24x9, .f32⟩
  | .local _ .vmem, ⟨17, _⟩ => ⟨S24x9, .f32⟩
  | .local _ .vmem, ⟨18, _⟩ => ⟨S1x32x24, .f32⟩
  | .local _ .vmem, ⟨19, _⟩ => ⟨S1x32x24, .f32⟩
  | .local _ .vmem, ⟨20, _⟩ => ⟨S24x50176, .bf16⟩
  | .local _ .vmem, ⟨21, _⟩ => ⟨S24x50176, .bf16⟩
  | .local _ .vmem, ⟨22, _⟩ => ⟨S24x9, .f32⟩
  | .local _ .vmem, ⟨23, _⟩ => ⟨S24x9, .f32⟩
  | .local _ .vmem, ⟨24, _⟩ => ⟨S24x50176, .bf16⟩
  | .local _ .vmem, ⟨25, _⟩ => ⟨S24x50176, .bf16⟩
  | .local _ .vmem, ⟨26, _⟩ => ⟨S8x32x24, .f32⟩
  | .local _ .vmem, ⟨27, _⟩ => ⟨S8x24, .f32⟩
  | .local _ .vmem, ⟨28, _⟩ => ⟨S8x4, .f32⟩
  | .local _ .vmem, ⟨29, _⟩ => ⟨S192x192, .f32⟩
  | .local _ .vmem, ⟨30, _⟩ => ⟨S192x3584, .bf16⟩
  | .local _ .vmem, ⟨31, _⟩ => ⟨S192x3584, .bf16⟩
  | .local _ .vmem, ⟨32, _⟩ => ⟨S192x3584, .f32⟩
  | .local _ .vmem, ⟨33, _⟩ => ⟨S192x3584, .f32⟩
  | .local _ .vmem, ⟨34, _⟩ => ⟨S192x192, .f32⟩
  | _, _ => ⟨S1x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S192x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S24x50176 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S24x50176 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S24x9 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S24x9 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x32x24 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S24x50176 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S24x9 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S24x50176 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![14], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S8x32x24 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S8x24 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S192x3584 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S192x3584 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== KernelIdeal.lean ====
variable {F : FTy → Type} [FloatOps F] [Named F]
def κ : String → Option EReal := fun
  | "mask" => some ⊥
  | _ => none
-- ==== ReferenceIdeal.lean ====
abbrev S1x192x224x224 : Shape := ⟨4, ![1, 192, 224, 224]⟩
abbrev S192x192x1x1 : Shape := ⟨4, ![192, 192, 1, 1]⟩
abbrev S192x1x3x3 : Shape := ⟨4, ![192, 1, 3, 3]⟩
abbrev S384x192x1x1 : Shape := ⟨4, ![384, 192, 1, 1]⟩
abbrev S384x1x3x3 : Shape := ⟨4, ![384, 1, 3, 3]⟩
abbrev S8x1x1 : Shape := ⟨3, ![8, 1, 1]⟩
abbrev S1 : Shape := ⟨1, ![1]⟩
abbrev S192x192 : Shape := ⟨2, ![192, 192]⟩
abbrev S1x224x224x192 : Shape := ⟨4, ![1, 224, 224, 192]⟩
abbrev S_ : Shape := ⟨0, ![]⟩
abbrev S1x192x226x226 : Shape := ⟨4, ![1, 192, 226, 226]⟩
abbrev S192x1x1x1 : Shape := ⟨4, ![192, 1, 1, 1]⟩
abbrev S192 : Shape := ⟨1, ![192]⟩
abbrev S1x192x1x1 : Shape := ⟨4, ![1, 192, 1, 1]⟩
abbrev S384x192 : Shape := ⟨2, ![384, 192]⟩
abbrev S1x224x224x384 : Shape := ⟨4, ![1, 224, 224, 384]⟩
abbrev S1x384x224x224 : Shape := ⟨4, ![1, 384, 224, 224]⟩
abbrev S1x384x226x226 : Shape := ⟨4, ![1, 384, 226, 226]⟩
abbrev S384x1x1x1 : Shape := ⟨4, ![384, 1, 1, 1]⟩
abbrev S384 : Shape := ⟨1, ![384]⟩
abbrev S1x384x1x1 : Shape := ⟨4, ![1, 384, 1, 1]⟩
abbrev S1x8x24x50176 : Shape := ⟨4, ![1, 8, 24, 50176]⟩
abbrev S1x8x24 : Shape := ⟨3, ![1, 8, 24]⟩
abbrev S1x8x24x1 : Shape := ⟨4, ![1, 8, 24, 1]⟩
abbrev S1x8x50176x24 : Shape := ⟨4, ![1, 8, 50176, 24]⟩
abbrev S8x24x50176 : Shape := ⟨3, ![8, 24, 50176]⟩
abbrev S8x50176x24 : Shape := ⟨3, ![8, 50176, 24]⟩
abbrev S8x24x24 : Shape := ⟨3, ![8, 24, 24]⟩
abbrev S1x8x24x24 : Shape := ⟨4, ![1, 8, 24, 24]⟩
abbrev S1x8x1x1 : Shape := ⟨4, ![1, 8, 1, 1]⟩
abbrev S1x8x24x12 : Shape := ⟨4, ![1, 8, 24, 12]⟩
abbrev S1x8x24x12x1 : Shape := ⟨5, ![1, 8, 24, 12, 1]⟩
abbrev S1x1x1x1x24 : Shape := ⟨5, ![1, 1, 1, 1, 24]⟩
abbrev S1x8x24x12x24 : Shape := ⟨5, ![1, 8, 24, 12, 24]⟩
abbrev S1x8x24x16 : Shape := ⟨4, ![1, 8, 24, 16]⟩
abbrev S1x8x24x16x1 : Shape := ⟨5, ![1, 8, 24, 16, 1]⟩
abbrev S1x8x24x16x24 : Shape := ⟨5, ![1, 8, 24, 16, 24]⟩
abbrev S1x8x24x18 : Shape := ⟨4, ![1, 8, 24, 18]⟩
abbrev S1x8x24x18x1 : Shape := ⟨5, ![1, 8, 24, 18, 1]⟩
abbrev S1x8x24x18x24 : Shape := ⟨5, ![1, 8, 24, 18, 24]⟩
abbrev S1x8x24x19 : Shape := ⟨4, ![1, 8, 24, 19]⟩
abbrev S1x8x24x19x1 : Shape := ⟨5, ![1, 8, 24, 19, 1]⟩
abbrev S1x8x24x19x24 : Shape := ⟨5, ![1, 8, 24, 19, 24]⟩
abbrev S1x1x1x1 : Shape := ⟨4, ![1, 1, 1, 1]⟩

abbrev nBuf : Space → Nat
  | .hbm => 336
  | .vmem => 0
  | .smem => 0
  | _ => 0

abbrev hbmTy0_0 (i : Nat) : BufTy := match i % 128 with
  | 0 => ⟨S1x192x224x224, .f32⟩
  | 1 => ⟨S1x192x224x224, .f32⟩
  | 2 => ⟨S192x192x1x1, .f32⟩
  | 3 => ⟨S192x1x3x3, .f32⟩
  | 4 => ⟨S384x192x1x1, .f32⟩
  | 5 => ⟨S384x1x3x3, .f32⟩
  | 6 => ⟨S192x192x1x1, .f32⟩
  | 7 => ⟨S8x1x1, .f32⟩
  | 8 => ⟨S1, .f32⟩
  | 9 => ⟨S1, .f32⟩
  | 10 => ⟨S1, .f32⟩
  | 11 => ⟨S1, .f32⟩
  | 12 => ⟨S192x192, .f32⟩
  | 13 => ⟨S1x224x224x192, .f32⟩
  | 14 => ⟨S1x192x224x224, .f32⟩
  | 15 => ⟨S_, .i32⟩
  | 16 => ⟨S_, .f32⟩
  | 17 => ⟨S1x192x226x226, .f32⟩
  | 18 => ⟨S192x1x1x1, .f32⟩
  | 19 => ⟨S192, .f32⟩
  | 20 => ⟨S1x192x1x1, .f32⟩
  | 21 => ⟨S1x192x224x224, .f32⟩
  | 22 => ⟨S1x192x224x224, .f32⟩
  | 23 => ⟨S1x192x224x224, .f32⟩
  | 24 => ⟨S192x1x1x1, .f32⟩
  | 25 => ⟨S192, .f32⟩
  | 26 => ⟨S1x192x1x1, .f32⟩
  | 27 => ⟨S1x192x224x224, .f32⟩
  | 28 => ⟨S1x192x224x224, .f32⟩
  | 29 => ⟨S1x192x224x224, .f32⟩
  | 30 => ⟨S1x192x224x224, .f32⟩
  | 31 => ⟨S192x1x1x1, .f32⟩
  | 32 => ⟨S192, .f32⟩
  | 33 => ⟨S1x192x1x1, .f32⟩
  | 34 => ⟨S1x192x224x224, .f32⟩
  | 35 => ⟨S1x192x224x224, .f32⟩
  | 36 => ⟨S1x192x224x224, .f32⟩
  | 37 => ⟨S1x192x224x224, .f32⟩
  | 38 => ⟨S192x1x1x1, .f32⟩
  | 39 => ⟨S192, .f32⟩
  | 40 => ⟨S1x192x1x1, .f32⟩
  | 41 => ⟨S1x192x224x224, .f32⟩
  | 42 => ⟨S1x192x224x224, .f32⟩
  | 43 => ⟨S1x192x224x224, .f32⟩
  | 44 => ⟨S1x192x224x224, .f32⟩
  | 45 => ⟨S192x1x1x1, .f32⟩
  | 46 => ⟨S192, .f32⟩
  | 47 => ⟨S1x192x1x1, .f32⟩
  | 48 => ⟨S1x192x224x224, .f32⟩
  | 49 => ⟨S1x192x224x224, .f32⟩
  | 50 => ⟨S1x192x224x224, .f32⟩
  | 51 => ⟨S1x192x224x224, .f32⟩
  | 52 => ⟨S192x1x1x1, .f32⟩
  | 53 => ⟨S192, .f32⟩
  | 54 => ⟨S1x192x1x1, .f32⟩
  | 55 => ⟨S1x192x224x224, .f32⟩
  | 56 => ⟨S1x192x224x224, .f32⟩
  | 57 => ⟨S1x192x224x224, .f32⟩
  | 58 => ⟨S1x192x224x224, .f32⟩
  | 59 => ⟨S192x1x1x1, .f32⟩
  | 60 => ⟨S192, .f32⟩
  | 61 => ⟨S1x192x1x1, .f32⟩
  | 62 => ⟨S1x192x224x224, .f32⟩
  | 63 => ⟨S1x192x224x224, .f32⟩
  | 64 => ⟨S1x192x224x224, .f32⟩
  | 65 => ⟨S1x192x224x224, .f32⟩
  | 66 => ⟨S192x1x1x1, .f32⟩
  | 67 => ⟨S192, .f32⟩
  | 68 => ⟨S1x192x1x1, .f32⟩
  | 69 => ⟨S1x192x224x224, .f32⟩
  | 70 => ⟨S1x192x224x224, .f32⟩
  | 71 => ⟨S1x192x224x224, .f32⟩
  | 72 => ⟨S1x192x224x224, .f32⟩
  | 73 => ⟨S192x1x1x1, .f32⟩
  | 74 => ⟨S192, .f32⟩
  | 75 => ⟨S1x192x1x1, .f32⟩
  | 76 => ⟨S1x192x224x224, .f32⟩
  | 77 => ⟨S1x192x224x224, .f32⟩
  | 78 => ⟨S1x192x224x224, .f32⟩
  | 79 => ⟨S1x192x224x224, .f32⟩
  | 80 => ⟨S384x192, .f32⟩
  | 81 => ⟨S1x224x224x384, .f32⟩
  | 82 => ⟨S1x384x224x224, .f32⟩
  | 83 => ⟨S_, .i32⟩
  | 84 => ⟨S_, .f32⟩
  | 85 => ⟨S1x384x226x226, .f32⟩
  | 86 => ⟨S384x1x1x1, .f32⟩
  | 87 => ⟨S384, .f32⟩
  | 88 => ⟨S1x384x1x1, .f32⟩
  | 89 => ⟨S1x384x224x224, .f32⟩
  | 90 => ⟨S1x384x224x224, .f32⟩
  | 91 => ⟨S1x384x224x224, .f32⟩
  | 92 => ⟨S384x1x1x1, .f32⟩
  | 93 => ⟨S384, .f32⟩
  | 94 => ⟨S1x384x1x1, .f32⟩
  | 95 => ⟨S1x384x224x224, .f32⟩
  | 96 => ⟨S1x384x224x224, .f32⟩
  | 97 => ⟨S1x384x224x224, .f32⟩
  | 98 => ⟨S1x384x224x224, .f32⟩
  | 99 => ⟨S384x1x1x1, .f32⟩
  | 100 => ⟨S384, .f32⟩
  | 101 => ⟨S1x384x1x1, .f32⟩
  | 102 => ⟨S1x384x224x224, .f32⟩
  | 103 => ⟨S1x384x224x224, .f32⟩
  | 104 => ⟨S1x384x224x224, .f32⟩
  | 105 => ⟨S1x384x224x224, .f32⟩
  | 106 => ⟨S384x1x1x1, .f32⟩
  | 107 => ⟨S384, .f32⟩
  | 108 => ⟨S1x384x1x1, .f32⟩
  | 109 => ⟨S1x384x224x224, .f32⟩
  | 110 => ⟨S1x384x224x224, .f32⟩
  | 111 => ⟨S1x384x224x224, .f32⟩
  | 112 => ⟨S1x384x224x224, .f32⟩
  | 113 => ⟨S384x1x1x1, .f32⟩
  | 114 => ⟨S384, .f32⟩
  | 115 => ⟨S1x384x1x1, .f32⟩
  | 116 => ⟨S1x384x224x224, .f32⟩
  | 117 => ⟨S1x384x224x224, .f32⟩
  | 118 => ⟨S1x384x224x224, .f32⟩
  | 119 => ⟨S1x384x224x224, .f32⟩
  | 120 => ⟨S384x1x1x1, .f32⟩
  | 121 => ⟨S384, .f32⟩
  | 122 => ⟨S1x384x1x1, .f32⟩
  | 123 => ⟨S1x384x224x224, .f32⟩
  | 124 => ⟨S1x384x224x224, .f32⟩
  | 125 => ⟨S1x384x224x224, .f32⟩
  | 126 => ⟨S1x384x224x224, .f32⟩
  | 127 => ⟨S384x1x1x1, .f32⟩
  | _ => ⟨S1x192x224x224, .f32⟩

abbrev hbmTy0_1 (i : Nat) : BufTy := match i % 128 with
  | 0 => ⟨S384, .f32⟩
  | 1 => ⟨S1x384x1x1, .f32⟩
  | 2 => ⟨S1x384x224x224, .f32⟩
  | 3 => ⟨S1x384x224x224, .f32⟩
  | 4 => ⟨S1x384x224x224, .f32⟩
  | 5 => ⟨S1x384x224x224, .f32⟩
  | 6 => ⟨S384x1x1x1, .f32⟩
  | 7 => ⟨S384, .f32⟩
  | 8 => ⟨S1x384x1x1, .f32⟩
  | 9 => ⟨S1x384x224x224, .f32⟩
  | 10 => ⟨S1x384x224x224, .f32⟩
  | 11 => ⟨S1x384x224x224, .f32⟩
  | 12 => ⟨S1x384x224x224, .f32⟩
  | 13 => ⟨S384x1x1x1, .f32⟩
  | 14 => ⟨S384, .f32⟩
  | 15 => ⟨S1x384x1x1, .f32⟩
  | 16 => ⟨S1x384x224x224, .f32⟩
  | 17 => ⟨S1x384x224x224, .f32⟩
  | 18 => ⟨S1x384x224x224, .f32⟩
  | 19 => ⟨S1x384x224x224, .f32⟩
  | 20 => ⟨S1x192x224x224, .f32⟩
  | 21 => ⟨S1x192x224x224, .f32⟩
  | 22 => ⟨S1x8x24x50176, .f32⟩
  | 23 => ⟨S1x8x24x50176, .f32⟩
  | 24 => ⟨S1x8x24x50176, .f32⟩
  | 25 => ⟨S1x8x24x50176, .f32⟩
  | 26 => ⟨S_, .f32⟩
  | 27 => ⟨S1x8x24, .f32⟩
  | 28 => ⟨S1x8x24x1, .f32⟩
  | 29 => ⟨S1x8x24x1, .f32⟩
  | 30 => ⟨S_, .f32⟩
  | 31 => ⟨S1x8x24x1, .f32⟩
  | 32 => ⟨S1x8x24x1, .f32⟩
  | 33 => ⟨S1x8x24x50176, .f32⟩
  | 34 => ⟨S1x8x24x50176, .f32⟩
  | 35 => ⟨S1x8x24x50176, .f32⟩
  | 36 => ⟨S_, .f32⟩
  | 37 => ⟨S1x8x24, .f32⟩
  | 38 => ⟨S1x8x24x1, .f32⟩
  | 39 => ⟨S1x8x24x1, .f32⟩
  | 40 => ⟨S_, .f32⟩
  | 41 => ⟨S1x8x24x1, .f32⟩
  | 42 => ⟨S1x8x24x1, .f32⟩
  | 43 => ⟨S1x8x24x50176, .f32⟩
  | 44 => ⟨S1x8x24x50176, .f32⟩
  | 45 => ⟨S1x8x50176x24, .f32⟩
  | 46 => ⟨S8x24x50176, .f32⟩
  | 47 => ⟨S8x50176x24, .f32⟩
  | 48 => ⟨S8x24x24, .f32⟩
  | 49 => ⟨S1x8x24x24, .f32⟩
  | 50 => ⟨S1x8x1x1, .f32⟩
  | 51 => ⟨S1x8x24x24, .f32⟩
  | 52 => ⟨S1x8x24x24, .f32⟩
  | 53 => ⟨S1x8x24x12, .f32⟩
  | 54 => ⟨S1x8x24x12, .i32⟩
  | 55 => ⟨S1x8x24x12x1, .i32⟩
  | 56 => ⟨S1x1x1x1x24, .i32⟩
  | 57 => ⟨S1x8x24x12x24, .i32⟩
  | 58 => ⟨S1x8x24x12x24, .i32⟩
  | 59 => ⟨S1x8x24x12x24, .i1⟩
  | 60 => ⟨S1x8x24x12x24, .f32⟩
  | 61 => ⟨S_, .f32⟩
  | 62 => ⟨S1x8x24x24, .f32⟩
  | 63 => ⟨S_, .f32⟩
  | 64 => ⟨S1x8x24x24, .f32⟩
  | 65 => ⟨S1x8x24x24, .i1⟩
  | 66 => ⟨S_, .f32⟩
  | 67 => ⟨S1x8x24x24, .f32⟩
  | 68 => ⟨S1x8x24x24, .f32⟩
  | 69 => ⟨S1x8x24x16, .f32⟩
  | 70 => ⟨S1x8x24x16, .i32⟩
  | 71 => ⟨S1x8x24x16x1, .i32⟩
  | 72 => ⟨S1x1x1x1x24, .i32⟩
  | 73 => ⟨S1x8x24x16x24, .i32⟩
  | 74 => ⟨S1x8x24x16x24, .i32⟩
  | 75 => ⟨S1x8x24x16x24, .i1⟩
  | 76 => ⟨S1x8x24x16x24, .f32⟩
  | 77 => ⟨S_, .f32⟩
  | 78 => ⟨S1x8x24x24, .f32⟩
  | 79 => ⟨S_, .f32⟩
  | 80 => ⟨S1x8x24x24, .f32⟩
  | 81 => ⟨S1x8x24x24, .i1⟩
  | 82 => ⟨S_, .f32⟩
  | 83 => ⟨S1x8x24x24, .f32⟩
  | 84 => ⟨S1x8x24x24, .f32⟩
  | 85 => ⟨S1x8x24x18, .f32⟩
  | 86 => ⟨S1x8x24x18, .i32⟩
  | 87 => ⟨S1x8x24x18x1, .i32⟩
  | 88 => ⟨S1x1x1x1x24, .i32⟩
  | 89 => ⟨S1x8x24x18x24, .i32⟩
  | 90 => ⟨S1x8x24x18x24, .i32⟩
  | 91 => ⟨S1x8x24x18x24, .i1⟩
  | 92 => ⟨S1x8x24x18x24, .f32⟩
  | 93 => ⟨S_, .f32⟩
  | 94 => ⟨S1x8x24x24, .f32⟩
  | 95 => ⟨S_, .f32⟩
  | 96 => ⟨S1x8x24x24, .f32⟩
  | 97 => ⟨S1x8x24x24, .i1⟩
  | 98 => ⟨S_, .f32⟩
  | 99 => ⟨S1x8x24x24, .f32⟩
  | 100 => ⟨S1x8x24x24, .f32⟩
  | 101 => ⟨S1x8x24x19, .f32⟩
  | 102 => ⟨S1x8x24x19, .i32⟩
  | 103 => ⟨S1x8x24x19x1, .i32⟩
  | 104 => ⟨S1x1x1x1x24, .i32⟩
  | 105 => ⟨S1x8x24x19x24, .i32⟩
  | 106 => ⟨S1x8x24x19x24, .i32⟩
  | 107 => ⟨S1x8x24x19x24, .i1⟩
  | 108 => ⟨S1x8x24x19x24, .f32⟩
  | 109 => ⟨S_, .f32⟩
  | 110 => ⟨S1x8x24x24, .f32⟩
  | 111 => ⟨S_, .f32⟩
  | 112 => ⟨S1x8x24x24, .f32⟩
  | 113 => ⟨S1x8x24x24, .i1⟩
  | 114 => ⟨S_, .f32⟩
  | 115 => ⟨S1x8x24x24, .f32⟩
  | 116 => ⟨S1x8x24x24, .f32⟩
  | 117 => ⟨S_, .f32⟩
  | 118 => ⟨S1x8x24, .f32⟩
  | 119 => ⟨S_, .f32⟩
  | 120 => ⟨S1x8x24, .f32⟩
  | 121 => ⟨S1x8x24, .f32⟩
  | 122 => ⟨S1x8x24x1, .f32⟩
  | 123 => ⟨S1x8x24x24, .f32⟩
  | 124 => ⟨S1x8x24x24, .f32⟩
  | 125 => ⟨S1x8x24x24, .f32⟩
  | 126 => ⟨S_, .f32⟩
  | 127 => ⟨S1x8x24, .f32⟩
  | _ => ⟨S1x192x224x224, .f32⟩

abbrev hbmTy0_2 (i : Nat) : BufTy := match i % 128 with
  | 0 => ⟨S1x8x24x1, .f32⟩
  | 1 => ⟨S1x8x24x24, .f32⟩
  | 2 => ⟨S1x8x24x24, .f32⟩
  | 3 => ⟨S_, .f32⟩
  | 4 => ⟨S1x8x24, .f32⟩
  | 5 => ⟨S_, .f32⟩
  | 6 => ⟨S1x8x24, .f32⟩
  | 7 => ⟨S1x8x24, .f32⟩
  | 8 => ⟨S1x8x24x1, .f32⟩
  | 9 => ⟨S1x8x24x24, .f32⟩
  | 10 => ⟨S1x8x24x24, .f32⟩
  | 11 => ⟨S1x8x24x24, .f32⟩
  | 12 => ⟨S_, .f32⟩
  | 13 => ⟨S1x8x24, .f32⟩
  | 14 => ⟨S1x8x24x1, .f32⟩
  | 15 => ⟨S1x8x24x24, .f32⟩
  | 16 => ⟨S1x8x24x24, .f32⟩
  | 17 => ⟨S_, .f32⟩
  | 18 => ⟨S1x8x24, .f32⟩
  | 19 => ⟨S_, .f32⟩
  | 20 => ⟨S1x8x24, .f32⟩
  | 21 => ⟨S1x8x24, .f32⟩
  | 22 => ⟨S1x8x24x1, .f32⟩
  | 23 => ⟨S1x8x24x24, .f32⟩
  | 24 => ⟨S1x8x24x24, .f32⟩
  | 25 => ⟨S1x8x24x24, .f32⟩
  | 26 => ⟨S_, .f32⟩
  | 27 => ⟨S1x8x24, .f32⟩
  | 28 => ⟨S1x8x24x1, .f32⟩
  | 29 => ⟨S1x8x24x24, .f32⟩
  | 30 => ⟨S1x8x24x24, .f32⟩
  | 31 => ⟨S_, .f32⟩
  | 32 => ⟨S1x8x24, .f32⟩
  | 33 => ⟨S_, .f32⟩
  | 34 => ⟨S1x8x24, .f32⟩
  | 35 => ⟨S1x8x24, .f32⟩
  | 36 => ⟨S1x8x24x1, .f32⟩
  | 37 => ⟨S1x8x24x24, .f32⟩
  | 38 => ⟨S1x8x24x24, .f32⟩
  | 39 => ⟨S1x8x24x24, .f32⟩
  | 40 => ⟨S_, .f32⟩
  | 41 => ⟨S1x8x24, .f32⟩
  | 42 => ⟨S1x8x24x1, .f32⟩
  | 43 => ⟨S1x8x24x24, .f32⟩
  | 44 => ⟨S1x8x24x24, .f32⟩
  | 45 => ⟨S8x24x24, .f32⟩
  | 46 => ⟨S8x24x50176, .f32⟩
  | 47 => ⟨S8x24x50176, .f32⟩
  | 48 => ⟨S1x8x24x50176, .f32⟩
  | 49 => ⟨S8x24x24, .f32⟩
  | 50 => ⟨S8x24x50176, .f32⟩
  | 51 => ⟨S8x24x50176, .f32⟩
  | 52 => ⟨S1x8x24x50176, .f32⟩
  | 53 => ⟨S8x24x24, .f32⟩
  | 54 => ⟨S8x24x50176, .f32⟩
  | 55 => ⟨S8x24x50176, .f32⟩
  | 56 => ⟨S1x8x24x50176, .f32⟩
  | 57 => ⟨S8x24x24, .f32⟩
  | 58 => ⟨S8x24x50176, .f32⟩
  | 59 => ⟨S8x24x50176, .f32⟩
  | 60 => ⟨S1x8x24x50176, .f32⟩
  | 61 => ⟨S1x1x1x1, .f32⟩
  | 62 => ⟨S1x8x24x50176, .f32⟩
  | 63 => ⟨S1x8x24x50176, .f32⟩
  | 64 => ⟨S1x1x1x1, .f32⟩
  | 65 => ⟨S1x8x24x50176, .f32⟩
  | 66 => ⟨S1x8x24x50176, .f32⟩
  | 67 => ⟨S1x8x24x50176, .f32⟩
  | 68 => ⟨S1x1x1x1, .f32⟩
  | 69 => ⟨S1x8x24x50176, .f32⟩
  | 70 => ⟨S1x8x24x50176, .f32⟩
  | 71 => ⟨S1x8x24x50176, .f32⟩
  | 72 => ⟨S1x1x1x1, .f32⟩
  | 73 => ⟨S1x8x24x50176, .f32⟩
  | 74 => ⟨S1x8x24x50176, .f32⟩
  | 75 => ⟨S1x8x24x50176, .f32⟩
  | 76 => ⟨S1x192x224x224, .f32⟩
  | 77 => ⟨S192x192, .f32⟩
  | 78 => ⟨S1x224x224x192, .f32⟩
  | 79 => ⟨S1x192x224x224, .f32⟩
  | _ => ⟨S1x192x224x224, .f32⟩

abbrev hbmTy (i : Nat) : BufTy := match i / 128 with
  | 0 => hbmTy0_0 i
  | 1 => hbmTy0_1 i
  | 2 => hbmTy0_2 i
  | _ => ⟨S1x192x224x224, .f32⟩

abbrev bufTy : (tb : Table) → Fin (tcTables nBuf tb) → BufTy
  | .hbm, ⟨i, _⟩ => hbmTy i
  | _, _ => ⟨S1x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_c_0 : Ref sig .tc := ⟨.hbm, 83, rfl⟩
abbrev main_call1_v0 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_cst : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_cst_1 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_cst_2 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_cst_3 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_values : Ref sig .tc := ⟨.hbm, 181, rfl⟩
abbrev main_indices : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_v161 : Ref sig .tc := ⟨.hbm, 188, rfl⟩
abbrev main_cst_4 : Ref sig .tc := ⟨.hbm, 189, rfl⟩
abbrev main_v162 : Ref sig .tc := ⟨.hbm, 190, rfl⟩
abbrev main_cst_5 : Ref sig .tc := ⟨.hbm, 191, rfl⟩
abbrev main_v163 : Ref sig .tc := ⟨.hbm, 192, rfl⟩
abbrev main_v164 : Ref sig .tc := ⟨.hbm, 193, rfl⟩
abbrev main_cst_6 : Ref sig .tc := ⟨.hbm, 194, rfl⟩
abbrev main_v165 : Ref sig .tc := ⟨.hbm, 195, rfl⟩
abbrev main_v166 : Ref sig .tc := ⟨.hbm, 196, rfl⟩
abbrev main_values_7 : Ref sig .tc := ⟨.hbm, 197, rfl⟩
abbrev main_indices_8 : Ref sig .tc := ⟨.hbm, 198, rfl⟩
abbrev main_call4_v0 : Ref sig .tc := ⟨.hbm, 199, rfl⟩
abbrev main_call4_v1 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_v167 : Ref sig .tc := ⟨.hbm, 204, rfl⟩
abbrev main_cst_9 : Ref sig .tc := ⟨.hbm, 205, rfl⟩
abbrev main_v168 : Ref sig .tc := ⟨.hbm, 206, rfl⟩
abbrev main_cst_10 : Ref sig .tc := ⟨.hbm, 207, rfl⟩
abbrev main_v169 : Ref sig .tc := ⟨.hbm, 208, rfl⟩
abbrev main_v170 : Ref sig .tc := ⟨.hbm, 209, rfl⟩
abbrev main_cst_11 : Ref sig .tc := ⟨.hbm, 210, rfl⟩
abbrev main_v171 : Ref sig .tc := ⟨.hbm, 211, rfl⟩
abbrev main_v172 : Ref sig .tc := ⟨.hbm, 212, rfl⟩
abbrev main_values_12 : Ref sig .tc := ⟨.hbm, 213, rfl⟩
abbrev main_indices_13 : Ref sig .tc := ⟨.hbm, 214, rfl⟩
abbrev main_call6_v0 : Ref sig .tc := ⟨.hbm, 215, rfl⟩
abbrev main_call6_v1 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_v173 : Ref sig .tc := ⟨.hbm, 220, rfl⟩
abbrev main_cst_14 : Ref sig .tc := ⟨.hbm, 221, rfl⟩
abbrev main_v174 : Ref sig .tc := ⟨.hbm, 222, rfl⟩
abbrev main_cst_15 : Ref sig .tc := ⟨.hbm, 223, rfl⟩
abbrev main_v175 : Ref sig .tc := ⟨.hbm, 224, rfl⟩
abbrev main_v176 : Ref sig .tc := ⟨.hbm, 225, rfl⟩
abbrev main_cst_16 : Ref sig .tc := ⟨.hbm, 226, rfl⟩
abbrev main_v177 : Ref sig .tc := ⟨.hbm, 227, rfl⟩
abbrev main_v178 : Ref sig .tc := ⟨.hbm, 228, rfl⟩
abbrev main_values_17 : Ref sig .tc := ⟨.hbm, 229, rfl⟩
abbrev main_indices_18 : Ref sig .tc := ⟨.hbm, 230, rfl⟩
abbrev main_call8_v0 : Ref sig .tc := ⟨.hbm, 231, rfl⟩
abbrev main_call8_v1 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_v179 : Ref sig .tc := ⟨.hbm, 236, rfl⟩
abbrev main_cst_19 : Ref sig .tc := ⟨.hbm, 237, rfl⟩
abbrev main_v180 : Ref sig .tc := ⟨.hbm, 238, rfl⟩
abbrev main_cst_20 : Ref sig .tc := ⟨.hbm, 239, rfl⟩
abbrev main_v181 : Ref sig .tc := ⟨.hbm, 240, rfl⟩
abbrev main_v182 : Ref sig .tc := ⟨.hbm, 241, rfl⟩
abbrev main_cst_21 : Ref sig .tc := ⟨.hbm, 242, rfl⟩
abbrev main_v183 : Ref sig .tc := ⟨.hbm, 243, rfl⟩
abbrev main_v184 : Ref sig .tc := ⟨.hbm, 244, rfl⟩
abbrev main_cst_22 : Ref sig .tc := ⟨.hbm, 245, rfl⟩
abbrev main_v185 : Ref sig .tc := ⟨.hbm, 246, rfl⟩
abbrev main_cst_23 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_cst_24 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_cst_25 : Ref sig .tc := ⟨.hbm, 259, rfl⟩
abbrev main_v196 : Ref sig .tc := ⟨.hbm, 260, rfl⟩
abbrev main_cst_26 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_cst_27 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_cst_28 : Ref sig .tc := ⟨.hbm, 273, rfl⟩
abbrev main_v207 : Ref sig .tc := ⟨.hbm, 274, rfl⟩
abbrev main_cst_29 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_cst_30 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_cst_31 : Ref sig .tc := ⟨.hbm, 287, rfl⟩
abbrev main_v218 : Ref sig .tc := ⟨.hbm, 288, rfl⟩
abbrev main_cst_32 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_cst_33 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩

abbrev nD : Nat := 1
abbrev τ : Topo := Topo.v7x

variable {F : FTy → Type} [FloatOps F]
-- ==== Proof.Spec.lean ====
/-
The mathematics both programs compute, over the extended reals and plain indices: the pointwise convolution, the
depthwise convolution with its zero border, the norms, the attention, the four masked softmaxes and their mixture.
-/
module

public import Idealize.ShloMosaic.PureOps.Ideal

@[expose] public section

noncomputable section

namespace Cert.Attn

open Idealize.ShloMosaic

/-- A row of pixels: an image of 224 rows and columns, row by row. -/
abbrev Row := Fin 50176 → EReal

/-- The pointwise convolution at output channel `o` and pixel `p`. -/
def conv {n : ℕ} (W : Fin n → Fin 192 → EReal) (X : Fin 192 → Row) (o : Fin n) : Row :=
  fun p => ∑ i : Fin 192, W o i * X i p

/-- A row of pixels at any number, zero past its end. -/
def px (y : Row) (q : ℕ) : EReal := if h : q < 50176 then y ⟨q, h⟩ else 0

/-- The neighbour of pixel `P` in window row `i` and column `j`, zero outside the image. -/
def tap (y : Row) (i j P : ℕ) : EReal :=
  if 1 ≤ P / 224 + i ∧ P / 224 + i ≤ 224 ∧ 1 ≤ P % 224 + j ∧ P % 224 + j ≤ 224 then px y (P + i * 224 + j - 225) else 0

/-- The depthwise convolution of one channel at pixel `P`. -/
def dw (w : Fin 9 → EReal) (y : Row) (P : ℕ) : EReal :=
  w 0 * tap y 0 0 P + w 1 * tap y 0 1 P + w 2 * tap y 0 2 P + w 3 * tap y 1 0 P + w 4 * tap y 1 1 P
    + w 5 * tap y 1 2 P + w 6 * tap y 2 0 P + w 7 * tap y 2 1 P + w 8 * tap y 2 2 P

/-- The sum of a channel's squares. -/
def sq (y : Row) : EReal := ∑ p : Fin 50176, y p * y p

/-- A channel's norm, at least the small constant `1e-12` in single precision. -/
def nrm (s : EReal) : EReal := max (Ideal.sqrt s) (FloatOps.ofBits (F := Ideal) .f32 0x2b8cbccc#32)

/-- The product of two channels, each divided by its norm. -/
def gram (a b : Row) : EReal := ∑ p : Fin 50176, Ideal.div (a p) (nrm (sq a)) * Ideal.div (b p) (nrm (sq b))

/-- How many entries come before entry `j` of a row when it is ordered from the largest down, equal entries by position. -/
def rank (x : Fin 24 → EReal) (j : Fin 24) : ℕ :=
  (Finset.univ.filter fun i : Fin 24 => x j < x i ∨ (x i = x j ∧ i < j)).card

/-- The row with all but its `k` first-ranked entries at minus infinity. -/
def masked (k : ℕ) (x : Fin 24 → EReal) : Fin 24 → EReal := fun j => if rank x j < k then x j else ⊥

/-- The softmax of a row. -/
def softmax (x : Fin 24 → EReal) : Fin 24 → EReal := fun j =>
  Ideal.div (Ideal.exp (x j - Finset.univ.sup x)) (∑ i : Fin 24, Ideal.exp (x i - Finset.univ.sup x))

end Cert.Attn

end
-- ==== Proof.Formula.lean ====
/-
The attention written out over plain indices: from the twelve arguments to the result at a channel and a pixel, as the kernel
orders it (the projection applied to the mixed attention first) and as the reference orders it.
-/
module

public import proofs.«01_k».proof.Proof.Spec

@[expose] public section

noncomputable section

namespace Cert.Attn

/-- The twelve arguments over plain indices; the four mixture weights are one family. -/
structure Inputs where
  xq : Fin 192 → Row
  xkv : Fin 192 → Row
  wq : Fin 192 → Fin 192 → EReal
  dq : Fin 192 → Fin 9 → EReal
  wkv : Fin 384 → Fin 192 → EReal
  dkv : Fin 384 → Fin 9 → EReal
  wp : Fin 192 → Fin 192 → EReal
  temp : Fin 8 → EReal
  a : Fin 4 → EReal

/-- Channel `r` of head `h`. -/
def ch (h : Fin 8) (r : Fin 24) : Fin 192 := ⟨24 * h.val + r.val, by omega⟩
/-- The key channel `r` of head `h`. -/
def kch (h : Fin 8) (r : Fin 24) : Fin 384 := ⟨24 * h.val + r.val, by omega⟩
/-- The value channel `r` of head `h`. -/
def vch (h : Fin 8) (r : Fin 24) : Fin 384 := ⟨192 + 24 * h.val + r.val, by omega⟩
/-- A channel's head. -/
def hd (d : Fin 192) : Fin 8 := ⟨d.val / 24, by omega⟩
/-- A channel's number in its head. -/
def lc (d : Fin 192) : Fin 24 := ⟨d.val % 24, by omega⟩

namespace Inputs

variable (I : Inputs)

/-- The query channel `o` after both convolutions. -/
def q (o : Fin 192) : Row := fun p => dw (I.dq o) (conv I.wq I.xq o) p.val
/-- The key or value channel `o` after both convolutions. -/
def kv (o : Fin 384) : Row := fun p => dw (I.dkv o) (conv I.wkv I.xkv o) p.val
/-- The attention of head `h`. -/
def attn (h : Fin 8) (i j : Fin 24) : EReal := gram (I.q (ch h i)) (I.kv (kch h j)) * I.temp h
/-- How many entries the `n`-th mask keeps. -/
def keep : Fin 4 → ℕ := ![12, 16, 18, 19]
/-- The `n`-th masked softmax of head `h`. -/
def soft (n : Fin 4) (h : Fin 8) (i j : Fin 24) : EReal := softmax (masked (keep n) (I.attn h i)) j
/-- The mixture of the four softmaxes. -/
def mix (h : Fin 8) (i j : Fin 24) : EReal :=
  I.a 0 * I.soft 0 h i j + I.a 1 * I.soft 1 h i j + I.a 2 * I.soft 2 h i j + I.a 3 * I.soft 3 h i j
/-- The projection applied to the mixture. -/
def weff (o d : Fin 192) : EReal := ∑ i : Fin 24, I.wp o (ch (hd d) i) * I.mix (hd d) i (lc d)
/-- The result as the kernel computes it. -/
def outK (o : Fin 192) (p : Fin 50176) : EReal := ∑ d : Fin 192, I.weff o d * I.kv (vch (hd d) (lc d)) p
/-- One softmax applied to the value channels. -/
def part (n : Fin 4) (d : Fin 192) (p : Fin 50176) : EReal := ∑ j : Fin 24, I.soft n (hd d) (lc d) j * I.kv (vch (hd d) j) p
/-- The result as the reference computes it. -/
def outR (o : Fin 192) (p : Fin 50176) : EReal :=
  ∑ d : Fin 192, I.wp o d * (I.part 0 d p * I.a 0 + I.part 1 d p * I.a 1 + I.part 2 d p * I.a 2 + I.part 3 d p * I.a 3)

end Inputs

end Cert.Attn

end
-- ==== Proof.Order.lean ====
/-
A row's largest entries: a stable sort from the largest down puts an entry among its first `k` positions exactly when fewer
than `k` entries come before it. And a maximum folded from minus infinity is the greatest entry.
-/
module

public import proofs.«01_k».proof.Proof.Spec
public import Idealize.ShloMosaic.Lib.SortPrefix

@[expose] public section

noncomputable section

namespace Cert.Attn

open Idealize.ShloMosaic

/-- The word of minus infinity. -/
theorem bot_word : Ideal.ofBits .f32 4286578688#32 = (⊥ : EReal) := by simp [Ideal.ofBits, Ideal.ieee]

/-- A maximum folded from minus infinity is the greatest entry. -/
theorem fold_max (f : Fin 24 → EReal) : Finset.fold max (Ideal.ofBits .f32 4286578688#32) f Finset.univ = Finset.univ.sup f := by
  rw [bot_word]; rfl

/-- Entry `i` comes before entry `j`: it is larger, or equal and earlier. -/
def ahead (x : Fin 24 → EReal) (i j : Fin 24) : Bool :=
  decide (x j < x i) || (decide (x i = x j) && decide (i < j))

/-- Coming before is a strict total order. -/
theorem ahead_total (x : Fin 24 → EReal) : StrictTotalBefore (ahead x) :=
  StrictTotalBefore.of_key_then_position (fun a b : EReal => decide (b < a)) x (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- On a list of rising positions a stable sort by size alone breaks ties by position. -/
theorem sort_by_size (x : Fin 24 → EReal) (l : List (Fin 24)) (hl : l.Pairwise (· < ·)) :
    stableSort (fun i j => decide (x j < x i)) l = stableSort (ahead x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [ahead, not_lt.2 hab.le]

/-- Two sorts with the same positions take each place from the same position. -/
theorem place_congr {n : ℕ} (R R' : Fin n → Fin n → Bool) (h : sortPositions n R = sortPositions n R') : sortedFrom R = sortedFrom R' := by
  funext k
  unfold sortedFrom
  rw [List.get_of_eq h]
  rfl

/-- So the position a stable sort by size takes each place from is the one under the strict total order. -/
theorem place_by_size (x : Fin 24 → EReal) :
    sortedFrom (fun i j : Fin 24 => decide (x j < x i)) = sortedFrom (ahead x) :=
  place_congr _ _ (sort_by_size x _ (List.pairwise_lt_finRange 24))

/-- Two places of the sorted row compare as their entries do. -/
theorem ahead_sorted (x : Fin 24 → EReal) (m n : Fin 24) :
    ahead x (sortedFrom (ahead x) m) (sortedFrom (ahead x) n) = true ↔ m < n := by
  have hB := ahead_total x
  have mono : ∀ a b : Fin 24, a < b → ahead x (sortedFrom (ahead x) a) (sortedFrom (ahead x) b) = true := by
    intro a b hab
    have h1 := sortedFrom_noInversion (ahead x) (ahead x) (fun a b h => hB.asymm a b h) (fun _ _ h => h) hB.negTrans a b hab
    rcases hB.total _ _ (fun e => absurd (sortedFrom_injective _ e) hab.ne) with h | h
    · exact h
    · rw [h1] at h; exact absurd h (by decide)
  constructor
  · intro h
    rcases lt_trichotomy m n with h' | h' | h'
    · exact h'
    · subst h'; rw [hB.irrefl] at h; exact absurd h (by decide)
    · have := hB.asymm _ _ (mono n m h'); rw [h] at this; exact absurd this (by decide)
  · exact mono m n

/-- The entry at place `n` of the sorted row has `n` entries before it. -/
theorem rank_sorted (x : Fin 24 → EReal) (n : Fin 24) : rank x (sortedFrom (ahead x) n) = n.val := by
  have hset : (Finset.univ.filter fun i : Fin 24 => x (sortedFrom (ahead x) n) < x i ∨ (x i = x (sortedFrom (ahead x) n) ∧ i < sortedFrom (ahead x) n))
      = (Finset.Iio n).map ⟨sortedFrom (ahead x), sortedFrom_injective _⟩ := by
    ext i
    obtain ⟨m, rfl⟩ := sortedFrom_surjective (ahead x) i
    have h := ahead_sorted x m n
    simp only [ahead, Bool.or_eq_true, Bool.and_eq_true, decide_eq_true_eq] at h
    simp only [Finset.mem_filter, Finset.mem_univ, true_and, Finset.mem_map, Finset.mem_Iio, Function.Embedding.coeFn_mk]
    constructor
    · intro hm; exact ⟨m, h.1 hm, rfl⟩
    · rintro ⟨m', hm', e⟩
      obtain rfl := sortedFrom_injective _ e
      exact h.2 hm'
  unfold rank
  rw [hset, Finset.card_map, Fin.card_Iio]

/-- An entry is at one of the first `k` places of the row sorted by size exactly when fewer than `k` come before it. -/
theorem among_first (x : Fin 24 → EReal) (k : ℕ) (hk : k ≤ 24) (j : Fin 24) :
    (∃ n : Fin k, sortedFrom (fun i j : Fin 24 => decide (x j < x i)) (n.castLE hk) = j) ↔ rank x j < k := by
  rw [place_by_size]
  constructor
  · rintro ⟨n, rfl⟩; rw [rank_sorted]; exact n.isLt
  · intro h
    obtain ⟨m, rfl⟩ := sortedFrom_surjective (ahead x) j
    rw [rank_sorted] at h
    exact ⟨⟨m.val, h⟩, rfl⟩

/-- A sum of ones and zeros is positive exactly when one of them is a one. -/
theorem count_pos {k : ℕ} (P : Fin k → Prop) [DecidablePred P] :
    0 < ∑ n : Fin k, (if P n then (1 : EReal) else 0) ↔ ∃ n, P n := by
  constructor
  · intro h
    by_contra hne
    push Not at hne
    rw [Finset.sum_eq_zero fun n _ => if_neg (hne n)] at h
    exact lt_irrefl _ h
  · rintro ⟨n, hn⟩
    have h1 : (if P n then (1 : EReal) else 0) ≤ ∑ n : Fin k, (if P n then (1 : EReal) else 0) :=
      Finset.single_le_sum (f := fun n => if P n then (1 : EReal) else 0)
        (fun i _ => by split_ifs <;> simp) (Finset.mem_univ n)
    rw [if_pos hn] at h1
    exact lt_of_lt_of_le (by simp) h1

end Cert.Attn

end
-- ==== Proof.Finite.lean ====
/-
Real numbers among the extended ones, and which stages of the attention are real for finite arguments; the normalised products are
for any.
-/
module

public import proofs.«01_k».proof.Proof.Formula
public import proofs.«01_k».proof.Proof.Order

@[expose] public section

noncomputable section

namespace Cert.Attn

open Idealize.ShloMosaic

/-- The number is real. -/
def IsReal (x : EReal) : Prop := ∃ r : ℝ, x = (r : EReal)

/-- A real number is the coercion of its real part. -/
theorem IsReal.eq {x : EReal} (h : IsReal x) : x = (x.toReal : EReal) := by
  obtain ⟨r, rfl⟩ := h; rfl

/-- Zero is real. -/
theorem real_zero : IsReal 0 := ⟨0, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, rfl⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The sum of real numbers, taken among the reals or among the extended ones. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A finite sum of reals is real. -/
theorem real_sum {ι : Type} (s : Finset ι) (f : ι → EReal) (hf : ∀ i, IsReal (f i)) : IsReal (∑ i ∈ s, f i) := by
  classical
  induction s using Finset.induction_on with
  | empty => exact real_zero
  | insert a s ha ih => rw [Finset.sum_insert ha]; exact (hf a).add ih

/-- The pointwise convolution of reals is real. -/
theorem real_conv {n : ℕ} (W : Fin n → Fin 192 → EReal) (X : Fin 192 → Row) (hW : ∀ o i, IsReal (W o i)) (hX : ∀ i p, IsReal (X i p)) (o : Fin n)
    (p : Fin 50176) : IsReal (conv W X o p) :=
  real_sum _ _ fun i => (hW o i).mul (hX i p)

/-- A neighbour of a real channel is real. -/
theorem real_tap (y : Row) (hy : ∀ p, IsReal (y p)) (i j P : ℕ) : IsReal (tap y i j P) := by
  unfold tap px
  split_ifs
  · exact hy _
  · exact real_zero
  · exact real_zero

/-- The depthwise convolution of reals is real. -/
theorem real_dw (w : Fin 9 → EReal) (y : Row) (hw : ∀ t, IsReal (w t)) (hy : ∀ p, IsReal (y p)) (P : ℕ) : IsReal (dw w y P) := by
  have ht := real_tap y hy
  exact ((((((((((hw 0).mul (ht _ _ _)).add ((hw 1).mul (ht _ _ _))).add ((hw 2).mul (ht _ _ _))).add ((hw 3).mul (ht _ _ _))).add
    ((hw 4).mul (ht _ _ _))).add ((hw 5).mul (ht _ _ _))).add ((hw 6).mul (ht _ _ _))).add ((hw 7).mul (ht _ _ _))).add ((hw 8).mul (ht _ _ _)))

/-- The small constant is a positive real. -/
theorem eps_pos : ∃ e : ℝ, 0 < e ∧ FloatOps.ofBits (F := Ideal) .f32 0x2b8cbccc#32 = (e : EReal) := by
  refine ⟨(9223372 : ℝ) / 2 ^ 63, by positivity, ?_⟩
  show Ideal.ofBits .f32 0x2b8cbccc#32 = _
  simp [Ideal.ofBits, Ideal.ieee]
  rw [← EReal.coe_mul, div_eq_mul_inv]

/-- The norm of a real sum of squares is a positive real. -/
theorem nrm_pos (s : EReal) (hs : IsReal s) (h0 : 0 ≤ s) : ∃ r : ℝ, 0 < r ∧ nrm s = (r : EReal) := by
  obtain ⟨e, he, hew⟩ := eps_pos
  obtain ⟨a, rfl⟩ := hs
  have ha : ¬ a < 0 := not_lt.2 (by exact_mod_cast h0)
  refine ⟨max (Real.sqrt a) e, lt_max_of_lt_right he, ?_⟩
  unfold nrm
  rw [hew, Ideal.sqrt_coe, if_neg ha]
  exact (EReal.coe_strictMono.monotone.map_max).symm

/-- A real divided by a positive real is real. -/
theorem real_div {x y : EReal} (hx : IsReal x) (hy : ∃ r : ℝ, 0 < r ∧ y = (r : EReal)) : IsReal (Ideal.div x y) := by
  obtain ⟨r, hr, rfl⟩ := hy
  rw [Ideal.div_coe hr.ne']
  exact hx.mul ⟨_, rfl⟩

/-- A square is not negative. -/
theorem square_nonneg (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

/-- A number whose square is finite is real. -/
theorem real_of_square {x : EReal} (h : x * x ≠ ⊤) : IsReal x := by
  induction x using EReal.rec with
  | bot => exact absurd EReal.bot_mul_bot h
  | top => exact absurd EReal.top_mul_top h
  | coe r => exact ⟨r, rfl⟩

/-- A channel divided by its norm is real, whatever the channel: where the norm is infinite the quotient is zero, and elsewhere the
channel is real. -/
theorem real_ratio (y : Row) (p : Fin 50176) : IsReal (Ideal.div (y p) (nrm (sq y))) := by
  have h0 : 0 ≤ sq y := Finset.sum_nonneg fun p _ => square_nonneg (y p)
  by_cases ht : sq y = ⊤
  · have hn : nrm (sq y) = ⊤ := by
      unfold nrm
      rw [ht, Ideal.sqrt_top]
      exact max_eq_left le_top
    rw [hn]
    unfold Ideal.div
    rw [if_neg EReal.top_ne_zero, EReal.inv_top, mul_zero]
    exact real_zero
  · have hb : sq y ≠ ⊥ := fun h => absurd (h ▸ h0) (by simp)
    have hs : IsReal (sq y) := ⟨(sq y).toReal, (EReal.coe_toReal ht hb).symm⟩
    have hle : y p * y p ≤ sq y := Finset.single_le_sum (f := fun p => y p * y p) (fun p _ => square_nonneg (y p)) (Finset.mem_univ p)
    exact real_div (real_of_square fun h => ht (top_le_iff.1 (h ▸ hle))) (nrm_pos _ hs h0)

/-- The normalised product of two channels is real. -/
theorem real_gram (a b : Row) : IsReal (gram a b) := real_sum _ _ fun p => (real_ratio a p).mul (real_ratio b p)

/-- The greatest entry of a masked row of reals is real. -/
theorem real_top (k : ℕ) (hk : 0 < k) (x : Fin 24 → EReal) (hx : ∀ j, IsReal (x j)) : IsReal (Finset.univ.sup (masked k x)) := by
  have h0 : masked k x (sortedFrom (ahead x) 0) = x (sortedFrom (ahead x) 0) := by
    unfold masked
    rw [rank_sorted]
    exact if_pos hk
  obtain ⟨j, -, hj⟩ := Finset.exists_mem_eq_sup Finset.univ ⟨0, Finset.mem_univ _⟩ (masked k x)
  rw [hj]
  have hle : x (sortedFrom (ahead x) 0) ≤ masked k x j := by
    rw [← hj, ← h0]; exact Finset.le_sup (Finset.mem_univ _)
  unfold masked at hle ⊢
  split_ifs at hle ⊢ with h
  · exact hx j
  · obtain ⟨r, hr⟩ := hx (sortedFrom (ahead x) 0)
    rw [hr] at hle
    exact absurd (le_bot_iff.1 hle) (EReal.coe_ne_bot r)

/-- An entry's exponential in the softmax of a masked row is a real that is not negative. -/
theorem exp_entry (k : ℕ) (x : Fin 24 → EReal) (hx : ∀ j, IsReal (x j)) (t : ℝ) (j : Fin 24) :
    ∃ r : ℝ, 0 ≤ r ∧ Ideal.exp (masked k x j - (t : EReal)) = (r : EReal) := by
  unfold masked
  split_ifs
  · obtain ⟨a, ha⟩ := hx j
    rw [ha, ← EReal.coe_sub]
    exact ⟨_, (Real.exp_pos _).le, Ideal.exp_coe _⟩
  · rw [EReal.bot_sub]
    exact ⟨0, le_rfl, rfl⟩

/-- The softmax of a masked row of reals is real. -/
theorem real_softmax (k : ℕ) (hk : 0 < k) (x : Fin 24 → EReal) (hx : ∀ j, IsReal (x j)) (j : Fin 24) : IsReal (softmax (masked k x) j) := by
  obtain ⟨t, ht⟩ := real_top k hk x hx
  unfold softmax
  rw [ht]
  have he := exp_entry k x hx t
  choose r hr0 hr using he
  refine real_div ⟨r j, hr j⟩ ⟨∑ i, r i, ?_, ?_⟩
  · have h0 : 0 < r (sortedFrom (ahead x) 0) := by
      have h1 := hr (sortedFrom (ahead x) 0)
      unfold masked at h1
      rw [rank_sorted, if_pos (show ((0 : Fin 24).val < k) from hk)] at h1
      obtain ⟨a, ha⟩ := hx (sortedFrom (ahead x) 0)
      rw [ha, ← EReal.coe_sub, Ideal.exp_coe] at h1
      have h2 : Real.exp (a - t) = r (sortedFrom (ahead x) 0) := by exact_mod_cast h1
      rw [← h2]; exact Real.exp_pos _
    exact lt_of_lt_of_le h0 (Finset.single_le_sum (fun i _ => hr0 i) (Finset.mem_univ _))
  · rw [Finset.sum_congr rfl fun i _ => hr i]
    exact (coe_sum Finset.univ r).symm

end Cert.Attn

end
-- ==== Proof.Precondition.lean ====
/-
What the precondition says: every entry of every argument but the query's is a real number.
-/
module

public import proofs.«01_k».proof.Proof.Finite
public import proofs.«01_k».proof.Pre_finite
public import Idealize.ShloMosaic.Lib.ReduceAll
public import Idealize.ShloMosaic.Lib.Pointwise
public import Idealize.ShloMosaic.Lib.Affine

@[expose] public section

noncomputable section

namespace Cert.Pre_finite.Read

open Cert.Pre_finite Cert.Attn
open Idealize.ShloMosaic

/-- The shape relations the precondition's operations take. -/
instance facts : Facts where
  bcast_S_S1x192x224x224 := by decide
  reducesTo_S1x192x224x224_S_d0_1_2_3 := by decide
  h_S_ := by decide
  bcast_S_S192x192x1x1 := by decide
  reducesTo_S192x192x1x1_S_d0_1_2_3 := by decide
  bcast_S_S384x192x1x1 := by decide
  reducesTo_S384x192x1x1_S_d0_1_2_3 := by decide
  bcast_S_S384x1x3x3 := by decide
  reducesTo_S384x1x3x3_S_d0_1_2_3 := by decide
  bcast_S_S8x1x1 := by decide
  reducesTo_S8x1x1_S_d0_1_2 := by decide
  bcast_S_S1 := by decide
  reducesTo_S1_S_d0 := by decide

/-- The word of plus infinity. -/
theorem top_word : Ideal.ofBits .f32 0x7F800000#32 = (⊤ : EReal) := by simp [Ideal.ofBits, Ideal.ieee]

/-- A number whose absolute value is below plus infinity is real. -/
theorem real_of_abs (x : EReal) (h : max x (-x) < ⊤) : IsReal x := by
  induction x using EReal.rec with
  | bot => exact absurd h (by simp)
  | top => exact absurd h (by simp)
  | coe r => exact ⟨r, rfl⟩

/-- One array's test: that all its entries' absolute values are below plus infinity makes them real. -/
theorem real_of_test {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : IsReal (x i) := by
  have h1 := Host.reduce_andi_all _ _ _ _ j e i
  refine real_of_abs _ ?_
  have h2 : BitVec.ofBool (decide (max (x i) (-(x i)) < Ideal.ofBits .f32 0x7F800000#32)) = 1#1 := h1
  rw [top_word] at h2
  by_contra hn
  rw [decide_eq_false hn] at h2
  exact absurd h2 (by decide)

/-- Two tests both pass when their conjunction does. -/
theorem both {x y : IVec S_ 1} {j : S_.Idx} (h : andi x y j = 1#1) : x j = 1#1 ∧ y j = 1#1 := IntOp.andi_eq_one.1 h

/-- The precondition makes every entry of nine arguments real. -/
theorem all_real [Facts] (x0 x1 : FVec Ideal S1x192x224x224 .f32) (x2 : FVec Ideal S192x192x1x1 .f32) (x3 : FVec Ideal S192x1x3x3 .f32)
    (x4 : FVec Ideal S384x192x1x1 .f32) (x5 : FVec Ideal S384x1x3x3 .f32) (x6 : FVec Ideal S192x192x1x1 .f32) (x7 : FVec Ideal S8x1x1 .f32)
    (x8 x9 x10 x11 : FVec Ideal S1 .f32) (h : fn (F := Ideal) x0 x1 x2 x3 x4 x5 x6 x7 x8 x9 x10 x11 = fun _ => 1#1) :
    (∀ i, IsReal (x1 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) := by
  have h0 := congrFun h (fun a => a.elim0)
  unfold fn fn_part1 fn_part2 at h0
  obtain ⟨h0, h11⟩ := both h0
  obtain ⟨h0, h10⟩ := both h0
  obtain ⟨h0, h9⟩ := both h0
  obtain ⟨h0, h8⟩ := both h0
  obtain ⟨h0, h7⟩ := both h0
  obtain ⟨h0, h6⟩ := both h0
  obtain ⟨h0, h5⟩ := both h0
  obtain ⟨h1, h4⟩ := both h0
  exact ⟨real_of_test x1 _ _ _ _ h1, real_of_test x4 _ _ _ _ h4,
    real_of_test x5 _ _ _ _ h5, real_of_test x6 _ _ _ _ h6, real_of_test x7 _ _ _ _ h7, real_of_test x8 _ _ _ _ h8, real_of_test x9 _ _ _ _ h9,
    real_of_test x10 _ _ _ _ h10, real_of_test x11 _ _ _ _ h11⟩

end Cert.Pre_finite.Read

end
-- ==== Proof.Exchange.lean ====
/-
For finite arguments the two orders of the last two products agree: the projection applied to the mixed attention first and
then to the value channels, or the four attentions applied to the value channels first, summed, and then projected.
-/
module

public import proofs.«01_k».proof.Proof.Finite

@[expose] public section

noncomputable section

namespace Cert.Attn

open Idealize.ShloMosaic

/-- A channel is a head and a number in the head. -/
def chEquiv : Fin 8 × Fin 24 ≃ Fin 192 where
  toFun x := ch x.1 x.2
  invFun d := (hd d, lc d)
  left_inv x := by
    obtain ⟨h, r⟩ := x
    refine Prod.ext (Fin.ext ?_) (Fin.ext ?_)
    · show (24 * h.val + r.val) / 24 = h.val; omega
    · show (24 * h.val + r.val) % 24 = r.val; omega
  right_inv d := Fin.ext (by show 24 * (d.val / 24) + d.val % 24 = d.val; omega)

/-- The head of a head's channel. -/
theorem hd_ch (h : Fin 8) (r : Fin 24) : hd (ch h r) = h := congrArg Prod.fst (chEquiv.left_inv (h, r))
/-- The number of a head's channel. -/
theorem lc_ch (h : Fin 8) (r : Fin 24) : lc (ch h r) = r := congrArg Prod.snd (chEquiv.left_inv (h, r))

/-- A sum over the channels by head. -/
theorem sum_channels (f : Fin 192 → EReal) : ∑ d, f d = ∑ h : Fin 8, ∑ r : Fin 24, f (ch h r) := by
  rw [← chEquiv.sum_comp f, Fintype.sum_prod_type]
  rfl

/-- The exchange in one head, among the reals: `S n i j` the four attentions, `W i` the projection's row, `V j` the values. -/
theorem exchange_real (W V : Fin 24 → ℝ) (S : Fin 4 → Fin 24 → Fin 24 → ℝ) (A : Fin 4 → ℝ) :
    ∑ j, (∑ i, W i * (A 0 * S 0 i j + A 1 * S 1 i j + A 2 * S 2 i j + A 3 * S 3 i j)) * V j
      = ∑ i, W i * ((∑ j, S 0 i j * V j) * A 0 + (∑ j, S 1 i j * V j) * A 1 + (∑ j, S 2 i j * V j) * A 2 + (∑ j, S 3 i j * V j) * A 3) := by
  simp only [Finset.sum_mul]
  rw [Finset.sum_comm]
  refine Finset.sum_congr rfl fun i _ => ?_
  rw [← Finset.sum_add_distrib, ← Finset.sum_add_distrib, ← Finset.sum_add_distrib, Finset.mul_sum]
  exact Finset.sum_congr rfl fun j _ => by ring

/-- The exchange in one head, among real extended numbers. -/
theorem exchange (W V : Fin 24 → EReal) (S : Fin 4 → Fin 24 → Fin 24 → EReal) (A : Fin 4 → EReal) (hW : ∀ i, IsReal (W i)) (hV : ∀ j, IsReal (V j))
    (hS : ∀ n i j, IsReal (S n i j)) (hA : ∀ n, IsReal (A n)) :
    ∑ j, (∑ i, W i * (A 0 * S 0 i j + A 1 * S 1 i j + A 2 * S 2 i j + A 3 * S 3 i j)) * V j
      = ∑ i, W i * ((∑ j, S 0 i j * V j) * A 0 + (∑ j, S 1 i j * V j) * A 1 + (∑ j, S 2 i j * V j) * A 2 + (∑ j, S 3 i j * V j) * A 3) := by
  choose w hw using hW
  choose v hv using hV
  choose s hs using hS
  choose a ha using hA
  simp only [hw, hv, hs, ha, ← EReal.coe_mul, ← EReal.coe_add, ← coe_sum]
  exact congrArg _ (exchange_real w v s a)

namespace Inputs

variable (I : Inputs)

/-- Every argument is real but for those of the query, which may be anything. -/
structure Finite : Prop where
  xkv : ∀ i p, IsReal (I.xkv i p)
  wkv : ∀ o i, IsReal (I.wkv o i)
  dkv : ∀ o t, IsReal (I.dkv o t)
  wp : ∀ o i, IsReal (I.wp o i)
  temp : ∀ h, IsReal (I.temp h)
  a : ∀ n, IsReal (I.a n)

variable {I}

/-- The keys and values are real. -/
theorem Finite.kv (hI : I.Finite) (o : Fin 384) (p : Fin 50176) : IsReal (I.kv o p) :=
  real_dw _ _ (hI.dkv o) (real_conv _ _ hI.wkv hI.xkv o) _

/-- The attention is real. -/
theorem Finite.attn (hI : I.Finite) (h : Fin 8) (i j : Fin 24) : IsReal (I.attn h i j) :=
  (real_gram _ _).mul (hI.temp h)

/-- The softmaxes are real. -/
theorem Finite.soft (hI : I.Finite) (n : Fin 4) (h : Fin 8) (i j : Fin 24) : IsReal (I.soft n h i j) :=
  real_softmax _ (by revert n; decide) _ (hI.attn h i) j

/-- For finite arguments the kernel's order of the last products gives the reference's result. -/
theorem outK_eq_outR (hI : I.Finite) (o : Fin 192) (p : Fin 50176) : I.outK o p = I.outR o p := by
  unfold Inputs.outK Inputs.outR
  rw [sum_channels, sum_channels]
  refine Finset.sum_congr rfl fun h _ => ?_
  simp only [weff, part, hd_ch, lc_ch]
  exact exchange (fun i => I.wp o (ch h i)) (fun j => I.kv (vch h j) p) (fun n i j => I.soft n h i j) I.a (fun i => hI.wp o _) (fun j => hI.kv _ p)
    (fun n i j => hI.soft n h i j) hI.a

end Inputs

end Cert.Attn

end
-- ==== Proof.KernelIdeal.Call3.lean ====
/-
The fourth kernel call of `KernelIdeal`: its run at the first point (which builds the effective projection in the scratch
buffer) and at the later points (which read it), the proof data and the body obligation. Between points the scratch buffer
holds what the first point stored there.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point. -/
theorem before3_0_of {c : Dev nD} (dat : Dat τ (Elt F) Ix ℕ U Lvl cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before3_1_of {c : Dev nD} (dat : Dat τ (Elt F) Ix ℕ U Lvl cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before3_2_of {c : Dev nD} (dat : Dat τ (Elt F) Ix ℕ U Lvl cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before3_3_of {c : Dev nD} (dat : Dat τ (Elt F) Ix ℕ U Lvl cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before3_4_of {c : Dev nD} (dat : Dat τ (Elt F) Ix ℕ U Lvl cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's condition -/

/-- The condition of the body's conditional, from the grid coordinate. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 14 = 0 :=
  (fun t => by
    have ht : t.val < 14 := Nat.lt_of_lt_of_eq t.isLt N_3
    have e0 : (grid3.coords t 0).val = t.val / 1 % 14 := Pipeline.Grid.coords_val t 0 (by decide) rfl
    simp only [cond3_0, e0]
    word_cmp
   : ∀ t : Fin grid3.N, cond3_0 (grid3.coords t) ↔ t.val % 14 = 0)

/-! ## The body's two runs -/

/-- One staging buffer of the output window, through which its contents are stated. -/
abbrev VO3_5 : View sig .tc .vmem S192x3584 .f32 := (Memref.whole cc3_stg5_0 : Memref sig .tc .vmem S192x3584 .f32).view
/-- Each window's current staging memref at point `t`, and that it is whole. -/
abbrev ms3_0 (t : Fin cfg3.N) : Memref sig .tc .vmem S8x32x24 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x24 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8x4 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S192x192 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S192x3584 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S192x3584 .f32 := win3_5.stage (cfg3.slots t 5)
abbrev hs3_5 (t : Fin cfg3.N) : (ms3_5 t).IsWhole := hstage3_5 ((cfg3.slots t 5).cast nbuf3_5)
/-- The scratch buffer. -/
abbrev scM3 : Memref sig .tc .vmem S192x192 .f32 := Memref.whole cc3_scratch0
abbrev VS3_0 : View sig .tc .vmem S192x192 .f32 := scM3.view

set_option maxHeartbeats 1000000 in
/-- The first point: what the body stores into the output block and into the scratch buffer, with the proof that it
    runs and leaves the inputs as they were. -/
noncomputable def kernelRun3_A (c : Dev nD) (i : grid3.Coords) (arg1 : Memref sig .tc .vmem S8x32x24 .f32) (harg1 : arg1.IsWhole) (arg2 : Memref sig .tc .vmem S8x24 .f32) (harg2 : arg2.IsWhole) (arg3 : Memref sig .tc .vmem S8x4 .f32) (harg3 : arg3.IsWhole) (arg4 : Memref sig .tc .vmem S192x192 .f32) (harg4 : arg4.IsWhole) (arg5 : Memref sig .tc .vmem S192x3584 .bf16) (harg5 : arg5.IsWhole) (arg6 : Memref sig .tc .vmem S192x3584 .f32) (harg6 : arg6.IsWhole) (arg7 : Memref sig .tc .vmem S192x192 .f32) (harg7 : arg7.IsWhole) (hc0 : cond3_0 i)
    (x0 : Vec F S8x32x24 .f32) (x1 : Vec F S8x24 .f32) (x2 : Vec F S8x4 .f32) (x3 : Vec F S192x192 .f32) (x4 : Vec F S192x3584 .bf16) :
    Σ' (L5 : List (View.Piece (Elt F) S192x3584 .f32)), { LS0 : List (View.Piece (Elt F) S192x192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) 𝒱₀ c none) E (cc3__maskout_kernel i arg1 harg1 arg2 harg2 arg3 harg3 arg4 harg4 arg5 harg5 arg6 harg6 arg7 harg7) K } := by
  refine ⟨?_, ?_, fun E K => ?run⟩
  case run =>
    simp only [cc3__maskout_kernel_eq_skeleton]; unfold cc3__maskout_kernel_skel
    simp only [k3_part1_eq_skeleton, k3_part2_eq_skeleton, k3_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 1000000 in
/-- A later point: what the body stores into the output block, the scratch buffer at `xs0` throughout. -/
noncomputable def kernelRun3_B (c : Dev nD) (i : grid3.Coords) (arg1 : Memref sig .tc .vmem S8x32x24 .f32) (harg1 : arg1.IsWhole) (arg2 : Memref sig .tc .vmem S8x24 .f32) (harg2 : arg2.IsWhole) (arg3 : Memref sig .tc .vmem S8x4 .f32) (harg3 : arg3.IsWhole) (arg4 : Memref sig .tc .vmem S192x192 .f32) (harg4 : arg4.IsWhole) (arg5 : Memref sig .tc .vmem S192x3584 .bf16) (harg5 : arg5.IsWhole) (arg6 : Memref sig .tc .vmem S192x3584 .f32) (harg6 : arg6.IsWhole) (arg7 : Memref sig .tc .vmem S192x192 .f32) (harg7 : arg7.IsWhole) (hc0 : ¬cond3_0 i)
    (x0 : Vec F S8x32x24 .f32) (x1 : Vec F S8x24 .f32) (x2 : Vec F S8x4 .f32) (x3 : Vec F S192x192 .f32) (x4 : Vec F S192x3584 .bf16) (xs0 : Vec F S192x192 .f32) :
    Σ' (L5 : List (View.Piece (Elt F) S192x3584 .f32)), { LS0 : List (View.Piece (Elt F) S192x192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) 𝒱₀ c none) E (cc3__maskout_kernel i arg1 harg1 arg2 harg2 arg3 harg3 arg4 harg4 arg5 harg5 arg6 harg6 arg7 harg7) K } := by
  refine ⟨?_, [], fun E K => ?run⟩
  case run =>
    simp only [cc3__maskout_kernel_eq_skeleton]; unfold cc3__maskout_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

/-- The first point's stores cover the output block. -/
theorem cover3_A_5 (c : Dev nD) (i : grid3.Coords) (arg1 : Memref sig .tc .vmem S8x32x24 .f32) (harg1 : arg1.IsWhole) (arg2 : Memref sig .tc .vmem S8x24 .f32) (harg2 : arg2.IsWhole) (arg3 : Memref sig .tc .vmem S8x4 .f32) (harg3 : arg3.IsWhole) (arg4 : Memref sig .tc .vmem S192x192 .f32) (harg4 : arg4.IsWhole) (arg5 : Memref sig .tc .vmem S192x3584 .bf16) (harg5 : arg5.IsWhole) (arg6 : Memref sig .tc .vmem S192x3584 .f32) (harg6 : arg6.IsWhole) (arg7 : Memref sig .tc .vmem S192x192 .f32) (harg7 : arg7.IsWhole) (hc0 : cond3_0 i)
    (x0 : Vec F S8x32x24 .f32) (x1 : Vec F S8x24 .f32) (x2 : Vec F S8x4 .f32) (x3 : Vec F S192x192 .f32) (x4 : Vec F S192x3584 .bf16) (y : S192x3584.Idx) :
    ∃ pc ∈ (kernelRun3_A (Ix := Ix) (U := U) (Lvl := Lvl) 𝒱₀ c i arg1 harg1 arg2 harg2 arg3 harg3 arg4 harg4 arg5 harg5 arg6 harg6 arg7 harg7 hc0 x0 x1 x2 x3 x4).1, y ∈ pc.1.set :=
  View.cover_of_tiledL (kernelRun3_A (Ix := Ix) (U := U) (Lvl := Lvl) 𝒱₀ c i arg1 harg1 arg2 harg2 arg3 harg3 arg4 harg4 arg5 harg5 arg6 harg6 arg7 harg7 hc0 x0 x1 x2 x3 x4).1 S192x3584.size (by sl_kernel_rfl) y

/-- What the first point leaves in the output block. -/
def out3_A_5 (c : Dev nD) (i : grid3.Coords) (arg1 : Memref sig .tc .vmem S8x32x24 .f32) (harg1 : arg1.IsWhole) (arg2 : Memref sig .tc .vmem S8x24 .f32) (harg2 : arg2.IsWhole) (arg3 : Memref sig .tc .vmem S8x4 .f32) (harg3 : arg3.IsWhole) (arg4 : Memref sig .tc .vmem S192x192 .f32) (harg4 : arg4.IsWhole) (arg5 : Memref sig .tc .vmem S192x3584 .bf16) (harg5 : arg5.IsWhole) (arg6 : Memref sig .tc .vmem S192x3584 .f32) (harg6 : arg6.IsWhole) (arg7 : Memref sig .tc .vmem S192x192 .f32) (harg7 : arg7.IsWhole) (hc0 : cond3_0 i)
    (x0 : Vec F S8x32x24 .f32) (x1 : Vec F S8x24 .f32) (x2 : Vec F S8x4 .f32) (x3 : Vec F S192x192 .f32) (x4 : Vec F S192x3584 .bf16) : Vec F S192x3584 .f32 :=
  VO3_5.read (Elt F) (VO3_5.writes (Elt F) VO3_5.junk (kernelRun3_A (Ix := Ix) (U := U) (Lvl := Lvl) 𝒱₀ c i arg1 harg1 arg2 harg2 arg3 harg3 arg4 harg4 arg5 harg5 arg6 harg6 arg7 harg7 hc0 x0 x1 x2 x3 x4).1)

/-- The first point's stores cover the scratch buffer. -/
theorem scover3_A_0 (c : Dev nD) (i : grid3.Coords) (arg1 : Memref sig .tc .vmem S8x32x24 .f32) (harg1 : arg1.IsWhole) (arg2 : Memref sig .tc .vmem S8x24 .f32) (harg2 : arg2.IsWhole) (arg3 : Memref sig .tc .vmem S8x4 .f32) (harg3 : arg3.IsWhole) (arg4 : Memref sig .tc .vmem S192x192 .f32) (harg4 : arg4.IsWhole) (arg5 : Memref sig .tc .vmem S192x3584 .bf16) (harg5 : arg5.IsWhole) (arg6 : Memref sig .tc .vmem S192x3584 .f32) (harg6 : arg6.IsWhole) (arg7 : Memref sig .tc .vmem S192x192 .f32) (harg7 : arg7.IsWhole) (hc0 : cond3_0 i)
    (x0 : Vec F S8x32x24 .f32) (x1 : Vec F S8x24 .f32) (x2 : Vec F S8x4 .f32) (x3 : Vec F S192x192 .f32) (x4 : Vec F S192x3584 .bf16) (y : S192x192.Idx) :
    ∃ pc ∈ (kernelRun3_A (Ix := Ix) (U := U) (Lvl := Lvl) 𝒱₀ c i arg1 harg1 arg2 harg2 arg3 harg3 arg4 harg4 arg5 harg5 arg6 harg6 arg7 harg7 hc0 x0 x1 x2 x3 x4).2.1, y ∈ pc.1.set :=
  View.cover_of_tiledL (kernelRun3_A (Ix := Ix) (U := U) (Lvl := Lvl) 𝒱₀ c i arg1 harg1 arg2 harg2 arg3 harg3 arg4 harg4 arg5 harg5 arg6 harg6 arg7 harg7 hc0 x0 x1 x2 x3 x4).2.1 S192x192.size (by sl_kernel_rfl) y

/-- What the first point leaves in the scratch buffer. -/
def sout3_A_0 (c : Dev nD) (i : grid3.Coords) (arg1 : Memref sig .tc .vmem S8x32x24 .f32) (harg1 : arg1.IsWhole) (arg2 : Memref sig .tc .vmem S8x24 .f32) (harg2 : arg2.IsWhole) (arg3 : Memref sig .tc .vmem S8x4 .f32) (harg3 : arg3.IsWhole) (arg4 : Memref sig .tc .vmem S192x192 .f32) (harg4 : arg4.IsWhole) (arg5 : Memref sig .tc .vmem S192x3584 .bf16) (harg5 : arg5.IsWhole) (arg6 : Memref sig .tc .vmem S192x3584 .f32) (harg6 : arg6.IsWhole) (arg7 : Memref sig .tc .vmem S192x192 .f32) (harg7 : arg7.IsWhole) (hc0 : cond3_0 i)
    (x0 : Vec F S8x32x24 .f32) (x1 : Vec F S8x24 .f32) (x2 : Vec F S8x4 .f32) (x3 : Vec F S192x192 .f32) (x4 : Vec F S192x3584 .bf16) : Vec F S192x192 .f32 :=
  VS3_0.read (Elt F) (VS3_0.writes (Elt F) VS3_0.junk (kernelRun3_A (Ix := Ix) (U := U) (Lvl := Lvl) 𝒱₀ c i arg1 harg1 arg2 harg2 arg3 harg3 arg4 harg4 arg5 harg5 arg6 harg6 arg7 harg7 hc0 x0 x1 x2 x3 x4).2.1)

/-- A later point's stores cover the output block. -/
theorem cover3_B_5 (c : Dev nD) (i : grid3.Coords) (arg1 : Memref sig .tc .vmem S8x32x24 .f32) (harg1 : arg1.IsWhole) (arg2 : Memref sig .tc .vmem S8x24 .f32) (harg2 : arg2.IsWhole) (arg3 : Memref sig .tc .vmem S8x4 .f32) (harg3 : arg3.IsWhole) (arg4 : Memref sig .tc .vmem S192x192 .f32) (harg4 : arg4.IsWhole) (arg5 : Memref sig .tc .vmem S192x3584 .bf16) (harg5 : arg5.IsWhole) (arg6 : Memref sig .tc .vmem S192x3584 .f32) (harg6 : arg6.IsWhole) (arg7 : Memref sig .tc .vmem S192x192 .f32) (harg7 : arg7.IsWhole) (hc0 : ¬cond3_0 i)
    (x0 : Vec F S8x32x24 .f32) (x1 : Vec F S8x24 .f32) (x2 : Vec F S8x4 .f32) (x3 : Vec F S192x192 .f32) (x4 : Vec F S192x3584 .bf16) (xs0 : Vec F S192x192 .f32) (y : S192x3584.Idx) :
    ∃ pc ∈ (kernelRun3_B (Ix := Ix) (U := U) (Lvl := Lvl) 𝒱₀ c i arg1 harg1 arg2 harg2 arg3 harg3 arg4 harg4 arg5 harg5 arg6 harg6 arg7 harg7 hc0 x0 x1 x2 x3 x4 xs0).1, y ∈ pc.1.set :=
  View.cover_of_tiledL (kernelRun3_B (Ix := Ix) (U := U) (Lvl := Lvl) 𝒱₀ c i arg1 harg1 arg2 harg2 arg3 harg3 arg4 harg4 arg5 harg5 arg6 harg6 arg7 harg7 hc0 x0 x1 x2 x3 x4 xs0).1 S192x3584.size (by sl_kernel_rfl) y

/-- What a later point leaves in the output block. -/
def out3_B_5 (c : Dev nD) (i : grid3.Coords) (arg1 : Memref sig .tc .vmem S8x32x24 .f32) (harg1 : arg1.IsWhole) (arg2 : Memref sig .tc .vmem S8x24 .f32) (harg2 : arg2.IsWhole) (arg3 : Memref sig .tc .vmem S8x4 .f32) (harg3 : arg3.IsWhole) (arg4 : Memref sig .tc .vmem S192x192 .f32) (harg4 : arg4.IsWhole) (arg5 : Memref sig .tc .vmem S192x3584 .bf16) (harg5 : arg5.IsWhole) (arg6 : Memref sig .tc .vmem S192x3584 .f32) (harg6 : arg6.IsWhole) (arg7 : Memref sig .tc .vmem S192x192 .f32) (harg7 : arg7.IsWhole) (hc0 : ¬cond3_0 i)
    (x0 : Vec F S8x32x24 .f32) (x1 : Vec F S8x24 .f32) (x2 : Vec F S8x4 .f32) (x3 : Vec F S192x192 .f32) (x4 : Vec F S192x3584 .bf16) (xs0 : Vec F S192x192 .f32) : Vec F S192x3584 .f32 :=
  VO3_5.read (Elt F) (VO3_5.writes (Elt F) VO3_5.junk (kernelRun3_B (Ix := Ix) (U := U) (Lvl := Lvl) 𝒱₀ c i arg1 harg1 arg2 harg2 arg3 harg3 arg4 harg4 arg5 harg5 arg6 harg6 arg7 harg7 hc0 x0 x1 x2 x3 x4 xs0).1)

/-! ## What the output block and the scratch buffer hold after each point -/

/-- What the first point leaves in the scratch buffer, on the region's own buffers and blocks. -/
def weff (c : Dev nD) : Vec F S192x192 .f32 :=
  let t : Fin cfg3.N := t3_0
  sout3_A_0 (Ix := Ix) (U := U) (Lvl := Lvl) 𝒱₀ c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr (Nat.zero_mod _)) (iblk V c 0 t) (iblk V c 1 t) (iblk V c 2 t) (iblk V c 3 t) (iblk V c 4 t)

theorem weff_at (c : Dev nD) (t : Fin cfg3.N) (h0 : t.val % 14 = 0) :
    weff (Ix := Ix) (U := U) (Lvl := Lvl) 𝒱₀ V c = sout3_A_0 (Ix := Ix) (U := U) (Lvl := Lvl) 𝒱₀ c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (iblk V c 0 t) (iblk V c 1 t) (iblk V c 2 t) (iblk V c 3 t) (iblk V c 4 t) := by
  have hN : t.val < 14 := lt_of_lt_of_eq t.isLt (show cfg3.N = 14 from N_3)
  obtain rfl : t = t3_0 := Fin.ext (by have : t.val = 0 := by omega
                                       exact this)
  rfl

/-- What the output block holds after point `t`: at the first point that run's contents, later the other run's over the
    scratch buffer the first point left. -/
def outsAt3 (c : Dev nD) (t : Fin cfg3.N) : Vec F S192x3584 .f32 :=
  if h0 : t.val % 14 = 0 then
    out3_A_5 (Ix := Ix) (U := U) (Lvl := Lvl) 𝒱₀ c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) ((hcond3_0 t).mpr h0) (iblk V c 0 t) (iblk V c 1 t) (iblk V c 2 t) (iblk V c 3 t) (iblk V c 4 t)
  else
    out3_B_5 (Ix := Ix) (U := U) (Lvl := Lvl) 𝒱₀ c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _) (fun h => h0 ((hcond3_0 t).mp h)) (iblk V c 0 t) (iblk V c 1 t) (iblk V c 2 t) (iblk V c 3 t) (iblk V c 4 t) (weff (Ix := Ix) (U := U) (Lvl := Lvl) 𝒱₀ V c)

/-- The region's invariant before position `n`: at first the scratch buffer at anything, afterwards at `weff`; beside it
    every other buffer of the kernel calls at anything and the generator register at some state. -/
def PhiS (c : Dev nD) : ℕ → sProp 𝕄
  | 0 => iprop((iprop((∃ d, owns (c : Thread nD τ) scM3 fullShare d)) ∗ Pipeline.scopedRestBut (Ix := Ix) (Name := ℕ) (U := U) (Lvl := Lvl) (Val := Elt F) spec3 c [cc3_scratch0]) ∗ (∃ r, prngReg c r))
  | _ + 1 => iprop((owns (c : Thread nD τ) scM3 fullShare (weff (Ix := Ix) (U := U) (Lvl := Lvl) 𝒱₀ V c) ∗ Pipeline.scopedRestBut (Ix := Ix) (Name := ℕ) (U := U) (Lvl := Lvl) (Val := Elt F) spec3 c [cc3_scratch0]) ∗ (∃ r, prngReg c r))

theorem PhiS_pos (c : Dev nD) (n : ℕ) (hz : n ≠ 0) :
    PhiS (Ix := Ix) (U := U) (Lvl := Lvl) 𝒱₀ V c n = iprop((owns (c : Thread nD τ) scM3 fullShare (weff (Ix := Ix) (U := U) (Lvl := Lvl) 𝒱₀ V c) ∗ Pipeline.scopedRestBut (Ix := Ix) (Name := ℕ) (U := U) (Lvl := Lvl) (Val := Elt F) spec3 c [cc3_scratch0]) ∗ (∃ r, prngReg c r)) := by
  cases n with
  | zero => exact absurd rfl hz
  | succ n => rfl

/-- The buffers the region finds are the scratch buffer at some contents and the rest. -/
theorem scoped3_eq (c : Dev nD) :
    (Pipeline.scopedRest (Ix := Ix) (Name := ℕ) (U := U) (Lvl := Lvl) (Val := Elt F) spec3 c : sProp 𝕄)
      = iprop(iprop((∃ d, owns (c : Thread nD τ) scM3 fullShare d)) ∗ Pipeline.scopedRestBut (Ix := Ix) (Name := ℕ) (U := U) (Lvl := Lvl) (Val := Elt F) spec3 c [cc3_scratch0]) := by
  rw [scopedRest3_split]; simp only [scM3, owns_whole]; try rfl

/-! ## The pipeline's proof data -/

/-- The proof data on core `c`: the arrays as the region finds them; after the body at point `t` each input's buffer at its
    block and the output's at `outsAt3`; the invariant `PhiS`; the core owing `D c` throughout. -/
def dat (c : Dev nD) : Dat τ (Elt F) Ix ℕ U Lvl cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outsAt3 (Ix := Ix) (U := U) (Lvl := Lvl) 𝒱₀ V c t
  Φ t := PhiS (Ix := Ix) (U := U) (Lvl := Lvl) 𝒱₀ V c t.val
  q _ := fullShare
  owed _ := D c

variable (ι : Ix)

local notation "𝕕" => dat (Ix := Ix) (U := U) (Lvl := Lvl) 𝒱₀ V D

theorem A_eq (c : Dev nD) (w : Fin cfg3.W) : (𝕕 c).A w = V c (Pipeline.arrRef spec3 w) := by
  dsimp only [dat]

theorem after3_0 (c : Dev nD) (t : Fin cfg3.N) : (𝕕 c).after 0 t = iblk V c 0 t := by dsimp only [dat]
theorem after3_1 (c : Dev nD) (t : Fin cfg3.N) : (𝕕 c).after 1 t = iblk V c 1 t := by dsimp only [dat]
theorem after3_2 (c : Dev nD) (t : Fin cfg3.N) : (𝕕 c).after 2 t = iblk V c 2 t := by dsimp only [dat]
theorem after3_3 (c : Dev nD) (t : Fin cfg3.N) : (𝕕 c).after 3 t = iblk V c 3 t := by dsimp only [dat]
theorem after3_4 (c : Dev nD) (t : Fin cfg3.N) : (𝕕 c).after 4 t = iblk V c 4 t := by dsimp only [dat]
theorem after3_5 (c : Dev nD) (t : Fin cfg3.N) : (𝕕 c).after 5 t = outsAt3 (Ix := Ix) (U := U) (Lvl := Lvl) 𝒱₀ V c t := by dsimp only [dat]

theorem before3_0 (c : Dev nD) (t : Fin cfg3.N) (d) : (𝕕 c).before 0 t d = iblk V c 0 t :=
  before3_0_of V (𝕕 c) (A_eq 𝒱₀ V D c 0) (after3_0 𝒱₀ V D c) t d
theorem before3_1 (c : Dev nD) (t : Fin cfg3.N) (d) : (𝕕 c).before 1 t d = iblk V c 1 t :=
  before3_1_of V (𝕕 c) (A_eq 𝒱₀ V D c 1) (after3_1 𝒱₀ V D c) t d
theorem before3_2 (c : Dev nD) (t : Fin cfg3.N) (d) : (𝕕 c).before 2 t d = iblk V c 2 t :=
  before3_2_of V (𝕕 c) (A_eq 𝒱₀ V D c 2) (after3_2 𝒱₀ V D c) t d
theorem before3_3 (c : Dev nD) (t : Fin cfg3.N) (d) : (𝕕 c).before 3 t d = iblk V c 3 t :=
  before3_3_of V (𝕕 c) (A_eq 𝒱₀ V D c 3) (after3_3 𝒱₀ V D c) t d
theorem before3_4 (c : Dev nD) (t : Fin cfg3.N) (d) : (𝕕 c).before 4 t d = iblk V c 4 t :=
  before3_4_of V (𝕕 c) (A_eq 𝒱₀ V D c 4) (after3_4 𝒱₀ V D c) t d

/-! ## The body obligation -/

/-- What the body is called with at point `t`. -/
def bodyPre (c : Dev nD) (t : Fin cfg3.N) : sProp 𝕄 :=
  iprop((𝕕 c).Φ t.castSucc ∗ (𝕕 c).owesAt ι t.castSucc
    ∗ (∃ d, owns (c : Thread nD τ) (ms3_0 t) fullShare ((𝕕 c).before 0 t d))
    ∗ (∃ d, owns (c : Thread nD τ) (ms3_1 t) fullShare ((𝕕 c).before 1 t d))
    ∗ (∃ d, owns (c : Thread nD τ) (ms3_2 t) fullShare ((𝕕 c).before 2 t d))
    ∗ (∃ d, owns (c : Thread nD τ) (ms3_3 t) fullShare ((𝕕 c).before 3 t d))
    ∗ (∃ d, owns (c : Thread nD τ) (ms3_4 t) fullShare ((𝕕 c).before 4 t d))
    ∗ (∃ d, owns (c : Thread nD τ) (ms3_5 t) fullShare ((𝕕 c).before 5 t d)))

/-- What it returns. -/
def bodyPost (c : Dev nD) (t : Fin cfg3.N) : sProp 𝕄 :=
  iprop((𝕕 c).Φ t.succ ∗ (𝕕 c).owesAt ι t.succ
    ∗ owns (c : Thread nD τ) (ms3_0 t) fullShare ((𝕕 c).after 0 t)
    ∗ owns (c : Thread nD τ) (ms3_1 t) fullShare ((𝕕 c).after 1 t)
    ∗ owns (c : Thread nD τ) (ms3_2 t) fullShare ((𝕕 c).after 2 t)
    ∗ owns (c : Thread nD τ) (ms3_3 t) fullShare ((𝕕 c).after 3 t)
    ∗ owns (c : Thread nD τ) (ms3_4 t) fullShare ((𝕕 c).after 4 t)
    ∗ owns (c : Thread nD τ) (ms3_5 t) fullShare ((𝕕 c).after 5 t))

set_option maxHeartbeats 3200000 in
/-- The body at any point. -/
theorem sound_body (c : Dev nD) (t : Fin cfg3.N) :
    bodyPre (U := U) (Lvl := Lvl) 𝒱₀ V D ι c t ⊢ wp frame (wpE (defs₀ (F := F)) 𝒱₀ c none) Set.univ (bodyAt3 t) (fun _ => bodyPost (U := U) (Lvl := Lvl) 𝒱₀ V D ι c t) := by
  unfold bodyPre bodyPost bodyAt3
  simp only [before3_0, before3_1, before3_2, before3_3, before3_4]
  rw [show (𝕕 c).owesAt ι t.succ = (𝕕 c).owesAt ι t.castSucc from rfl,
    after3_0, after3_1, after3_2, after3_3, after3_4, after3_5]
  rw [show (𝕕 c).Φ t.succ = PhiS (Ix := Ix) (U := U) (Lvl := Lvl) 𝒱₀ V c (t.val + 1) from rfl,
    show (𝕕 c).Φ t.castSucc = PhiS (Ix := Ix) (U := U) (Lvl := Lvl) 𝒱₀ V c t.val from rfl, PhiS_pos 𝒱₀ V c (t.val + 1) (Nat.succ_ne_zero _)]
  have hN : t.val < 14 := lt_of_lt_of_eq t.isLt (show cfg3.N = 14 from N_3)
  by_cases h0 : t.val % 14 = 0
  · rw [show PhiS (Ix := Ix) (U := U) (Lvl := Lvl) 𝒱₀ V c t.val = PhiS (Ix := Ix) (U := U) (Lvl := Lvl) 𝒱₀ V c 0 from
      congrArg _ (by omega)]
    unfold PhiS outsAt3
    rw [dif_pos h0]
    unfold out3_A_5
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun3_A (Ix := Ix) (U := U) (Lvl := Lvl) 𝒱₀ c (grid3.coords t) _ _ _ _ _ _ _ _ _ _ _ _ _ _ ((hcond3_0 t).mpr h0) (iblk V c 0 t) (iblk V c 1 t) (iblk V c 2 t) (iblk V c 3 t) (iblk V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro
          exact (View.read_writes_of_cover _ _ _ _ _ (scover3_A_0 (Ix := Ix) (U := U) (Lvl := Lvl) 𝒱₀ c _ _ _ _ _ _ _ _ _ _ _ _ _ _ _ _ _ _ _ _ _)).trans (weff_at 𝒱₀ V c t h0).symm
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover3_A_5 (Ix := Ix) (U := U) (Lvl := Lvl) 𝒱₀ c _ _ _ _ _ _ _ _ _ _ _ _ _ _ _ _ _ _ _ _ _)
  · rw [PhiS_pos 𝒱₀ V c t.val (by omega)]
    unfold outsAt3
    rw [dif_neg h0]
    unfold out3_B_5
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun3_B (Ix := Ix) (U := U) (Lvl := Lvl) 𝒱₀ c (grid3.coords t) _ _ _ _ _ _ _ _ _ _ _ _ _ _ (fun h => h0 ((hcond3_0 t).mp h)) (iblk V c 0 t) (iblk V c 1 t) (iblk V c 2 t) (iblk V c 3 t) (iblk V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hrest Hg]
    · isplitl [HS0 Hrest]
      · isplitl [HS0]
        · iexact HS0
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover3_B_5 (Ix := Ix) (U := U) (Lvl := Lvl) 𝒱₀ c _ _ _ _ _ _ _ _ _ _ _ _ _ _ _ _ _ _ _ _ _ _)

/-- The body table's row at point `t`'s slots is the body. -/
theorem defs₀_row (t : Fin cfg3.N) :
    defs₀ (F := F) .tc cfg3.body (cfg3.bodyArgs t (cfg3.slots t)) = bodyAt3 t := by
  unfold defs₀; rw [Defs.onTc_tc]

/-- The body obligation, at every point. -/
theorem body_obligation (c : Dev nD) : BodyObligation (𝕕 c) (defs₀ (F := F)) 𝒱₀ ι Set.univ := fun t => by
  rw [bigSep_W3, bigSep_W3, defs₀_row]
  exact triple_restated (sound_body (U := U) (Lvl := Lvl) 𝒱₀ V D ι c t) rfl .rfl fun _ => .rfl

/-- What the launch hands the region is the invariant before the first point. -/
theorem hin (c : Dev nD) : iprop(Pipeline.scopedRest (Ix := Ix) (Name := ℕ) (U := U) (Lvl := Lvl) (Val := Elt F) spec3 c ∗ (∃ r, prngReg c r)) ⊢ (𝕕 c).Φ 0 := by
  rw [show (𝕕 c).Φ 0 = PhiS (Ix := Ix) (U := U) (Lvl := Lvl) 𝒱₀ V c 0 from rfl, scoped3_eq]
  exact .rfl

/-- After the last point the invariant gives back what the launch handed over. -/
theorem hout (c : Dev nD) : (𝕕 c).Φ (Fin.last cfg3.N) ⊢ iprop(Pipeline.scopedRest (Ix := Ix) (Name := ℕ) (U := U) (Lvl := Lvl) (Val := Elt F) spec3 c ∗ (∃ r, prngReg c r)) := by
  rw [show (𝕕 c).Φ (Fin.last cfg3.N) = PhiS (Ix := Ix) (U := U) (Lvl := Lvl) 𝒱₀ V c (Fin.last cfg3.N).val from rfl,
    PhiS_pos 𝒱₀ V c _ (by rw [Fin.val_last]; have : cfg3.N = 14 := N_3; omega), scoped3_eq]
  iintro ⟨⟨HS0, Hrest⟩, Hg⟩
  isplitl [HS0 Hrest]
  · isplitl [HS0]
    · iexists _; iexact HS0
    iexact Hrest
  iexact Hg

end Cert.KernelIdeal.Call3

end
-- ==== Proof.KernelIdeal.Whole.lean ====
/-
The run of `KernelIdeal`: the four kernel calls' records chained with the host lines around them. From any memory with zero
counters the program ends, its twelve arguments are as they were launched, every counter is at zero, and the result buffer
holds what the last host line makes of the fourth call's output array.
-/
module

public import proofs.«01_k».proof.Proof.KernelIdeal.Call3
public import proofs.«01_k».proof.Proof.Gen.Own.KernelIdeal.RegionsD
public import Idealize.ShloMosaic.Lib.Pipeline.Frame

@[expose] public section

set_option maxRecDepth 16384

noncomputable section

namespace Cert.KernelIdeal.Whole

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => (MT nD τ sig Unit (Elt F) ℕ (UR sig nD τ) ℕ)

variable (m : (ℓ : Loc nD τ sig) → Buf (Elt F) ℓ)

/-! ## What each call leaves in its output arrays -/

/-- No core owes anything while a call runs. -/
abbrev D0 : Dev nD → CellTallies nD τ sig Unit := fun _ => 0

/-- The contents the first call is entered with, changed at its two output arrays to what it leaves there. -/
def after0 (c : Dev nD) : Valuation τ sig (Elt F) :=
  Function.update (Function.update (V1 m c) (Proc.devRef .tc main_v12_0) ((K0.dat (U := UR sig nD τ) (Lvl := ℕ) (Ix := Unit) Variants.none (Ve0 m) D0 c).arrAt 4 cfg0.N))
    (Proc.devRef .tc main_v12_1) ((K0.dat (U := UR sig nD τ) (Lvl := ℕ) (Ix := Unit) Variants.none (Ve0 m) D0 c).arrAt 5 cfg0.N)
/-- The outputs known after the first call. -/
def outs0 : Outs (F := F) := fun _ r c => after0 m c (Proc.devRef .tc r)

/-- The same after the second call. -/
def after1 (c : Dev nD) : Valuation τ sig (Elt F) :=
  Function.update (V2 m (outs0 m) c) (Proc.devRef .tc main_v13) ((K1.dat (U := UR sig nD τ) (Lvl := ℕ) (Ix := Unit) Variants.none (Ve1 m (outs0 m)) D0 c).arrAt 4 cfg1.N)
/-- The outputs known after the second call. -/
def outs1 : Outs (F := F) := fun j r c => if j = 2 then outs0 m j r c else after1 m c (Proc.devRef .tc r)

/-- The same after the third call. -/
def after2 (c : Dev nD) : Valuation τ sig (Elt F) :=
  Function.update (V3 m (outs1 m) c) (Proc.devRef .tc main_v14) ((K2.dat (U := UR sig nD τ) (Lvl := ℕ) (Ix := Unit) Variants.none (Ve2 m (outs1 m)) D0 c).arrAt 2 cfg2.N)
/-- The outputs known after the third call. -/
def outs2 : Outs (F := F) := fun j r c => if j = 4 then after2 m c (Proc.devRef .tc r) else outs1 m j r c

/-- The fourth call's entry contents. -/
abbrev Ve3 (outs : Outs (F := F)) (c : Dev nD) (b : Ref sig .tc) : Buf (Elt F) ((c : Thread nD τ).loc b) := V4 m outs c (Proc.devRef .tc b)
/-- The same after the fourth call. -/
def after3 (c : Dev nD) : Valuation τ sig (Elt F) :=
  Function.update (V4 m (outs2 m) c) (Proc.devRef .tc main_v15) ((Call3.dat (Ix := Unit) (U := UR sig nD τ) (Lvl := ℕ) Variants.none (Ve3 m (outs2 m)) D0 c).arrAt 5 cfg3.N)
/-- What every call leaves. -/
def outs : Outs (F := F) := fun j r c => if j = 5 then after3 m c (Proc.devRef .tc r) else outs2 m j r c

/-! ## The valuations between the calls depend on the outputs before them only -/

theorem outs_at2 : outs m 2 = outs0 m 2 := by
  funext r c; unfold outs outs2 outs1
  rw [if_neg (by decide), if_neg (by decide), if_pos rfl]
theorem outs1_at2 : outs1 m 2 = outs0 m 2 := by
  funext r c; unfold outs1
  rw [if_pos rfl]
theorem outs2_at2 : outs2 m 2 = outs0 m 2 := by
  funext r c; unfold outs2 outs1
  rw [if_neg (by decide), if_pos rfl]
theorem outs_at3 (r : Ref sig .tc) (c : Dev nD) : outs m 3 r c = after1 m c (Proc.devRef .tc r) := by
  unfold outs outs2 outs1
  rw [if_neg (by decide), if_neg (by decide), if_neg (by decide)]
theorem outs1_at3 (r : Ref sig .tc) (c : Dev nD) : outs1 m 3 r c = after1 m c (Proc.devRef .tc r) := by
  unfold outs1
  rw [if_neg (by decide)]
theorem outs2_at3 (r : Ref sig .tc) (c : Dev nD) : outs2 m 3 r c = after1 m c (Proc.devRef .tc r) := by
  unfold outs2 outs1
  rw [if_neg (by decide), if_neg (by decide)]
theorem outs_at4 (r : Ref sig .tc) (c : Dev nD) : outs m 4 r c = after2 m c (Proc.devRef .tc r) := by
  unfold outs outs2
  rw [if_neg (by decide), if_pos rfl]
theorem outs2_at4 (r : Ref sig .tc) (c : Dev nD) : outs2 m 4 r c = after2 m c (Proc.devRef .tc r) := by
  unfold outs2
  rw [if_pos rfl]
theorem outs_at5 (r : Ref sig .tc) (c : Dev nD) : outs m 5 r c = after3 m c (Proc.devRef .tc r) := by
  unfold outs
  rw [if_pos rfl]

theorem V2_outs : V2 m (outs m) = V2 m (outs0 m) := by
  funext c; simp only [V2, outs_at2]
theorem V3_outs : V3 m (outs m) = V3 m (outs1 m) := by
  funext c; simp only [V3, V2, outs_at2, outs1_at2, outs_at3, outs1_at3]
theorem V4_outs : V4 m (outs m) = V4 m (outs2 m) := by
  funext c; simp only [V4, V3, V2, outs_at2, outs2_at2, outs_at3, outs2_at3, outs_at4, outs2_at4]

/-- The first call's first output array. -/
theorem outs_q (c : Dev nD) : outs m 2 main_v12_0 c = (K0.dat (U := UR sig nD τ) (Lvl := ℕ) (Ix := Unit) Variants.none (Ve0 m) D0 c).arrAt 4 cfg0.N := by
  rw [outs_at2]; unfold outs0 after0
  rw [Function.update_of_ne (StableHlo.devRef_ne_of_ne (by decide : (main_v12_0 : Ref sig .tc) ≠ main_v12_1)), Function.update_self]
/-- The first call's second output array. -/
theorem outs_kv (c : Dev nD) : outs m 2 main_v12_1 c = (K0.dat (U := UR sig nD τ) (Lvl := ℕ) (Ix := Unit) Variants.none (Ve0 m) D0 c).arrAt 5 cfg0.N := by
  rw [outs_at2]; unfold outs0 after0
  rw [Function.update_self]
/-- The second call's output array. -/
theorem outs_s (c : Dev nD) : outs m 3 main_v13 c = (K1.dat (U := UR sig nD τ) (Lvl := ℕ) (Ix := Unit) Variants.none (Ve1 m (outs m)) D0 c).arrAt 4 cfg1.N := by
  have h : Ve1 m (outs m) = Ve1 m (outs0 m) := by funext c b; unfold Ve1; rw [V2_outs]
  rw [outs_at3, h]; unfold after1
  rw [Function.update_self]
/-- The third call's output array. -/
theorem outs_v (c : Dev nD) : outs m 4 main_v14 c = (K2.dat (U := UR sig nD τ) (Lvl := ℕ) (Ix := Unit) Variants.none (Ve2 m (outs m)) D0 c).arrAt 2 cfg2.N := by
  have h : Ve2 m (outs m) = Ve2 m (outs1 m) := by funext c b; unfold Ve2; rw [V3_outs]
  rw [outs_at4, h]; unfold after2
  rw [Function.update_self]
/-- The fourth call's output array. -/
theorem outs_o (c : Dev nD) : outs m 5 main_v15 c = (Call3.dat (Ix := Unit) (U := UR sig nD τ) (Lvl := ℕ) Variants.none (Ve3 m (outs m)) D0 c).arrAt 5 cfg3.N := by
  have h : Ve3 m (outs m) = Ve3 m (outs2 m) := by funext c b; unfold Ve3; rw [V4_outs]
  rw [outs_at5, h]; unfold after3
  rw [Function.update_self]

/-! ## The fourth call's record -/

/-- The proof data of the fourth call. -/
abbrev dat3 (c : Dev nD) : Dat τ (Elt F) Unit ℕ (UR sig nD τ) ℕ cfg3 c := Call3.dat (Ix := Unit) (U := UR sig nD τ) (Lvl := ℕ) Variants.none (Ve3 m (outs m)) D0 c

/-- Each call's proof data. -/
def pd : (p : Fin 4) → (c : Dev nD) → Dat τ (Elt F) Unit ℕ (UR sig nD τ) ℕ (cfgs p) c
  | ⟨0, _⟩ => fun c => K0.dat Variants.none (Ve0 m) D0 c
  | ⟨1, _⟩ => fun c => K1.dat Variants.none (Ve1 m (outs m)) D0 c
  | ⟨2, _⟩ => fun c => K2.dat Variants.none (Ve2 m (outs m)) D0 c
  | ⟨3, _⟩ => dat3 m

theorem arr3_mem (w : Fin cfg3.W) : (Proc.devRef .tc (Pipeline.arrRef spec3 w) : DevRef τ sig) ∈ Pipeline.arrRefs (τ := τ) spec3 :=
  Finset.mem_map_of_mem _ (Finset.mem_image_of_mem _ (Finset.mem_univ w))
theorem arr3_S : Pipeline.arrRefs (τ := τ) spec3 ⊆ Pipeline.ucRefs τ sig :=
  Pipeline.arrRefs_sub_ucRefs spec3 (by decide)
theorem V5_at_main_v15 (outs : Outs (F := F)) (c : Dev nD) : V5 m outs c (Proc.devRef .tc main_v15) = outs 5 main_v15 c := by
  simp only [V5, Function.update_self]
/-- Across the fourth call every held buffer but its arrays keeps its contents. -/
theorem rest3_eq (outs : Outs (F := F)) (c : Dev nD) : ∀ b ∈ (Pipeline.ucRefs τ sig) \ Pipeline.arrRefs (τ := τ) spec3, V5 m outs c b = V4 m outs c b := fun b hb => by
  have hn : b ∉ Pipeline.arrRefs (τ := τ) spec3 := (Finset.mem_sdiff.mp hb).2
  have h : b ≠ Proc.devRef .tc main_v15 := by rintro rfl; exact hn (by first | exact arr3_mem 5 | decide)
  simp only [V5, Function.update_of_ne h]

/-- Every TensorCore cell may be waited at, all at level zero. -/
def lvL : GSem nD τ sig → Finset Unit := fun g => if g.1.2 = .tc then {()} else ∅
def lvF : GSem nD τ sig → Unit → ℕ := fun _ _ => 0
abbrev b0 : Dev nD → ℕ := fun _ => 0

theorem cut (p : Fin 4) : Pipeline.LevelCut (pcfgs (F := F)) adm () lvL lvF p D0 b0 where
  hι c w s := by simp [lvL]
  hιb c w s := le_refl _
  hD c g i h := absurd h (by simp [D0])

/-- What each core holds between the calls beside its buffers: its generator register and that it owes nothing. -/
def Es : Fin 5 → Dev nD → sProp 𝕄 := fun _ c => iprop((∃ r, prngReg c r) ∗ ∃ W, owes (c : Thread nD τ) (0 : CellTallies nD τ sig Unit) W)
/-- Nothing else rides along. -/
abbrev Er : Dev nD → sProp 𝕄 := fun _ => iprop(emp)

theorem hEin {k : Fin 5} (c : Dev nD) : (Es k c : sProp 𝕄) ⊢ iprop((∃ r, prngReg c r) ∗ (∃ W, owes (c : Thread nD τ) (D0 c) W) ∗ Er (F := F) c) := by
  unfold Es
  iintro ⟨Hp, HO⟩
  isplitl [Hp]; · iexact Hp
  isplitl [HO]; · iexact HO
  iempintro
theorem hEout {k : Fin 5} (c : Dev nD) : iprop((∃ r, prngReg c r) ∗ (∃ W, owes (c : Thread nD τ) (D0 c) W) ∗ Er (F := F) c) ⊢ (Es k c : sProp 𝕄) := by
  unfold Es
  iintro ⟨Hp, HO, -⟩
  isplitl [Hp]; · iexact Hp
  iexact HO

set_option backward.isDefEq.respectTransparency.types false in
/-- The fourth call from its run: entered with its arrays at `V4`, left with them at `V5`. -/
def R3 : RegionSeg (pcfgs (F := F)) adm (pdatsD (U := UR sig nD τ) (Lvl := ℕ) m (outs m) Variants.none (pd m) D0 D0 D0) () defs₀ Variants.none lvL lvF 3 :=
  Pipeline.RegionSeg.ofHeld (pcfgs (F := F)) adm (pdatsD (U := UR sig nD τ) (Lvl := ℕ) m (outs m) Variants.none (pd m) D0 D0 D0) () defs₀ Variants.none lvL lvF 3 D0
    (fun c => iprop(∃ r, prngReg c r)) (fun c => iprop(∃ r, prngReg c r))
    launch3.toP rfl
    (fun c => (Call3.body_obligation (U := UR sig nD τ) (Lvl := ℕ) Variants.none (Ve3 m (outs m)) D0 () c).loose) (fun _ _ => rfl) (fun _ => rfl)
    (fun c => ((pdatsD (U := UR sig nD τ) (Lvl := ℕ) m (outs m) Variants.none (pd m) D0 D0 D0) 3 c).share_full fun _ => rfl)
    (fun c => Call3.hin (U := UR sig nD τ) (Lvl := ℕ) Variants.none (Ve3 m (outs m)) D0 c) (fun c => Call3.hout (U := UR sig nD τ) (Lvl := ℕ) Variants.none (Ve3 m (outs m)) D0 c) b0 (cut 3)
    (fun c => iprop(StableHlo.held (c : Thread nD τ) ((Pipeline.ucRefs τ sig) \ Pipeline.arrRefs (τ := τ) spec3) (V4 m (outs m) c) ∗ Er (F := F) c))
    (V4 m (outs m)) (V5 m (outs m)) (fun _ _ => rfl)
    (fun c => fun | 0 => (((pdatsD (U := UR sig nD τ) (Lvl := ℕ) m (outs m) Variants.none (pd m) D0 D0 D0) 3 c).arrAt_in 0 rfl _).trans ((Call3.A_eq (Ix := Unit) (U := UR sig nD τ) (Lvl := ℕ) Variants.none (Ve3 m (outs m)) D0 c 0).trans (V5_of m (outs m) c (Pipeline.arrRef spec3 0) (by decide)).symm) | 1 => (((pdatsD (U := UR sig nD τ) (Lvl := ℕ) m (outs m) Variants.none (pd m) D0 D0 D0) 3 c).arrAt_in 1 rfl _).trans ((Call3.A_eq (Ix := Unit) (U := UR sig nD τ) (Lvl := ℕ) Variants.none (Ve3 m (outs m)) D0 c 1).trans (V5_of m (outs m) c (Pipeline.arrRef spec3 1) (by decide)).symm) | 2 => (((pdatsD (U := UR sig nD τ) (Lvl := ℕ) m (outs m) Variants.none (pd m) D0 D0 D0) 3 c).arrAt_in 2 rfl _).trans ((Call3.A_eq (Ix := Unit) (U := UR sig nD τ) (Lvl := ℕ) Variants.none (Ve3 m (outs m)) D0 c 2).trans (V5_of m (outs m) c (Pipeline.arrRef spec3 2) (by decide)).symm) | 3 => (((pdatsD (U := UR sig nD τ) (Lvl := ℕ) m (outs m) Variants.none (pd m) D0 D0 D0) 3 c).arrAt_in 3 rfl _).trans ((Call3.A_eq (Ix := Unit) (U := UR sig nD τ) (Lvl := ℕ) Variants.none (Ve3 m (outs m)) D0 c 3).trans (V5_of m (outs m) c (Pipeline.arrRef spec3 3) (by decide)).symm) | 4 => (((pdatsD (U := UR sig nD τ) (Lvl := ℕ) m (outs m) Variants.none (pd m) D0 D0 D0) 3 c).arrAt_in 4 rfl _).trans ((Call3.A_eq (Ix := Unit) (U := UR sig nD τ) (Lvl := ℕ) Variants.none (Ve3 m (outs m)) D0 c 4).trans (V5_of m (outs m) c (Pipeline.arrRef spec3 4) (by decide)).symm) | 5 => (outs_o m c).symm.trans (V5_at_main_v15 m (outs m) c).symm | ⟨_ + 6, h⟩ => absurd h (Nat.not_lt.2 (Nat.le_add_left _ _)))

theorem hpre3 (c : Dev nD) : iprop(StableHlo.held (c : Thread nD τ) (Pipeline.ucRefs τ sig) (V4 m (outs m) c) ∗ Es (F := F) 3 c) ⊢ (R3 m).pre c := by
  show _ ⊢ iprop(StableHlo.held (c : Thread nD τ) (Pipeline.arrRefs (τ := τ) spec3) (V4 m (outs m) c) ∗ (∃ r, prngReg c r)
    ∗ (StableHlo.held (c : Thread nD τ) ((Pipeline.ucRefs τ sig) \ Pipeline.arrRefs (τ := τ) spec3) (V4 m (outs m) c) ∗ Er (F := F) c) ∗ ∃ W, owes (c : Thread nD τ) (D0 c) W)
  rw [StableHlo.held_sub_split (c : Thread nD τ) arr3_S (V4 m (outs m) c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

theorem hpost3 (c : Dev nD) : (R3 m).post c ⊢ iprop(StableHlo.held (c : Thread nD τ) (Pipeline.ucRefs τ sig) (V5 m (outs m) c) ∗ Es (F := F) 4 c) := by
  show iprop(StableHlo.held (c : Thread nD τ) (Pipeline.arrRefs (τ := τ) spec3) (V5 m (outs m) c) ∗ (∃ r, prngReg c r)
    ∗ (StableHlo.held (c : Thread nD τ) ((Pipeline.ucRefs τ sig) \ Pipeline.arrRefs (τ := τ) spec3) (V4 m (outs m) c) ∗ Er (F := F) c) ∗ ∃ W, owes (c : Thread nD τ) (D0 c) W) ⊢ _
  rw [StableHlo.held_sub_split (c : Thread nD τ) arr3_S (V5 m (outs m) c),
    StableHlo.held_congr (c : Thread nD τ) (S := (Pipeline.ucRefs τ sig) \ Pipeline.arrRefs (τ := τ) spec3) (rest3_eq m (outs m) c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

/-! ## The run -/

/-- What the launch deals each core makes the first rest state. -/
theorem hE0 (ρ : Dev nD → PrngReg) :
    iprop((bigSep Finset.univ fun c : Dev nD => iprop(unscopedSems0 c ∗ owes (c : Thread nD τ) (D0 c) ∅ ∗ Pipeline.launchCred D0 c ∗ prngReg c (ρ c) ∗ (iprop(emp) : sProp 𝕄))) ∗ levAts lvL lvF)
      ⊢ (|={Set.univ}=> bigSep Finset.univ (Es 0) : sProp 𝕄) := by
  have h1 : ∀ c : Dev nD, iprop(unscopedSems0 c ∗ owes (c : Thread nD τ) (D0 c) ∅ ∗ Pipeline.launchCred D0 c ∗ prngReg c (ρ c) ∗ (iprop(emp) : sProp 𝕄)) ⊢ (Es 0 c : sProp 𝕄) := fun c => by
    unfold Es
    iintro ⟨-, HO, -, Hp, -⟩
    isplitl [Hp]; · iexists _; iexact Hp
    iexists _; iexact HO
  have h : (bigSep Finset.univ fun c : Dev nD => iprop(unscopedSems0 c ∗ owes (c : Thread nD τ) (D0 c) ∅ ∗ Pipeline.launchCred D0 c ∗ prngReg c (ρ c) ∗ (iprop(emp) : sProp 𝕄)))
      ⊢ (bigSep Finset.univ (Es 0) : sProp 𝕄) := bigSep_mono fun c _ => h1 c
  iintro ⟨H, -⟩
  imodintro
  iapply h; iexact H

set_option backward.isDefEq.respectTransparency.types false in
/-- The run, from the four calls' records: the program ends, with the result at what the last host line leaves, the arguments
    as launched and every counter at zero. -/
theorem run_of (ρ : Dev nD → PrngReg) (outs : Outs (F := F)) (pdats : (p : Fin 4) → (c : Dev nD) → Dat τ (Elt F) Unit ℕ (UR sig nD τ) ℕ (cfgs p) c)
    (R0 : RegionSeg (pcfgs (F := F)) adm pdats () defs₀ Variants.none lvL lvF 0)
    (hpre0 : ∀ c : Dev nD, iprop(StableHlo.held (c : Thread nD τ) (Pipeline.ucRefs τ sig) (V1 m c) ∗ Es (F := F) 0 c) ⊢ R0.pre c)
    (hpost0 : ∀ c : Dev nD, R0.post c ⊢ iprop(StableHlo.held (c : Thread nD τ) (Pipeline.ucRefs τ sig) (V2 m outs c) ∗ Es (F := F) 1 c))
    (R1 : RegionSeg (pcfgs (F := F)) adm pdats () defs₀ Variants.none lvL lvF 1)
    (hpre1 : ∀ c : Dev nD, iprop(StableHlo.held (c : Thread nD τ) (Pipeline.ucRefs τ sig) (V2 m outs c) ∗ Es (F := F) 1 c) ⊢ R1.pre c)
    (hpost1 : ∀ c : Dev nD, R1.post c ⊢ iprop(StableHlo.held (c : Thread nD τ) (Pipeline.ucRefs τ sig) (V3 m outs c) ∗ Es (F := F) 2 c))
    (R2 : RegionSeg (pcfgs (F := F)) adm pdats () defs₀ Variants.none lvL lvF 2)
    (hpre2 : ∀ c : Dev nD, iprop(StableHlo.held (c : Thread nD τ) (Pipeline.ucRefs τ sig) (V3 m outs c) ∗ Es (F := F) 2 c) ⊢ R2.pre c)
    (hpost2 : ∀ c : Dev nD, R2.post c ⊢ iprop(StableHlo.held (c : Thread nD τ) (Pipeline.ucRefs τ sig) (V4 m outs c) ∗ Es (F := F) 3 c))
    (R3 : RegionSeg (pcfgs (F := F)) adm pdats () defs₀ Variants.none lvL lvF 3)
    (hpre3 : ∀ c : Dev nD, iprop(StableHlo.held (c : Thread nD τ) (Pipeline.ucRefs τ sig) (V4 m outs c) ∗ Es (F := F) 3 c) ⊢ R3.pre c)
    (hpost3 : ∀ c : Dev nD, R3.post c ⊢ iprop(StableHlo.held (c : Thread nD τ) (Pipeline.ucRefs τ sig) (V5 m outs c) ∗ Es (F := F) 4 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_v16) = V6 m outs c (Proc.devRef .tc main_v16))
      ∧ r.2.sem = fun _ => 0) := by
  refine Pipeline.θ_run_regions_kit_dev_sems (pcfgs (F := F)) adm pdats () cellOf_inj emb₁ defs₀ Variants.none lvL lvF m ρ main
    (segs m outs Variants.none lvL lvF Es () pdats R0 R1 R2 R3)
    (fun c Q => by
      rewrite [main_chain c, Seg.run_eq_chain,
        show (segs m outs Variants.none lvL lvF Es () pdats R0 R1 R2 R3 c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      exact .rfl)
    (fun c => by simp only [segs, Seg.pipes_host, Seg.pipes_region, Seg.pipes_nil]; decide) D0
    (fun g hg => if_neg hg) (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Es 0 c))
    (Tₙ := fun c => StableHlo.held (c : Thread nD τ) (Pipeline.ucRefs τ sig) (V6 m outs c))
    (hch := fun c => ⟨.rfl, hpre0 c, (hpost0 c).trans (hpre1 c), (hpost1 c).trans (hpre2 c), (hpost2 c).trans (hpre3 c), hpost3 c,
      sep_mono .rfl (by unfold Es; iintro ⟨-, HO⟩; iexact HO)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_v16) = V6 m outs c (Proc.devRef .tc main_v16))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (D0 c) ∅ ∗ Pipeline.launchCred D0 c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (D0 c) ∅ ∗ Pipeline.launchCred D0 c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c),
        (h (Proc.devRef .tc main_arg4) (Finset.mem_filter.mpr ⟨StableHlo.devRef_mem_tcRefs main_arg4, by decide⟩)).trans (V6_main_arg4 m outs c),
        (h (Proc.devRef .tc main_arg5) (Finset.mem_filter.mpr ⟨StableHlo.devRef_mem_tcRefs main_arg5, by decide⟩)).trans (V6_main_arg5 m outs c),
        (h (Proc.devRef .tc main_arg6) (Finset.mem_filter.mpr ⟨StableHlo.devRef_mem_tcRefs main_arg6, by decide⟩)).trans (V6_main_arg6 m outs c),
        (h (Proc.devRef .tc main_arg7) (Finset.mem_filter.mpr ⟨StableHlo.devRef_mem_tcRefs main_arg7, by decide⟩)).trans (V6_main_arg7 m outs c),
        (h (Proc.devRef .tc main_arg8) (Finset.mem_filter.mpr ⟨StableHlo.devRef_mem_tcRefs main_arg8, by decide⟩)).trans (V6_main_arg8 m outs c),
        (h (Proc.devRef .tc main_arg9) (Finset.mem_filter.mpr ⟨StableHlo.devRef_mem_tcRefs main_arg9, by decide⟩)).trans (V6_main_arg9 m outs c),
        (h (Proc.devRef .tc main_arg10) (Finset.mem_filter.mpr ⟨StableHlo.devRef_mem_tcRefs main_arg10, by decide⟩)).trans (V6_main_arg10 m outs c),
        (h (Proc.devRef .tc main_arg11) (Finset.mem_filter.mpr ⟨StableHlo.devRef_mem_tcRefs main_arg11, by decide⟩)).trans (V6_main_arg11 m outs c),
        h (Proc.devRef .tc main_v16) (Finset.mem_filter.mpr ⟨StableHlo.devRef_mem_tcRefs main_v16, by decide⟩)⟩
    · iexact HSI

set_option backward.isDefEq.respectTransparency.types false in
/-- The run: the program ends, with the result at what the last host line leaves, the arguments as launched and every counter
    at zero. -/
theorem run_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_v16) = V6 m (outs m) c (Proc.devRef .tc main_v16))
      ∧ r.2.sem = fun _ => 0) :=
  run_of m ρ (outs m) (pdatsD (U := UR sig nD τ) (Lvl := ℕ) m (outs m) Variants.none (pd m) D0 D0 D0)
    (R0D m (outs m) Variants.none lvL lvF () (pd m) D0 D0 D0 b0 (cut 0) Er (outs_q m) (outs_kv m))
    (hpre0D m (outs m) Variants.none lvL lvF () (pd m) D0 D0 D0 b0 (cut 0) Es Er hEin (outs_q m) (outs_kv m)) (hpost0D m (outs m) Variants.none lvL lvF () (pd m) D0 D0 D0 b0 (cut 0) Es Er hEout (outs_q m) (outs_kv m))
    (R1D m (outs m) Variants.none lvL lvF () (pd m) D0 D0 D0 b0 (cut 1) Er (outs_s m))
    (hpre1D m (outs m) Variants.none lvL lvF () (pd m) D0 D0 D0 b0 (cut 1) Es Er hEin (outs_s m)) (hpost1D m (outs m) Variants.none lvL lvF () (pd m) D0 D0 D0 b0 (cut 1) Es Er hEout (outs_s m))
    (R2D m (outs m) Variants.none lvL lvF () (pd m) D0 D0 D0 b0 (cut 2) Er (outs_v m))
    (hpre2D m (outs m) Variants.none lvL lvF () (pd m) D0 D0 D0 b0 (cut 2) Es Er hEin (outs_v m)) (hpost2D m (outs m) Variants.none lvL lvF () (pd m) D0 D0 D0 b0 (cut 2) Es Er hEout (outs_v m))
    (R3 m) (hpre3 m) (hpost3 m)

end Cert.KernelIdeal.Whole

end
-- ==== Proof.KernelIdeal.Host.lean ====
/-
The kernel's arguments over plain indices, and what the lines before the first call make of them: reshapes, and broadcasts of
the temperature and of the mixture weights.
-/
module

public import proofs.«01_k».proof.Proof.Formula
public import proofs.«01_k».proof.Proof.Gen.KernelIdeal.Regions
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Cert.Attn
open Idealize.ShloMosaic Idealize.ShloMosaic.TcCoe

variable (m : (ℓ : Loc nD τ sig) → Buf (Elt Ideal) ℓ) (c : Dev nD)

/-- The row of a pixel. -/
abbrev prow (p : Fin 50176) : Fin 224 := ⟨p.val / 224, by omega⟩
/-- The column of a pixel. -/
abbrev pcol (p : Fin 50176) : Fin 224 := ⟨p.val % 224, by omega⟩

/-- The arguments over plain indices. -/
def inputs : Inputs where
  xq i p := m ((c : Thread nD τ).loc main_arg0) (ix4 (0 : Fin 1) i (prow p) (pcol p))
  xkv i p := m ((c : Thread nD τ).loc main_arg1) (ix4 (0 : Fin 1) i (prow p) (pcol p))
  wq o i := m ((c : Thread nD τ).loc main_arg2) (ix4 o i (0 : Fin 1) (0 : Fin 1))
  dq o t := m ((c : Thread nD τ).loc main_arg3) (ix4 o (0 : Fin 1) (⟨t.val / 3, by omega⟩ : Fin 3) (⟨t.val % 3, by omega⟩ : Fin 3))
  wkv o i := m ((c : Thread nD τ).loc main_arg4) (ix4 o i (0 : Fin 1) (0 : Fin 1))
  dkv o t := m ((c : Thread nD τ).loc main_arg5) (ix4 o (0 : Fin 1) (⟨t.val / 3, by omega⟩ : Fin 3) (⟨t.val % 3, by omega⟩ : Fin 3))
  wp o i := m ((c : Thread nD τ).loc main_arg6) (ix4 o i (0 : Fin 1) (0 : Fin 1))
  temp h := m ((c : Thread nD τ).loc main_arg7) (ix3 h (0 : Fin 1) (0 : Fin 1))
  a n := ![m ((c : Thread nD τ).loc main_arg8) (ix1 (0 : Fin 1)), m ((c : Thread nD τ).loc main_arg9) (ix1 (0 : Fin 1)),
    m ((c : Thread nD τ).loc main_arg10) (ix1 (0 : Fin 1)), m ((c : Thread nD τ).loc main_arg11) (ix1 (0 : Fin 1))] n

/-- The query image, its pixels in a row. -/
theorem host_xq (i : Fin 192) (p : Fin 50176) : V1 m c (Proc.devRef .tc main_v0) (ix2 i p) = (inputs m c).xq i p := by
  unfold V1
  entry_read
  pointwise
  rfl
/-- The key and value image, its pixels in a row. -/
theorem host_xkv (i : Fin 192) (p : Fin 50176) : V1 m c (Proc.devRef .tc main_v1) (ix2 i p) = (inputs m c).xkv i p := by
  unfold V1
  entry_read
  pointwise
  rfl
/-- The query weights as a matrix. -/
theorem host_wq (o i : Fin 192) : V1 m c (Proc.devRef .tc main_v2) (ix2 o i) = (inputs m c).wq o i := by
  unfold V1
  entry_read
  pointwise
  rfl
/-- The key and value weights as a matrix. -/
theorem host_wkv (o : Fin 384) (i : Fin 192) : V1 m c (Proc.devRef .tc main_v3) (ix2 o i) = (inputs m c).wkv o i := by
  unfold V1
  entry_read
  pointwise
  rfl
/-- The query's depthwise weights, nine to a channel. -/
theorem host_dq (o : Fin 192) (t : Fin 9) : V1 m c (Proc.devRef .tc main_v4) (ix2 o t) = (inputs m c).dq o t := by
  unfold V1
  entry_read
  pointwise
  rfl
/-- The key's and value's depthwise weights, nine to a channel. -/
theorem host_dkv (o : Fin 384) (t : Fin 9) : V1 m c (Proc.devRef .tc main_v5) (ix2 o t) = (inputs m c).dkv o t := by
  unfold V1
  entry_read
  pointwise
  rfl
/-- The projection as a matrix. -/
theorem host_wp (o i : Fin 192) : V1 m c (Proc.devRef .tc main_v6) (ix2 o i) = (inputs m c).wp o i := by
  unfold V1
  entry_read
  pointwise
  rfl
/-- The temperature of a head, in each lane. -/
theorem host_temp (h : Fin 8) (j : Fin 24) : V1 m c (Proc.devRef .tc main_v8) (ix2 h j) = (inputs m c).temp h := by
  unfold V1
  entry_read
  pointwise
  rfl
/-- The first mixture weight, in each row. -/
theorem host_a0 (r : Fin 8) : V1 m c (Proc.devRef .tc main_v11) (ix2 r (0 : Fin 4)) = (inputs m c).a 0 := by
  unfold V1
  entry_read
  pointwise
  rfl
/-- The second mixture weight, in each row. -/
theorem host_a1 (r : Fin 8) : V1 m c (Proc.devRef .tc main_v11) (ix2 r (1 : Fin 4)) = (inputs m c).a 1 := by
  unfold V1
  entry_read
  pointwise
  rfl
/-- The third mixture weight, in each row. -/
theorem host_a2 (r : Fin 8) : V1 m c (Proc.devRef .tc main_v11) (ix2 r (2 : Fin 4)) = (inputs m c).a 2 := by
  unfold V1
  entry_read
  pointwise
  rfl
/-- The fourth mixture weight, in each row. -/
theorem host_a3 (r : Fin 8) : V1 m c (Proc.devRef .tc main_v11) (ix2 r (3 : Fin 4)) = (inputs m c).a 3 := by
  unfold V1
  entry_read
  pointwise
  rfl

end Cert.KernelIdeal.Value

end
-- ==== Proof.KernelIdeal.First.lean ====
/-
What the first call leaves in its two output arrays: the pointwise convolutions.
-/
module

public import proofs.«01_k».proof.Proof.KernelIdeal.Host
public import proofs.«01_k».proof.Proof.KernelIdeal.Whole

@[expose] public section

set_option maxRecDepth 16384

noncomputable section

namespace Cert.KernelIdeal.Value

open Cert.KernelIdeal Cert.KernelIdeal.Gen Cert.KernelIdeal.Own Cert.KernelIdeal.Whole Cert.Attn
open Idealize.ShloMosaic Idealize.ShloMosaic.TcCoe
open Idealize.ShloMosaic.Rounds
open Idealize.ShloMosaic.Pipeline (Dat)

variable (m : (ℓ : Loc nD τ sig) → Buf (Elt Ideal) ℓ) (c : Dev nD)

/-- The block indices of the first call's windows at every point. -/
theorem idx0 : ∀ t : Fin cfg0.N, win0_0.index t = ![0, t.val] ∧ win0_1.index t = ![0, t.val]
    ∧ win0_2.index t = ![0, 0] ∧ win0_3.index t = ![0, 0] ∧ win0_4.index t = ![0, t.val] ∧ win0_5.index t = ![0, t.val] :=
  (by decide +kernel : ∀ t : Fin grid0.N, _)

/-- The first product of the body: weights times the block of pixels. -/
theorem k0_pay1_apply (w : FVec Ideal S192x192 .f32) (x : FVec Ideal S192x3584 .f32) (o : Fin 192) (p : Fin 3584) :
    k0_pay1 (F := Ideal) w x (ix2 o p) = ∑ i : Fin 192, w (ix2 o i) * x (ix2 i p) := by
  pointwise [k0_pay1]

/-- The second product of the body. -/
theorem k0_pay2_apply (w : FVec Ideal S384x192 .f32) (x : FVec Ideal S192x3584 .f32) (o : Fin 384) (p : Fin 3584) :
    k0_pay2 (F := Ideal) w x (ix2 o p) = ∑ i : Fin 192, w (ix2 o i) * x (ix2 i p) := by
  pointwise [k0_pay2]

/-- A grid point's number is below fourteen. -/
theorem lt14 (t : Fin cfg0.N) : t.val < 14 := t.isLt

/-- Pixel `p` of tile `t`. -/
abbrev tpix (t : Fin cfg0.N) (p : Fin 3584) : Fin 50176 := ⟨t.val * 3584 + p.val, by have := lt14 t; omega⟩

/-- The block of query pixels at point `t` is the tile of pixels that starts at `3584 t`. -/
theorem blk0_xq (t : Fin cfg0.N) (i : Fin 192) (p : Fin 3584) :
    K0.iblk (Ve0 m) c 0 t (ix2 i p) = (inputs m c).xq i (tpix t p) := by
  refine Eq.trans ?_ (host_xq m c i (tpix t p))
  blk_ext [K0.iblk, idx0 t]

/-- The block of key and value pixels at point `t` is the tile of pixels that starts at `3584 t`. -/
theorem blk0_xkv (t : Fin cfg0.N) (i : Fin 192) (p : Fin 3584) :
    K0.iblk (Ve0 m) c 1 t (ix2 i p) = (inputs m c).xkv i (tpix t p) := by
  refine Eq.trans ?_ (host_xkv m c i (tpix t p))
  blk_ext [K0.iblk, idx0 t]

/-- The block of query weights is the whole weight matrix. -/
theorem blk0_wq (t : Fin cfg0.N) (o i : Fin 192) : K0.iblk (Ve0 m) c 2 t (ix2 o i) = (inputs m c).wq o i := by
  refine Eq.trans ?_ (host_wq m c o i)
  blk_ext [K0.iblk, idx0 t]

/-- The block of key and value weights is the whole weight matrix. -/
theorem blk0_wkv (t : Fin cfg0.N) (o : Fin 384) (i : Fin 192) : K0.iblk (Ve0 m) c 3 t (ix2 o i) = (inputs m c).wkv o i := by
  refine Eq.trans ?_ (host_wkv m c o i)
  blk_ext [K0.iblk, idx0 t]

/-- The query image after the pointwise convolution. -/
def yq : FVec Ideal S192x50176 .bf16 := fun j => conv (inputs m c).wq (inputs m c).xq (j 0) (j 1)
/-- The key and value image after the pointwise convolution. -/
def ykv : FVec Ideal S384x50176 .bf16 := fun j => conv (inputs m c).wkv (inputs m c).xkv (j 0) (j 1)

/-- The first product over the blocks of point `t`. -/
theorem q_point (t : Fin cfg0.N) (o : Fin 192) (p : Fin 3584) :
    k0_pay1 (F := Ideal) (K0.iblk (Ve0 m) c 2 t) (K0.iblk (Ve0 m) c 0 t) (ix2 o p) = yq m c (ix2 o (tpix t p)) := by
  rw [k0_pay1_apply]
  show _ = ∑ i : Fin 192, (inputs m c).wq o i * (inputs m c).xq i (tpix t p)
  exact Finset.sum_congr rfl fun i _ => by rw [blk0_xq, blk0_wq]

/-- The second product over the blocks of point `t`. -/
theorem kv_point (t : Fin cfg0.N) (o : Fin 384) (p : Fin 3584) :
    k0_pay2 (F := Ideal) (K0.iblk (Ve0 m) c 3 t) (K0.iblk (Ve0 m) c 1 t) (ix2 o p) = ykv m c (ix2 o (tpix t p)) := by
  rw [k0_pay2_apply]
  show _ = ∑ i : Fin 192, (inputs m c).wkv o i * (inputs m c).xkv i (tpix t p)
  exact Finset.sum_congr rfl fun i _ => by rw [blk0_xkv, blk0_wkv]

/-- What the first call's data hold of its first output after the run. -/
theorem q_data : (K0.dat (U := UR sig nD τ) (Lvl := ℕ) (Ix := Unit) Variants.none (Ve0 m) D0 c).arrAt 4 cfg0.N = yq m c := by
  refine Dat.arrAt_eq_of_covers _ 4 _ (by decide +kernel) fun t _ y => ?_
  blk_simp
  rw [K0.after0_4]; unfold K0.outsAt0; dsimp only; frame_out
  idx_vars y
  have e : ((cfg0.win 4).blk t).view.emb (ix2 y0 y1) = ix2 y0 (tpix t y1) := by blk_ext [idx0 t]
  exact (q_point m c t y0 y1).trans (congrArg (yq m c) e.symm)

/-- The first call's first output array. -/
theorem q_array : outs m 2 main_v12_0 c = yq m c := (outs_q m c).trans (q_data m c)

/-- What the first call's data hold of its second output after the run. -/
theorem kv_data : (K0.dat (U := UR sig nD τ) (Lvl := ℕ) (Ix := Unit) Variants.none (Ve0 m) D0 c).arrAt 5 cfg0.N = ykv m c := by
  refine Dat.arrAt_eq_of_covers _ 5 _ (by decide +kernel) fun t _ y => ?_
  blk_simp
  rw [K0.after0_5]; unfold K0.outsAt0; dsimp only; frame_out
  idx_vars y
  have e : ((cfg0.win 5).blk t).view.emb (ix2 y0 y1) = ix2 y0 (tpix t y1) := by blk_ext [idx0 t]
  exact (kv_point m c t y0 y1).trans (congrArg (ykv m c) e.symm)

/-- The first call's second output array. -/
theorem kv_array : outs m 2 main_v12_1 c = ykv m c := (outs_kv m c).trans (kv_data m c)

end Cert.KernelIdeal.Value

end
-- ==== Proof.Sums.lean ====
/-
A sum over the pixels, chunk by chunk.
-/
module

public import Idealize.ShloMosaic.PureOps.Ideal

@[expose] public section

noncomputable section

namespace Cert.Attn

/-- The first `K` chunks of 3584 pixels, summed one after the other. -/
def chunks (f : ℕ → EReal) (K : ℕ) : EReal := ∑ c ∈ Finset.range K, ∑ p : Fin 3584, f (3584 * c + p.val)

/-- No chunk. -/
theorem chunks_zero (f : ℕ → EReal) : chunks f 0 = 0 := by simp [chunks]

/-- One more chunk. -/
theorem chunks_succ (f : ℕ → EReal) (K : ℕ) : chunks f (K + 1) = chunks f K + ∑ p : Fin 3584, f (3584 * K + p.val) := by
  simp [chunks, Finset.sum_range_succ]

/-- Some chunks are a sum over a range. -/
theorem chunks_eq_range (f : ℕ → EReal) (K : ℕ) : chunks f K = ∑ q ∈ Finset.range (3584 * K), f q := by
  induction K with
  | zero => simp [chunks]
  | succ K ih =>
    rw [chunks_succ, ih, Nat.mul_succ, Finset.sum_range_add, Finset.sum_range (n := 3584)]

/-- The fourteen chunks are all the pixels. -/
theorem chunks_all (f : ℕ → EReal) : chunks f 14 = ∑ p : Fin 50176, f p.val := by
  rw [chunks_eq_range, Finset.sum_range]

end Cert.Attn

end
-- ==== Proof.KernelIdeal.Taps.lean ====
/-
One chunk of the depthwise convolution in the kernel's own operations, read at an index: the nine shifted, masked tiles
times the nine weights are the convolution with a zero border.
-/
module

public import proofs.«01_k».proof.Proof.Spec
public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Taps

open Cert.KernelIdeal Cert.KernelIdeal.Gen Cert.Attn
open Idealize.ShloMosaic Idealize.ShloMosaic.TcCoe

/-- Lane `p`'s column is not the first. -/
theorem left_apply (p : Fin 3584) : k1_pay2 (ix2 (0 : Fin 1) p) = if p.val % 224 = 0 then 0#1 else 1#1 := by
  pointwise [k1_pay2, k1_pay1]
  revert p
  decide +kernel

/-- Lane `p`'s column is not the last. -/
theorem right_apply (p : Fin 3584) : k1_pay3 (ix2 (0 : Fin 1) p) = if p.val % 224 = 223 then 0#1 else 1#1 := by
  pointwise [k1_pay3, k1_pay1]
  revert p
  decide +kernel

/-- One weight of every channel, along the lanes. -/
def wt (taps : FVec Ideal S24x9 .f32) (t : ℕ) (h : S24x9.Slices ![0, t] S24x1) : FVec Ideal S24x3584 .f32 :=
  broadcastTo S24x3584 (shapeCast S24x1 (shapeCast S24 (extractStridedSlice S24x1 ![0, t] taps h) shapeCasts_S24x1_S24) shapeCasts_S24_S24x1) broadcasts_S24x1_S24x3584

/-- A tile with the lanes outside the mask at zero. -/
def msk (M : IVec S1x3584 1) (s : FVec Ideal S24x3584 .bf16) : FVec Ideal S24x3584 .f32 :=
  select (broadcastTo S24x3584 (shapeCast S1x3584 M shapeCasts_S1x3584_S1x3584) broadcasts_S1x3584_S24x3584)
    (extf .f32 s bitsLt_bf16_f32) (broadcast S24x3584 (Scalar.ofBits .f32 0x00000000#32))

/-- The nine weighted tiles of a chunk, added one after the other. -/
def dwSum (taps : FVec Ideal S24x9 .f32) (L R : IVec S1x3584 1) (a b c d e f g h i : FVec Ideal S24x3584 .bf16) :
    FVec Ideal S24x3584 .f32 :=
  addf (addf (addf (addf (addf (addf (addf (addf
    (mulf (wt taps 0 slices_S24x9_o0_0_S24x1) (msk L a))
    (mulf (wt taps 1 slices_S24x9_o0_1_S24x1) (extf .f32 b bitsLt_bf16_f32)))
    (mulf (wt taps 2 slices_S24x9_o0_2_S24x1) (msk R c)))
    (mulf (wt taps 3 slices_S24x9_o0_3_S24x1) (msk L d)))
    (mulf (wt taps 4 slices_S24x9_o0_4_S24x1) (extf .f32 e bitsLt_bf16_f32)))
    (mulf (wt taps 5 slices_S24x9_o0_5_S24x1) (msk R f)))
    (mulf (wt taps 6 slices_S24x9_o0_6_S24x1) (msk L g)))
    (mulf (wt taps 7 slices_S24x9_o0_7_S24x1) (extf .f32 h bitsLt_bf16_f32)))
    (mulf (wt taps 8 slices_S24x9_o0_8_S24x1) (msk R i))

/-- A weight along the lanes, at an index. -/
theorem wt_apply (taps : FVec Ideal S24x9 .f32) (t : ℕ) (h : S24x9.Slices ![0, t] S24x1) (ht : t < 9) (r : Fin 24) (p : Fin 3584) :
    wt taps t h (ix2 r p) = taps (ix2 r (⟨t, ht⟩ : Fin 9)) := by
  pointwise [wt]

/-- A masked tile at an index. -/
theorem msk_apply (M : IVec S1x3584 1) (s : FVec Ideal S24x3584 .bf16) (r : Fin 24) (p : Fin 3584) :
    msk M s (ix2 r p) = if M (ix2 (0 : Fin 1) p) = 1#1 then s (ix2 r p) else 0 := by
  pointwise [msk]
  rfl

/-- A row of a 24-channel array. -/
abbrev row (y : FVec Ideal S24x50176 .bf16) (r : Fin 24) : Row := fun p => y (ix2 r p)

/-- A loaded tile of 3584 lanes at an index. -/
theorem load3584_apply (a : Memref sig .tc .vmem S24x50176 .bf16) (ha : a.IsWhole) (y : Vec Ideal S24x50176 .bf16) (off : ℕ)
    (h : ∀ i, (![0, off] : Fin 2 → ℕ) i + S24x3584.size i ≤ S24x50176.size i) (hc : S24x3584.ShapeCasts S24x3584) (r : Fin 24) (p : Fin 3584) :
    shapeCast S24x3584 (View.readAt (Elt Ideal) a.view (Rect.unit (s := S24x50176) ![0, off] S24x3584.size h).toLoadRect (ha.unread y)) hc (ix2 r p)
      = px (row y r) (off + p.val) := by
  have h1 : off + 3584 ≤ 50176 := h 1
  rw [View.readAt_eq_ld, Memref.IsWhole.read_unread]
  pointwise
  rw [px, dif_pos (show off + p.val < 50176 by omega)]

/-- A loaded tile of 3583 lanes at an index. -/
theorem load3583_apply (a : Memref sig .tc .vmem S24x50176 .bf16) (ha : a.IsWhole) (y : Vec Ideal S24x50176 .bf16) (off : ℕ)
    (h : ∀ i, (![0, off] : Fin 2 → ℕ) i + S24x3583.size i ≤ S24x50176.size i) (hc : S24x3583.ShapeCasts S24x3583) (r : Fin 24) (p : Fin 3583) :
    shapeCast S24x3583 (View.readAt (Elt Ideal) a.view (Rect.unit (s := S24x50176) ![0, off] S24x3583.size h).toLoadRect (ha.unread y)) hc (ix2 r p)
      = px (row y r) (off + p.val) := by
  have h1 : off + 3583 ≤ 50176 := h 1
  rw [View.readAt_eq_ld, Memref.IsWhole.read_unread]
  pointwise
  rw [px, dif_pos (show off + p.val < 50176 by omega)]

/-- A loaded tile of 3361 lanes at an index. -/
theorem load3361_apply (a : Memref sig .tc .vmem S24x50176 .bf16) (ha : a.IsWhole) (y : Vec Ideal S24x50176 .bf16) (off : ℕ)
    (h : ∀ i, (![0, off] : Fin 2 → ℕ) i + S24x3361.size i ≤ S24x50176.size i) (hc : S24x3361.ShapeCasts S24x3361) (r : Fin 24) (p : Fin 3361) :
    shapeCast S24x3361 (View.readAt (Elt Ideal) a.view (Rect.unit (s := S24x50176) ![0, off] S24x3361.size h).toLoadRect (ha.unread y)) hc (ix2 r p)
      = px (row y r) (off + p.val) := by
  have h1 : off + 3361 ≤ 50176 := h 1
  rw [View.readAt_eq_ld, Memref.IsWhole.read_unread]
  pointwise
  rw [px, dif_pos (show off + p.val < 50176 by omega)]

/-- A loaded tile of 3360 lanes at an index. -/
theorem load3360_apply (a : Memref sig .tc .vmem S24x50176 .bf16) (ha : a.IsWhole) (y : Vec Ideal S24x50176 .bf16) (off : ℕ)
    (h : ∀ i, (![0, off] : Fin 2 → ℕ) i + S24x3360.size i ≤ S24x50176.size i) (hc : S24x3360.ShapeCasts S24x3360) (r : Fin 24) (p : Fin 3360) :
    shapeCast S24x3360 (View.readAt (Elt Ideal) a.view (Rect.unit (s := S24x50176) ![0, off] S24x3360.size h).toLoadRect (ha.unread y)) hc (ix2 r p)
      = px (row y r) (off + p.val) := by
  have h1 : off + 3360 ≤ 50176 := h 1
  rw [View.readAt_eq_ld, Memref.IsWhole.read_unread]
  pointwise
  rw [px, dif_pos (show off + p.val < 50176 by omega)]

/-- A loaded tile of 3359 lanes at an index. -/
theorem load3359_apply (a : Memref sig .tc .vmem S24x50176 .bf16) (ha : a.IsWhole) (y : Vec Ideal S24x50176 .bf16) (off : ℕ)
    (h : ∀ i, (![0, off] : Fin 2 → ℕ) i + S24x3359.size i ≤ S24x50176.size i) (hc : S24x3359.ShapeCasts S24x3359) (r : Fin 24) (p : Fin 3359) :
    shapeCast S24x3359 (View.readAt (Elt Ideal) a.view (Rect.unit (s := S24x50176) ![0, off] S24x3359.size h).toLoadRect (ha.unread y)) hc (ix2 r p)
      = px (row y r) (off + p.val) := by
  have h1 : off + 3359 ≤ 50176 := h 1
  rw [View.readAt_eq_ld, Memref.IsWhole.read_unread]
  pointwise
  rw [px, dif_pos (show off + p.val < 50176 by omega)]

/-- The first tile of a row, 1 zero lanes before it, at an index. -/
theorem lo1_apply (a : Memref sig .tc .vmem S24x50176 .bf16) (ha : a.IsWhole) (y : Vec Ideal S24x50176 .bf16)
    (h : ∀ i, (![0, 0] : Fin 2 → ℕ) i + S24x3583.size i ≤ S24x50176.size i) (hc : S24x3583.ShapeCasts S24x3583) (hk) (r : Fin 24) (p : Fin 3584) :
    concatenate S24x3584 1 [⟨S24x1, broadcast S24x1 (Scalar.sitofp (F := Ideal) .bf16 0#32)⟩, ⟨S24x3583, shapeCast S24x3583 (View.readAt (Elt Ideal) a.view (Rect.unit (s := S24x50176) ![0, 0] S24x3583.size h).toLoadRect (ha.unread y)) hc⟩] hk (ix2 r p)
      = if p.val < 1 then 0 else px (row y r) (p.val - 1) := by
  generalize hs : shapeCast S24x3583 (View.readAt (Elt Ideal) a.view (Rect.unit (s := S24x50176) ![0, 0] S24x3583.size h).toLoadRect (ha.unread y)) hc = z
  have hz : ∀ q : Fin 3583, z (ix2 r q) = px (row y r) (0 + q.val) := fun q => by rw [← hs]; exact load3583_apply a ha y 0 h hc r q
  pointwise
  split_ifs
  all_goals first | rw [hz, Nat.zero_add] | (simp; done)

/-- The last tile of a row, 1 zero lanes after it, at an index. -/
theorem hi1_apply (a : Memref sig .tc .vmem S24x50176 .bf16) (ha : a.IsWhole) (y : Vec Ideal S24x50176 .bf16)
    (h : ∀ i, (![0, 46593] : Fin 2 → ℕ) i + S24x3583.size i ≤ S24x50176.size i) (hc : S24x3583.ShapeCasts S24x3583) (hk) (r : Fin 24) (p : Fin 3584) :
    concatenate S24x3584 1 [⟨S24x3583, shapeCast S24x3583 (View.readAt (Elt Ideal) a.view (Rect.unit (s := S24x50176) ![0, 46593] S24x3583.size h).toLoadRect (ha.unread y)) hc⟩, ⟨S24x1, broadcast S24x1 (Scalar.sitofp (F := Ideal) .bf16 0#32)⟩] hk (ix2 r p)
      = px (row y r) (46593 + p.val) := by
  generalize hs : shapeCast S24x3583 (View.readAt (Elt Ideal) a.view (Rect.unit (s := S24x50176) ![0, 46593] S24x3583.size h).toLoadRect (ha.unread y)) hc = z
  have hz : ∀ q : Fin 3583, z (ix2 r q) = px (row y r) (46593 + q.val) := fun q => by rw [← hs]; exact load3583_apply a ha y _ h hc r q
  pointwise
  split_ifs
  all_goals first | rw [hz] | (rw [px, dif_neg (by omega)]; simp; done)

/-- The first tile of a row, 223 zero lanes before it, at an index. -/
theorem lo223_apply (a : Memref sig .tc .vmem S24x50176 .bf16) (ha : a.IsWhole) (y : Vec Ideal S24x50176 .bf16)
    (h : ∀ i, (![0, 0] : Fin 2 → ℕ) i + S24x3361.size i ≤ S24x50176.size i) (hc : S24x3361.ShapeCasts S24x3361) (hk) (r : Fin 24) (p : Fin 3584) :
    concatenate S24x3584 1 [⟨S24x223, broadcast S24x223 (Scalar.sitofp (F := Ideal) .bf16 0#32)⟩, ⟨S24x3361, shapeCast S24x3361 (View.readAt (Elt Ideal) a.view (Rect.unit (s := S24x50176) ![0, 0] S24x3361.size h).toLoadRect (ha.unread y)) hc⟩] hk (ix2 r p)
      = if p.val < 223 then 0 else px (row y r) (p.val - 223) := by
  generalize hs : shapeCast S24x3361 (View.readAt (Elt Ideal) a.view (Rect.unit (s := S24x50176) ![0, 0] S24x3361.size h).toLoadRect (ha.unread y)) hc = z
  have hz : ∀ q : Fin 3361, z (ix2 r q) = px (row y r) (0 + q.val) := fun q => by rw [← hs]; exact load3361_apply a ha y 0 h hc r q
  pointwise
  split_ifs
  all_goals first | rw [hz, Nat.zero_add] | (simp; done)

/-- The last tile of a row, 223 zero lanes after it, at an index. -/
theorem hi223_apply (a : Memref sig .tc .vmem S24x50176 .bf16) (ha : a.IsWhole) (y : Vec Ideal S24x50176 .bf16)
    (h : ∀ i, (![0, 46815] : Fin 2 → ℕ) i + S24x3361.size i ≤ S24x50176.size i) (hc : S24x3361.ShapeCasts S24x3361) (hk) (r : Fin 24) (p : Fin 3584) :
    concatenate S24x3584 1 [⟨S24x3361, shapeCast S24x3361 (View.readAt (Elt Ideal) a.view (Rect.unit (s := S24x50176) ![0, 46815] S24x3361.size h).toLoadRect (ha.unread y)) hc⟩, ⟨S24x223, broadcast S24x223 (Scalar.sitofp (F := Ideal) .bf16 0#32)⟩] hk (ix2 r p)
      = px (row y r) (46815 + p.val) := by
  generalize hs : shapeCast S24x3361 (View.readAt (Elt Ideal) a.view (Rect.unit (s := S24x50176) ![0, 46815] S24x3361.size h).toLoadRect (ha.unread y)) hc = z
  have hz : ∀ q : Fin 3361, z (ix2 r q) = px (row y r) (46815 + q.val) := fun q => by rw [← hs]; exact load3361_apply a ha y _ h hc r q
  pointwise
  split_ifs
  all_goals first | rw [hz] | (rw [px, dif_neg (by omega)]; simp; done)

/-- The first tile of a row, 224 zero lanes before it, at an index. -/
theorem lo224_apply (a : Memref sig .tc .vmem S24x50176 .bf16) (ha : a.IsWhole) (y : Vec Ideal S24x50176 .bf16)
    (h : ∀ i, (![0, 0] : Fin 2 → ℕ) i + S24x3360.size i ≤ S24x50176.size i) (hc : S24x3360.ShapeCasts S24x3360) (hk) (r : Fin 24) (p : Fin 3584) :
    concatenate S24x3584 1 [⟨S24x224, broadcast S24x224 (Scalar.sitofp (F := Ideal) .bf16 0#32)⟩, ⟨S24x3360, shapeCast S24x3360 (View.readAt (Elt Ideal) a.view (Rect.unit (s := S24x50176) ![0, 0] S24x3360.size h).toLoadRect (ha.unread y)) hc⟩] hk (ix2 r p)
      = if p.val < 224 then 0 else px (row y r) (p.val - 224) := by
  generalize hs : shapeCast S24x3360 (View.readAt (Elt Ideal) a.view (Rect.unit (s := S24x50176) ![0, 0] S24x3360.size h).toLoadRect (ha.unread y)) hc = z
  have hz : ∀ q : Fin 3360, z (ix2 r q) = px (row y r) (0 + q.val) := fun q => by rw [← hs]; exact load3360_apply a ha y 0 h hc r q
  pointwise
  split_ifs
  all_goals first | rw [hz, Nat.zero_add] | (simp; done)

/-- The last tile of a row, 224 zero lanes after it, at an index. -/
theorem hi224_apply (a : Memref sig .tc .vmem S24x50176 .bf16) (ha : a.IsWhole) (y : Vec Ideal S24x50176 .bf16)
    (h : ∀ i, (![0, 46816] : Fin 2 → ℕ) i + S24x3360.size i ≤ S24x50176.size i) (hc : S24x3360.ShapeCasts S24x3360) (hk) (r : Fin 24) (p : Fin 3584) :
    concatenate S24x3584 1 [⟨S24x3360, shapeCast S24x3360 (View.readAt (Elt Ideal) a.view (Rect.unit (s := S24x50176) ![0, 46816] S24x3360.size h).toLoadRect (ha.unread y)) hc⟩, ⟨S24x224, broadcast S24x224 (Scalar.sitofp (F := Ideal) .bf16 0#32)⟩] hk (ix2 r p)
      = px (row y r) (46816 + p.val) := by
  generalize hs : shapeCast S24x3360 (View.readAt (Elt Ideal) a.view (Rect.unit (s := S24x50176) ![0, 46816] S24x3360.size h).toLoadRect (ha.unread y)) hc = z
  have hz : ∀ q : Fin 3360, z (ix2 r q) = px (row y r) (46816 + q.val) := fun q => by rw [← hs]; exact load3360_apply a ha y _ h hc r q
  pointwise
  split_ifs
  all_goals first | rw [hz] | (rw [px, dif_neg (by omega)]; simp; done)

/-- The first tile of a row, 225 zero lanes before it, at an index. -/
theorem lo225_apply (a : Memref sig .tc .vmem S24x50176 .bf16) (ha : a.IsWhole) (y : Vec Ideal S24x50176 .bf16)
    (h : ∀ i, (![0, 0] : Fin 2 → ℕ) i + S24x3359.size i ≤ S24x50176.size i) (hc : S24x3359.ShapeCasts S24x3359) (hk) (r : Fin 24) (p : Fin 3584) :
    concatenate S24x3584 1 [⟨S24x225, broadcast S24x225 (Scalar.sitofp (F := Ideal) .bf16 0#32)⟩, ⟨S24x3359, shapeCast S24x3359 (View.readAt (Elt Ideal) a.view (Rect.unit (s := S24x50176) ![0, 0] S24x3359.size h).toLoadRect (ha.unread y)) hc⟩] hk (ix2 r p)
      = if p.val < 225 then 0 else px (row y r) (p.val - 225) := by
  generalize hs : shapeCast S24x3359 (View.readAt (Elt Ideal) a.view (Rect.unit (s := S24x50176) ![0, 0] S24x3359.size h).toLoadRect (ha.unread y)) hc = z
  have hz : ∀ q : Fin 3359, z (ix2 r q) = px (row y r) (0 + q.val) := fun q => by rw [← hs]; exact load3359_apply a ha y 0 h hc r q
  pointwise
  split_ifs
  all_goals first | rw [hz, Nat.zero_add] | (simp; done)

/-- The last tile of a row, 225 zero lanes after it, at an index. -/
theorem hi225_apply (a : Memref sig .tc .vmem S24x50176 .bf16) (ha : a.IsWhole) (y : Vec Ideal S24x50176 .bf16)
    (h : ∀ i, (![0, 46817] : Fin 2 → ℕ) i + S24x3359.size i ≤ S24x50176.size i) (hc : S24x3359.ShapeCasts S24x3359) (hk) (r : Fin 24) (p : Fin 3584) :
    concatenate S24x3584 1 [⟨S24x3359, shapeCast S24x3359 (View.readAt (Elt Ideal) a.view (Rect.unit (s := S24x50176) ![0, 46817] S24x3359.size h).toLoadRect (ha.unread y)) hc⟩, ⟨S24x225, broadcast S24x225 (Scalar.sitofp (F := Ideal) .bf16 0#32)⟩] hk (ix2 r p)
      = px (row y r) (46817 + p.val) := by
  generalize hs : shapeCast S24x3359 (View.readAt (Elt Ideal) a.view (Rect.unit (s := S24x50176) ![0, 46817] S24x3359.size h).toLoadRect (ha.unread y)) hc = z
  have hz : ∀ q : Fin 3359, z (ix2 r q) = px (row y r) (46817 + q.val) := fun q => by rw [← hs]; exact load3359_apply a ha y _ h hc r q
  pointwise
  split_ifs
  all_goals first | rw [hz] | (rw [px, dif_neg (by omega)]; simp; done)

/-- A pixel of the row shifted by `d - 225`, zero before its beginning and past its end. -/
def sh (y : Row) (d P : ℕ) : EReal := if 225 ≤ P + d then px y (P + d - 225) else 0

/-- A neighbour in the left column, masked, is the neighbour of the zero-bordered image. -/
theorem tap_left (y : Row) (i P : ℕ) (hi : i ≤ 2) (hP : P < 50176) :
    (if P % 224 = 0 then 0 else sh y (i * 224 + 0) P) = tap y i 0 P := by
  unfold sh tap px
  split_ifs <;> first | rfl | omega

/-- A neighbour in the middle column. -/
theorem tap_mid (y : Row) (i P : ℕ) (hi : i ≤ 2) (hP : P < 50176) : sh y (i * 224 + 1) P = tap y i 1 P := by
  unfold sh tap px
  split_ifs <;> first | rfl | omega

/-- A neighbour in the right column, masked. -/
theorem tap_right (y : Row) (i P : ℕ) (hi : i ≤ 2) (hP : P < 50176) :
    (if P % 224 = 223 then 0 else sh y (i * 224 + 2) P) = tap y i 2 P := by
  unfold sh tap px
  split_ifs <;> first | rfl | omega

/-- The nine weighted tiles of the chunk that starts at `base`, at an index: the depthwise convolution there. -/
theorem dwSum_apply (taps : FVec Ideal S24x9 .f32) (y : Row) (base : ℕ) (hb : base % 224 = 0) (hB : base + 3584 ≤ 50176)
    (a b c d e f g h i : FVec Ideal S24x3584 .bf16) (r : Fin 24) (p : Fin 3584)
    (ha : a (ix2 r p) = sh y 0 (base + p.val)) (hb' : b (ix2 r p) = sh y 1 (base + p.val)) (hc : c (ix2 r p) = sh y 2 (base + p.val))
    (hd : d (ix2 r p) = sh y 224 (base + p.val)) (he : e (ix2 r p) = sh y 225 (base + p.val)) (hf : f (ix2 r p) = sh y 226 (base + p.val))
    (hg : g (ix2 r p) = sh y 448 (base + p.val)) (hh : h (ix2 r p) = sh y 449 (base + p.val)) (hi : i (ix2 r p) = sh y 450 (base + p.val)) :
    dwSum taps k1_pay2 k1_pay3 a b c d e f g h i (ix2 r p) = dw (fun t => taps (ix2 r t)) y (base + p.val) := by
  have hp := p.isLt
  have hl : (base + p.val) % 224 = p.val % 224 := by omega
  have ml : ∀ z : EReal, (if k1_pay2 (ix2 (0 : Fin 1) p) = 1#1 then z else 0) = if (base + p.val) % 224 = 0 then 0 else z := by
    intro z; rw [left_apply, hl]; split_ifs <;> simp_all
  have mr : ∀ z : EReal, (if k1_pay3 (ix2 (0 : Fin 1) p) = 1#1 then z else 0) = if (base + p.val) % 224 = 223 then 0 else z := by
    intro z; rw [right_apply, hl]; split_ifs <;> simp_all
  have e0 := tap_left y 0 (base + p.val) (by omega) (by omega)
  have e1 := tap_mid y 0 (base + p.val) (by omega) (by omega)
  have e2 := tap_right y 0 (base + p.val) (by omega) (by omega)
  have e3 := tap_left y 1 (base + p.val) (by omega) (by omega)
  have e4 := tap_mid y 1 (base + p.val) (by omega) (by omega)
  have e5 := tap_right y 1 (base + p.val) (by omega) (by omega)
  have e6 := tap_left y 2 (base + p.val) (by omega) (by omega)
  have e7 := tap_mid y 2 (base + p.val) (by omega) (by omega)
  have e8 := tap_right y 2 (base + p.val) (by omega) (by omega)
  simp only [Nat.zero_mul, Nat.one_mul, Nat.zero_add, Nat.add_zero, Nat.reduceMul, Nat.reduceAdd] at e0 e1 e2 e3 e4 e5 e6 e7 e8
  rw [dw, ← e0, ← e1, ← e2, ← e3, ← e4, ← e5, ← e6, ← e7, ← e8, ← ha, ← hb', ← hc, ← hd, ← he, ← hf, ← hg, ← hh, ← hi]
  simp only [← ml, ← mr, ← msk_apply]
  simp only [dwSum]
  pointwise
  simp only [wt_apply _ _ _ (show 0 < 9 by omega), wt_apply _ _ _ (show 1 < 9 by omega), wt_apply _ _ _ (show 2 < 9 by omega),
    wt_apply _ _ _ (show 3 < 9 by omega), wt_apply _ _ _ (show 4 < 9 by omega), wt_apply _ _ _ (show 5 < 9 by omega),
    wt_apply _ _ _ (show 6 < 9 by omega), wt_apply _ _ _ (show 7 < 9 by omega), wt_apply _ _ _ (show 8 < 9 by omega)]
  rfl

/-- A chunk's shifted tile lies inside the row. -/
theorem inb_mid (base d : ℕ) (h1 : 225 ≤ base) (h2 : base + 3809 ≤ 50176) (hd : d ≤ 450) :
    ∀ i, (![0, base + d - 225] : Fin 2 → ℕ) i + S24x3584.size i ≤ S24x50176.size i := fun i => by
  have e : S24x3584.size = ![24, 3584] := rfl
  have e' : S24x50176.size = ![24, 50176] := rfl
  rw [e, e']
  fin_cases i
  · simp
  · simp; omega

/-- The convolution of a chunk inside the row, in the kernel's operations. -/
def midChunk (taps : FVec Ideal S24x9 .f32) (a : Memref sig .tc .vmem S24x50176 .bf16) (ha : a.IsWhole) (y : Vec Ideal S24x50176 .bf16) (base : ℕ) (h1 : 225 ≤ base) (h2 : base + 3809 ≤ 50176) : FVec Ideal S24x3584 .f32 :=
  dwSum taps k1_pay2 k1_pay3
    (shapeCast S24x3584 (View.readAt (Elt Ideal) a.view (Rect.unit (s := S24x50176) ![0, base + 0 - 225] S24x3584.size (inb_mid base 0 h1 h2 (by omega))).toLoadRect (ha.unread y)) shapeCasts_S24x3584_S24x3584)
    (shapeCast S24x3584 (View.readAt (Elt Ideal) a.view (Rect.unit (s := S24x50176) ![0, base + 1 - 225] S24x3584.size (inb_mid base 1 h1 h2 (by omega))).toLoadRect (ha.unread y)) shapeCasts_S24x3584_S24x3584)
    (shapeCast S24x3584 (View.readAt (Elt Ideal) a.view (Rect.unit (s := S24x50176) ![0, base + 2 - 225] S24x3584.size (inb_mid base 2 h1 h2 (by omega))).toLoadRect (ha.unread y)) shapeCasts_S24x3584_S24x3584)
    (shapeCast S24x3584 (View.readAt (Elt Ideal) a.view (Rect.unit (s := S24x50176) ![0, base + 224 - 225] S24x3584.size (inb_mid base 224 h1 h2 (by omega))).toLoadRect (ha.unread y)) shapeCasts_S24x3584_S24x3584)
    (shapeCast S24x3584 (View.readAt (Elt Ideal) a.view (Rect.unit (s := S24x50176) ![0, base + 225 - 225] S24x3584.size (inb_mid base 225 h1 h2 (by omega))).toLoadRect (ha.unread y)) shapeCasts_S24x3584_S24x3584)
    (shapeCast S24x3584 (View.readAt (Elt Ideal) a.view (Rect.unit (s := S24x50176) ![0, base + 226 - 225] S24x3584.size (inb_mid base 226 h1 h2 (by omega))).toLoadRect (ha.unread y)) shapeCasts_S24x3584_S24x3584)
    (shapeCast S24x3584 (View.readAt (Elt Ideal) a.view (Rect.unit (s := S24x50176) ![0, base + 448 - 225] S24x3584.size (inb_mid base 448 h1 h2 (by omega))).toLoadRect (ha.unread y)) shapeCasts_S24x3584_S24x3584)
    (shapeCast S24x3584 (View.readAt (Elt Ideal) a.view (Rect.unit (s := S24x50176) ![0, base + 449 - 225] S24x3584.size (inb_mid base 449 h1 h2 (by omega))).toLoadRect (ha.unread y)) shapeCasts_S24x3584_S24x3584)
    (shapeCast S24x3584 (View.readAt (Elt Ideal) a.view (Rect.unit (s := S24x50176) ![0, base + 450 - 225] S24x3584.size (inb_mid base 450 h1 h2 (by omega))).toLoadRect (ha.unread y)) shapeCasts_S24x3584_S24x3584)

/-- The convolution of the first chunk, zero lanes before the tiles that start too early. -/
def firstChunk (taps : FVec Ideal S24x9 .f32) (a : Memref sig .tc .vmem S24x50176 .bf16) (ha : a.IsWhole) (y : Vec Ideal S24x50176 .bf16) : FVec Ideal S24x3584 .f32 :=
  dwSum taps k1_pay2 k1_pay3
    (concatenate S24x3584 1 [⟨S24x225, broadcast S24x225 (Scalar.sitofp (F := Ideal) .bf16 0#32)⟩, ⟨S24x3359, (shapeCast S24x3359 (View.readAt (Elt Ideal) a.view (Rect.unit (s := S24x50176) ![0, 0] S24x3359.size inb_S24x50176_S24x3359_0_0).toLoadRect (ha.unread y)) shapeCasts_S24x3359_S24x3359)⟩] concatenates_S24x225_S24x3359_S24x3584_d1)
    (concatenate S24x3584 1 [⟨S24x224, broadcast S24x224 (Scalar.sitofp (F := Ideal) .bf16 0#32)⟩, ⟨S24x3360, (shapeCast S24x3360 (View.readAt (Elt Ideal) a.view (Rect.unit (s := S24x50176) ![0, 0] S24x3360.size inb_S24x50176_S24x3360_0_0).toLoadRect (ha.unread y)) shapeCasts_S24x3360_S24x3360)⟩] concatenates_S24x224_S24x3360_S24x3584_d1)
    (concatenate S24x3584 1 [⟨S24x223, broadcast S24x223 (Scalar.sitofp (F := Ideal) .bf16 0#32)⟩, ⟨S24x3361, (shapeCast S24x3361 (View.readAt (Elt Ideal) a.view (Rect.unit (s := S24x50176) ![0, 0] S24x3361.size inb_S24x50176_S24x3361_0_0).toLoadRect (ha.unread y)) shapeCasts_S24x3361_S24x3361)⟩] concatenates_S24x223_S24x3361_S24x3584_d1)
    (concatenate S24x3584 1 [⟨S24x1, broadcast S24x1 (Scalar.sitofp (F := Ideal) .bf16 0#32)⟩, ⟨S24x3583, (shapeCast S24x3583 (View.readAt (Elt Ideal) a.view (Rect.unit (s := S24x50176) ![0, 0] S24x3583.size inb_S24x50176_S24x3583_0_0).toLoadRect (ha.unread y)) shapeCasts_S24x3583_S24x3583)⟩] concatenates_S24x1_S24x3583_S24x3584_d1)
    (shapeCast S24x3584 (View.readAt (Elt Ideal) a.view (Rect.unit (s := S24x50176) ![0, 0] S24x3584.size inb_S24x50176_S24x3584_0_0).toLoadRect (ha.unread y)) shapeCasts_S24x3584_S24x3584)
    (shapeCast S24x3584 (View.readAt (Elt Ideal) a.view (Rect.unit (s := S24x50176) ![0, 1] S24x3584.size inb_S24x50176_S24x3584_0_1).toLoadRect (ha.unread y)) shapeCasts_S24x3584_S24x3584)
    (shapeCast S24x3584 (View.readAt (Elt Ideal) a.view (Rect.unit (s := S24x50176) ![0, 223] S24x3584.size inb_S24x50176_S24x3584_0_223).toLoadRect (ha.unread y)) shapeCasts_S24x3584_S24x3584)
    (shapeCast S24x3584 (View.readAt (Elt Ideal) a.view (Rect.unit (s := S24x50176) ![0, 224] S24x3584.size inb_S24x50176_S24x3584_0_224).toLoadRect (ha.unread y)) shapeCasts_S24x3584_S24x3584)
    (shapeCast S24x3584 (View.readAt (Elt Ideal) a.view (Rect.unit (s := S24x50176) ![0, 225] S24x3584.size inb_S24x50176_S24x3584_0_225).toLoadRect (ha.unread y)) shapeCasts_S24x3584_S24x3584)

/-- The convolution of the last chunk, zero lanes after the tiles that end too late. -/
def lastChunk (taps : FVec Ideal S24x9 .f32) (a : Memref sig .tc .vmem S24x50176 .bf16) (ha : a.IsWhole) (y : Vec Ideal S24x50176 .bf16) : FVec Ideal S24x3584 .f32 :=
  dwSum taps k1_pay2 k1_pay3
    (shapeCast S24x3584 (View.readAt (Elt Ideal) a.view (Rect.unit (s := S24x50176) ![0, 46367] S24x3584.size inb_S24x50176_S24x3584_0_46367).toLoadRect (ha.unread y)) shapeCasts_S24x3584_S24x3584)
    (shapeCast S24x3584 (View.readAt (Elt Ideal) a.view (Rect.unit (s := S24x50176) ![0, 46368] S24x3584.size inb_S24x50176_S24x3584_0_46368).toLoadRect (ha.unread y)) shapeCasts_S24x3584_S24x3584)
    (shapeCast S24x3584 (View.readAt (Elt Ideal) a.view (Rect.unit (s := S24x50176) ![0, 46369] S24x3584.size inb_S24x50176_S24x3584_0_46369).toLoadRect (ha.unread y)) shapeCasts_S24x3584_S24x3584)
    (shapeCast S24x3584 (View.readAt (Elt Ideal) a.view (Rect.unit (s := S24x50176) ![0, 46591] S24x3584.size inb_S24x50176_S24x3584_0_46591).toLoadRect (ha.unread y)) shapeCasts_S24x3584_S24x3584)
    (shapeCast S24x3584 (View.readAt (Elt Ideal) a.view (Rect.unit (s := S24x50176) ![0, 46592] S24x3584.size inb_S24x50176_S24x3584_0_46592).toLoadRect (ha.unread y)) shapeCasts_S24x3584_S24x3584)
    (concatenate S24x3584 1 [⟨S24x3583, (shapeCast S24x3583 (View.readAt (Elt Ideal) a.view (Rect.unit (s := S24x50176) ![0, 46593] S24x3583.size inb_S24x50176_S24x3583_0_46593).toLoadRect (ha.unread y)) shapeCasts_S24x3583_S24x3583)⟩, ⟨S24x1, broadcast S24x1 (Scalar.sitofp (F := Ideal) .bf16 0#32)⟩] concatenates_S24x3583_S24x1_S24x3584_d1)
    (concatenate S24x3584 1 [⟨S24x3361, (shapeCast S24x3361 (View.readAt (Elt Ideal) a.view (Rect.unit (s := S24x50176) ![0, 46815] S24x3361.size inb_S24x50176_S24x3361_0_46815).toLoadRect (ha.unread y)) shapeCasts_S24x3361_S24x3361)⟩, ⟨S24x223, broadcast S24x223 (Scalar.sitofp (F := Ideal) .bf16 0#32)⟩] concatenates_S24x3361_S24x223_S24x3584_d1)
    (concatenate S24x3584 1 [⟨S24x3360, (shapeCast S24x3360 (View.readAt (Elt Ideal) a.view (Rect.unit (s := S24x50176) ![0, 46816] S24x3360.size inb_S24x50176_S24x3360_0_46816).toLoadRect (ha.unread y)) shapeCasts_S24x3360_S24x3360)⟩, ⟨S24x224, broadcast S24x224 (Scalar.sitofp (F := Ideal) .bf16 0#32)⟩] concatenates_S24x3360_S24x224_S24x3584_d1)
    (concatenate S24x3584 1 [⟨S24x3359, (shapeCast S24x3359 (View.readAt (Elt Ideal) a.view (Rect.unit (s := S24x50176) ![0, 46817] S24x3359.size inb_S24x50176_S24x3359_0_46817).toLoadRect (ha.unread y)) shapeCasts_S24x3359_S24x3359)⟩, ⟨S24x225, broadcast S24x225 (Scalar.sitofp (F := Ideal) .bf16 0#32)⟩] concatenates_S24x3359_S24x225_S24x3584_d1)

/-- The convolution of a chunk inside the row, at an index. -/
theorem midChunk_apply (taps : FVec Ideal S24x9 .f32) (a : Memref sig .tc .vmem S24x50176 .bf16) (ha : a.IsWhole) (y : Vec Ideal S24x50176 .bf16) (base : ℕ) (h1 : 225 ≤ base) (h2 : base + 3809 ≤ 50176) (hb : base % 224 = 0) (r : Fin 24) (p : Fin 3584) :
    midChunk taps a ha y base h1 h2 (ix2 r p) = dw (fun t => taps (ix2 r t)) (row y r) (base + p.val) := by
  refine dwSum_apply taps (row y r) base hb (by omega) _ _ _ _ _ _ _ _ _ r p ?_ ?_ ?_ ?_ ?_ ?_ ?_ ?_ ?_
  all_goals
    rw [load3584_apply, sh, if_pos (by omega)]
    congr 1 <;> omega

/-- Near the beginning of a row: a shift backwards by `k` is zero before lane `k`. -/
theorem sh_of_lt (y : Row) (k d p : ℕ) (h : k + d = 225) : (if p < k then 0 else px y (p - k)) = sh y d (0 + p) := by
  unfold sh
  by_cases hp : p < k
  · rw [if_pos hp, if_neg (by omega)]
  · rw [if_neg hp, if_pos (by omega)]; exact congrArg (px y) (by omega)

/-- Near the beginning of a row: a shift forwards by `o`. -/
theorem sh_of_ge (y : Row) (o d p : ℕ) (h : o + 225 = d) : px y (o + p) = sh y d (0 + p) := by
  unfold sh
  rw [if_pos (by omega)]; exact congrArg (px y) (by omega)

/-- The convolution of the first chunk, at an index. -/
theorem firstChunk_apply (taps : FVec Ideal S24x9 .f32) (a : Memref sig .tc .vmem S24x50176 .bf16) (ha : a.IsWhole) (y : Vec Ideal S24x50176 .bf16) (r : Fin 24) (p : Fin 3584) :
    firstChunk taps a ha y (ix2 r p) = dw (fun t => taps (ix2 r t)) (row y r) (0 + p.val) := by
  refine dwSum_apply taps (row y r) 0 rfl (by omega) _ _ _ _ _ _ _ _ _ r p ?_ ?_ ?_ ?_ ?_ ?_ ?_ ?_ ?_
  · exact (lo225_apply a ha y _ _ _ r p).trans (sh_of_lt (row y r) 225 0 p.val rfl)
  · exact (lo224_apply a ha y _ _ _ r p).trans (sh_of_lt (row y r) 224 1 p.val rfl)
  · exact (lo223_apply a ha y _ _ _ r p).trans (sh_of_lt (row y r) 223 2 p.val rfl)
  · exact (lo1_apply a ha y _ _ _ r p).trans (sh_of_lt (row y r) 1 224 p.val rfl)
  · exact (load3584_apply a ha y 0 _ _ r p).trans (sh_of_ge (row y r) 0 225 p.val rfl)
  · exact (load3584_apply a ha y 1 _ _ r p).trans (sh_of_ge (row y r) 1 226 p.val rfl)
  · exact (load3584_apply a ha y 223 _ _ r p).trans (sh_of_ge (row y r) 223 448 p.val rfl)
  · exact (load3584_apply a ha y 224 _ _ r p).trans (sh_of_ge (row y r) 224 449 p.val rfl)
  · exact (load3584_apply a ha y 225 _ _ r p).trans (sh_of_ge (row y r) 225 450 p.val rfl)

/-- The convolution of the last chunk, at an index. -/
theorem lastChunk_apply (taps : FVec Ideal S24x9 .f32) (a : Memref sig .tc .vmem S24x50176 .bf16) (ha : a.IsWhole) (y : Vec Ideal S24x50176 .bf16) (r : Fin 24) (p : Fin 3584) :
    lastChunk taps a ha y (ix2 r p) = dw (fun t => taps (ix2 r t)) (row y r) (46592 + p.val) := by
  refine dwSum_apply taps (row y r) 46592 rfl (by omega) _ _ _ _ _ _ _ _ _ r p ?_ ?_ ?_ ?_ ?_ ?_ ?_ ?_ ?_
  all_goals
    first | rw [load3584_apply] | rw [hi225_apply] | rw [hi224_apply] | rw [hi223_apply] | rw [hi1_apply]
    rw [sh, if_pos (by omega)]
    congr 1 <;> omega

end Cert.KernelIdeal.Taps

end
-- ==== Proof.KernelIdeal.GramSquares.lean ====
/-
The value of the second kernel call's body: the sums of squares of the convolved query and key channels, chunk after chunk.
-/
module

public import proofs.«01_k».proof.Proof.Sums
public import proofs.«01_k».proof.Proof.KernelIdeal.Taps
public import proofs.«01_k».proof.Proof.Gen.Own.KernelIdeal.K1.Frame

@[expose] public section

set_option maxRecDepth 16384

noncomputable section

namespace Cert.KernelIdeal.Gram

open Cert.KernelIdeal Cert.KernelIdeal.Gen Cert.KernelIdeal.Taps Cert.KernelIdeal.Own.K1.kernelRun1_A.sl Cert.Attn
open Idealize.ShloMosaic Idealize.ShloMosaic.TcCoe

variable (c : Dev nD) (arg1 : Memref sig .tc .vmem S24x50176 .bf16) (harg1 : arg1.IsWhole) (arg2 : Memref sig .tc .vmem S24x50176 .bf16) (harg2 : arg2.IsWhole)
  (arg3 : Memref sig .tc .vmem S24x9 .f32) (harg3 : arg3.IsWhole) (arg4 : Memref sig .tc .vmem S24x9 .f32) (harg4 : arg4.IsWhole)
  (x0 x1 : Vec Ideal S24x50176 .bf16) (x2 x3 : Vec Ideal S24x9 .f32)

/-- The convolved channel `r` of a block, a row of pixels numbered without end. -/
def chan (y : Vec Ideal S24x50176 .bf16) (w : Vec Ideal S24x9 .f32) (r : Fin 24) (P : ℕ) : EReal :=
  dw (fun t => w (ix2 r t)) (row y r) P

/-- The query weights as the body reads them. -/
theorem v22_apply (r : Fin 24) (t : Fin 9) : v22 c arg3 harg3 x2 (ix2 r t) = x2 (ix2 r t) := by
  have e : v22 c arg3 harg3 x2 = shapeCast S24x9 (View.ld x2 (Rect.unit (s := S24x9) ![0, 0] S24x9.size inb_S24x9_S24x9_0_0)) shapeCasts_S24x9_S24x9 :=
    congrArg (fun z => shapeCast S24x9 (View.ld z (Rect.unit (s := S24x9) ![0, 0] S24x9.size inb_S24x9_S24x9_0_0)) shapeCasts_S24x9_S24x9) (harg3.read_unread x2)
  rw [e, View.ld_unit_zero (by decide)]
  pointwise

/-- The key weights as the body reads them. -/
theorem v24_apply (r : Fin 24) (t : Fin 9) : v24 c arg4 harg4 x3 (ix2 r t) = x3 (ix2 r t) := by
  have e : v24 c arg4 harg4 x3 = shapeCast S24x9 (View.ld x3 (Rect.unit (s := S24x9) ![0, 0] S24x9.size inb_S24x9_S24x9_0_0)) shapeCasts_S24x9_S24x9 :=
    congrArg (fun z => shapeCast S24x9 (View.ld z (Rect.unit (s := S24x9) ![0, 0] S24x9.size inb_S24x9_S24x9_0_0)) shapeCasts_S24x9_S24x9) (harg4.read_unread x3)
  rw [e, View.ld_unit_zero (by decide)]
  pointwise

/-- One more chunk's squares added to the sums. -/
def sqStep (acc : FVec Ideal S1x24 .f32) (x : FVec Ideal S24x3584 .f32) : FVec Ideal S1x24 .f32 :=
  addf acc (shapeCast S1x24 (multiReduction .add [1] S24 (mulf x x) 0x00000000#32 reduces_S24x3584_S24 (.inl rfl) rfl) shapeCasts_S24_S1x24)

/-- The sums with one more chunk, at a channel. -/
theorem sqStep_apply (acc : FVec Ideal S1x24 .f32) (x : FVec Ideal S24x3584 .f32) (r : Fin 24) :
    sqStep acc x (ix2 (0 : Fin 1) r) = acc (ix2 (0 : Fin 1) r) + ∑ p : Fin 3584, x (ix2 r p) * x (ix2 r p) := by
  pointwise [sqStep]

/-- The convolved query's chunk 0. -/
theorem q0_apply (r : Fin 24) (p : Fin 3584) : v142 c arg1 harg1 arg3 harg3 x0 x2 (ix2 r p) = chan x0 x2 r (3584 * 0 + p.val) := by
  refine (congrFun (show v142 c arg1 harg1 arg3 harg3 x0 x2 = (firstChunk (v22 c arg3 harg3 x2) arg1 harg1 x0) from rfl) _).trans ((firstChunk_apply _ _ _ _ r p).trans ?_)
  simp only [v22_apply]; rfl

/-- The convolved key's chunk 0. -/
theorem k0_apply (r : Fin 24) (p : Fin 3584) : v258 c arg2 harg2 arg4 harg4 x1 x3 (ix2 r p) = chan x1 x3 r (3584 * 0 + p.val) := by
  refine (congrFun (show v258 c arg2 harg2 arg4 harg4 x1 x3 = (firstChunk (v24 c arg4 harg4 x3) arg2 harg2 x1) from rfl) _).trans ((firstChunk_apply _ _ _ _ r p).trans ?_)
  simp only [v24_apply]; rfl

/-- The convolved query's chunk 1. -/
theorem q1_apply (r : Fin 24) (p : Fin 3584) : v370 c arg1 harg1 arg3 harg3 x0 x2 (ix2 r p) = chan x0 x2 r (3584 * 1 + p.val) := by
  refine (congrFun (show v370 c arg1 harg1 arg3 harg3 x0 x2 = (midChunk (v22 c arg3 harg3 x2) arg1 harg1 x0 (3584 * 1) (by norm_num) (by norm_num)) from rfl) _).trans ((midChunk_apply _ _ _ _ _ _ _ (by norm_num) r p).trans ?_)
  simp only [v22_apply]; rfl

/-- The convolved key's chunk 1. -/
theorem k1_apply (r : Fin 24) (p : Fin 3584) : v474 c arg2 harg2 arg4 harg4 x1 x3 (ix2 r p) = chan x1 x3 r (3584 * 1 + p.val) := by
  refine (congrFun (show v474 c arg2 harg2 arg4 harg4 x1 x3 = (midChunk (v24 c arg4 harg4 x3) arg2 harg2 x1 (3584 * 1) (by norm_num) (by norm_num)) from rfl) _).trans ((midChunk_apply _ _ _ _ _ _ _ (by norm_num) r p).trans ?_)
  simp only [v24_apply]; rfl

/-- The convolved query's chunk 2. -/
theorem q2_apply (r : Fin 24) (p : Fin 3584) : v586 c arg1 harg1 arg3 harg3 x0 x2 (ix2 r p) = chan x0 x2 r (3584 * 2 + p.val) := by
  refine (congrFun (show v586 c arg1 harg1 arg3 harg3 x0 x2 = (midChunk (v22 c arg3 harg3 x2) arg1 harg1 x0 (3584 * 2) (by norm_num) (by norm_num)) from rfl) _).trans ((midChunk_apply _ _ _ _ _ _ _ (by norm_num) r p).trans ?_)
  simp only [v22_apply]; rfl

/-- The convolved key's chunk 2. -/
theorem k2_apply (r : Fin 24) (p : Fin 3584) : v690 c arg2 harg2 arg4 harg4 x1 x3 (ix2 r p) = chan x1 x3 r (3584 * 2 + p.val) := by
  refine (congrFun (show v690 c arg2 harg2 arg4 harg4 x1 x3 = (midChunk (v24 c arg4 harg4 x3) arg2 harg2 x1 (3584 * 2) (by norm_num) (by norm_num)) from rfl) _).trans ((midChunk_apply _ _ _ _ _ _ _ (by norm_num) r p).trans ?_)
  simp only [v24_apply]; rfl

/-- The convolved query's chunk 3. -/
theorem q3_apply (r : Fin 24) (p : Fin 3584) : v802 c arg1 harg1 arg3 harg3 x0 x2 (ix2 r p) = chan x0 x2 r (3584 * 3 + p.val) := by
  refine (congrFun (show v802 c arg1 harg1 arg3 harg3 x0 x2 = (midChunk (v22 c arg3 harg3 x2) arg1 harg1 x0 (3584 * 3) (by norm_num) (by norm_num)) from rfl) _).trans ((midChunk_apply _ _ _ _ _ _ _ (by norm_num) r p).trans ?_)
  simp only [v22_apply]; rfl

/-- The convolved key's chunk 3. -/
theorem k3_apply (r : Fin 24) (p : Fin 3584) : v906 c arg2 harg2 arg4 harg4 x1 x3 (ix2 r p) = chan x1 x3 r (3584 * 3 + p.val) := by
  refine (congrFun (show v906 c arg2 harg2 arg4 harg4 x1 x3 = (midChunk (v24 c arg4 harg4 x3) arg2 harg2 x1 (3584 * 3) (by norm_num) (by norm_num)) from rfl) _).trans ((midChunk_apply _ _ _ _ _ _ _ (by norm_num) r p).trans ?_)
  simp only [v24_apply]; rfl

/-- The convolved query's chunk 4. -/
theorem q4_apply (r : Fin 24) (p : Fin 3584) : v1018 c arg1 harg1 arg3 harg3 x0 x2 (ix2 r p) = chan x0 x2 r (3584 * 4 + p.val) := by
  refine (congrFun (show v1018 c arg1 harg1 arg3 harg3 x0 x2 = (midChunk (v22 c arg3 harg3 x2) arg1 harg1 x0 (3584 * 4) (by norm_num) (by norm_num)) from rfl) _).trans ((midChunk_apply _ _ _ _ _ _ _ (by norm_num) r p).trans ?_)
  simp only [v22_apply]; rfl

/-- The convolved key's chunk 4. -/
theorem k4_apply (r : Fin 24) (p : Fin 3584) : v1122 c arg2 harg2 arg4 harg4 x1 x3 (ix2 r p) = chan x1 x3 r (3584 * 4 + p.val) := by
  refine (congrFun (show v1122 c arg2 harg2 arg4 harg4 x1 x3 = (midChunk (v24 c arg4 harg4 x3) arg2 harg2 x1 (3584 * 4) (by norm_num) (by norm_num)) from rfl) _).trans ((midChunk_apply _ _ _ _ _ _ _ (by norm_num) r p).trans ?_)
  simp only [v24_apply]; rfl

/-- The convolved query's chunk 5. -/
theorem q5_apply (r : Fin 24) (p : Fin 3584) : v1234 c arg1 harg1 arg3 harg3 x0 x2 (ix2 r p) = chan x0 x2 r (3584 * 5 + p.val) := by
  refine (congrFun (show v1234 c arg1 harg1 arg3 harg3 x0 x2 = (midChunk (v22 c arg3 harg3 x2) arg1 harg1 x0 (3584 * 5) (by norm_num) (by norm_num)) from rfl) _).trans ((midChunk_apply _ _ _ _ _ _ _ (by norm_num) r p).trans ?_)
  simp only [v22_apply]; rfl

/-- The convolved key's chunk 5. -/
theorem k5_apply (r : Fin 24) (p : Fin 3584) : v1338 c arg2 harg2 arg4 harg4 x1 x3 (ix2 r p) = chan x1 x3 r (3584 * 5 + p.val) := by
  refine (congrFun (show v1338 c arg2 harg2 arg4 harg4 x1 x3 = (midChunk (v24 c arg4 harg4 x3) arg2 harg2 x1 (3584 * 5) (by norm_num) (by norm_num)) from rfl) _).trans ((midChunk_apply _ _ _ _ _ _ _ (by norm_num) r p).trans ?_)
  simp only [v24_apply]; rfl

/-- The convolved query's chunk 6. -/
theorem q6_apply (r : Fin 24) (p : Fin 3584) : v1450 c arg1 harg1 arg3 harg3 x0 x2 (ix2 r p) = chan x0 x2 r (3584 * 6 + p.val) := by
  refine (congrFun (show v1450 c arg1 harg1 arg3 harg3 x0 x2 = (midChunk (v22 c arg3 harg3 x2) arg1 harg1 x0 (3584 * 6) (by norm_num) (by norm_num)) from rfl) _).trans ((midChunk_apply _ _ _ _ _ _ _ (by norm_num) r p).trans ?_)
  simp only [v22_apply]; rfl

/-- The convolved key's chunk 6. -/
theorem k6_apply (r : Fin 24) (p : Fin 3584) : v1554 c arg2 harg2 arg4 harg4 x1 x3 (ix2 r p) = chan x1 x3 r (3584 * 6 + p.val) := by
  refine (congrFun (show v1554 c arg2 harg2 arg4 harg4 x1 x3 = (midChunk (v24 c arg4 harg4 x3) arg2 harg2 x1 (3584 * 6) (by norm_num) (by norm_num)) from rfl) _).trans ((midChunk_apply _ _ _ _ _ _ _ (by norm_num) r p).trans ?_)
  simp only [v24_apply]; rfl

/-- The convolved query's chunk 7. -/
theorem q7_apply (r : Fin 24) (p : Fin 3584) : v1666 c arg1 harg1 arg3 harg3 x0 x2 (ix2 r p) = chan x0 x2 r (3584 * 7 + p.val) := by
  refine (congrFun (show v1666 c arg1 harg1 arg3 harg3 x0 x2 = (midChunk (v22 c arg3 harg3 x2) arg1 harg1 x0 (3584 * 7) (by norm_num) (by norm_num)) from rfl) _).trans ((midChunk_apply _ _ _ _ _ _ _ (by norm_num) r p).trans ?_)
  simp only [v22_apply]; rfl

/-- The convolved key's chunk 7. -/
theorem k7_apply (r : Fin 24) (p : Fin 3584) : v1770 c arg2 harg2 arg4 harg4 x1 x3 (ix2 r p) = chan x1 x3 r (3584 * 7 + p.val) := by
  refine (congrFun (show v1770 c arg2 harg2 arg4 harg4 x1 x3 = (midChunk (v24 c arg4 harg4 x3) arg2 harg2 x1 (3584 * 7) (by norm_num) (by norm_num)) from rfl) _).trans ((midChunk_apply _ _ _ _ _ _ _ (by norm_num) r p).trans ?_)
  simp only [v24_apply]; rfl

/-- The convolved query's chunk 8. -/
theorem q8_apply (r : Fin 24) (p : Fin 3584) : v1882 c arg1 harg1 arg3 harg3 x0 x2 (ix2 r p) = chan x0 x2 r (3584 * 8 + p.val) := by
  refine (congrFun (show v1882 c arg1 harg1 arg3 harg3 x0 x2 = (midChunk (v22 c arg3 harg3 x2) arg1 harg1 x0 (3584 * 8) (by norm_num) (by norm_num)) from rfl) _).trans ((midChunk_apply _ _ _ _ _ _ _ (by norm_num) r p).trans ?_)
  simp only [v22_apply]; rfl

/-- The convolved key's chunk 8. -/
theorem k8_apply (r : Fin 24) (p : Fin 3584) : v1986 c arg2 harg2 arg4 harg4 x1 x3 (ix2 r p) = chan x1 x3 r (3584 * 8 + p.val) := by
  refine (congrFun (show v1986 c arg2 harg2 arg4 harg4 x1 x3 = (midChunk (v24 c arg4 harg4 x3) arg2 harg2 x1 (3584 * 8) (by norm_num) (by norm_num)) from rfl) _).trans ((midChunk_apply _ _ _ _ _ _ _ (by norm_num) r p).trans ?_)
  simp only [v24_apply]; rfl

/-- The convolved query's chunk 9. -/
theorem q9_apply (r : Fin 24) (p : Fin 3584) : v2098 c arg1 harg1 arg3 harg3 x0 x2 (ix2 r p) = chan x0 x2 r (3584 * 9 + p.val) := by
  refine (congrFun (show v2098 c arg1 harg1 arg3 harg3 x0 x2 = (midChunk (v22 c arg3 harg3 x2) arg1 harg1 x0 (3584 * 9) (by norm_num) (by norm_num)) from rfl) _).trans ((midChunk_apply _ _ _ _ _ _ _ (by norm_num) r p).trans ?_)
  simp only [v22_apply]; rfl

/-- The convolved key's chunk 9. -/
theorem k9_apply (r : Fin 24) (p : Fin 3584) : v2202 c arg2 harg2 arg4 harg4 x1 x3 (ix2 r p) = chan x1 x3 r (3584 * 9 + p.val) := by
  refine (congrFun (show v2202 c arg2 harg2 arg4 harg4 x1 x3 = (midChunk (v24 c arg4 harg4 x3) arg2 harg2 x1 (3584 * 9) (by norm_num) (by norm_num)) from rfl) _).trans ((midChunk_apply _ _ _ _ _ _ _ (by norm_num) r p).trans ?_)
  simp only [v24_apply]; rfl

/-- The convolved query's chunk 10. -/
theorem q10_apply (r : Fin 24) (p : Fin 3584) : v2314 c arg1 harg1 arg3 harg3 x0 x2 (ix2 r p) = chan x0 x2 r (3584 * 10 + p.val) := by
  refine (congrFun (show v2314 c arg1 harg1 arg3 harg3 x0 x2 = (midChunk (v22 c arg3 harg3 x2) arg1 harg1 x0 (3584 * 10) (by norm_num) (by norm_num)) from rfl) _).trans ((midChunk_apply _ _ _ _ _ _ _ (by norm_num) r p).trans ?_)
  simp only [v22_apply]; rfl

/-- The convolved key's chunk 10. -/
theorem k10_apply (r : Fin 24) (p : Fin 3584) : v2418 c arg2 harg2 arg4 harg4 x1 x3 (ix2 r p) = chan x1 x3 r (3584 * 10 + p.val) := by
  refine (congrFun (show v2418 c arg2 harg2 arg4 harg4 x1 x3 = (midChunk (v24 c arg4 harg4 x3) arg2 harg2 x1 (3584 * 10) (by norm_num) (by norm_num)) from rfl) _).trans ((midChunk_apply _ _ _ _ _ _ _ (by norm_num) r p).trans ?_)
  simp only [v24_apply]; rfl

/-- The convolved query's chunk 11. -/
theorem q11_apply (r : Fin 24) (p : Fin 3584) : v2530 c arg1 harg1 arg3 harg3 x0 x2 (ix2 r p) = chan x0 x2 r (3584 * 11 + p.val) := by
  refine (congrFun (show v2530 c arg1 harg1 arg3 harg3 x0 x2 = (midChunk (v22 c arg3 harg3 x2) arg1 harg1 x0 (3584 * 11) (by norm_num) (by norm_num)) from rfl) _).trans ((midChunk_apply _ _ _ _ _ _ _ (by norm_num) r p).trans ?_)
  simp only [v22_apply]; rfl

/-- The convolved key's chunk 11. -/
theorem k11_apply (r : Fin 24) (p : Fin 3584) : v2634 c arg2 harg2 arg4 harg4 x1 x3 (ix2 r p) = chan x1 x3 r (3584 * 11 + p.val) := by
  refine (congrFun (show v2634 c arg2 harg2 arg4 harg4 x1 x3 = (midChunk (v24 c arg4 harg4 x3) arg2 harg2 x1 (3584 * 11) (by norm_num) (by norm_num)) from rfl) _).trans ((midChunk_apply _ _ _ _ _ _ _ (by norm_num) r p).trans ?_)
  simp only [v24_apply]; rfl

/-- The convolved query's chunk 12. -/
theorem q12_apply (r : Fin 24) (p : Fin 3584) : v2746 c arg1 harg1 arg3 harg3 x0 x2 (ix2 r p) = chan x0 x2 r (3584 * 12 + p.val) := by
  refine (congrFun (show v2746 c arg1 harg1 arg3 harg3 x0 x2 = (midChunk (v22 c arg3 harg3 x2) arg1 harg1 x0 (3584 * 12) (by norm_num) (by norm_num)) from rfl) _).trans ((midChunk_apply _ _ _ _ _ _ _ (by norm_num) r p).trans ?_)
  simp only [v22_apply]; rfl

/-- The convolved key's chunk 12. -/
theorem k12_apply (r : Fin 24) (p : Fin 3584) : v2850 c arg2 harg2 arg4 harg4 x1 x3 (ix2 r p) = chan x1 x3 r (3584 * 12 + p.val) := by
  refine (congrFun (show v2850 c arg2 harg2 arg4 harg4 x1 x3 = (midChunk (v24 c arg4 harg4 x3) arg2 harg2 x1 (3584 * 12) (by norm_num) (by norm_num)) from rfl) _).trans ((midChunk_apply _ _ _ _ _ _ _ (by norm_num) r p).trans ?_)
  simp only [v24_apply]; rfl

/-- The convolved query's chunk 13. -/
theorem q13_apply (r : Fin 24) (p : Fin 3584) : v2974 c arg1 harg1 arg3 harg3 x0 x2 (ix2 r p) = chan x0 x2 r (3584 * 13 + p.val) := by
  refine (congrFun (show v2974 c arg1 harg1 arg3 harg3 x0 x2 = (lastChunk (v22 c arg3 harg3 x2) arg1 harg1 x0) from rfl) _).trans ((lastChunk_apply _ _ _ _ r p).trans ?_)
  simp only [v22_apply]; rfl

/-- The convolved key's chunk 13. -/
theorem k13_apply (r : Fin 24) (p : Fin 3584) : v3090 c arg2 harg2 arg4 harg4 x1 x3 (ix2 r p) = chan x1 x3 r (3584 * 13 + p.val) := by
  refine (congrFun (show v3090 c arg2 harg2 arg4 harg4 x1 x3 = (lastChunk (v24 c arg4 harg4 x3) arg2 harg2 x1) from rfl) _).trans ((lastChunk_apply _ _ _ _ r p).trans ?_)
  simp only [v24_apply]; rfl

/-- The sums of the query channels' squares after chunk 0. -/
theorem sum_q0 (r : Fin 24) : v262 c arg1 harg1 arg3 harg3 x0 x2 (ix2 (0 : Fin 1) r) = chunks (fun P => chan x0 x2 r P * chan x0 x2 r P) 1 := by
  refine (congrFun (show v262 c arg1 harg1 arg3 harg3 x0 x2 = sqStep (v25) (v142 c arg1 harg1 arg3 harg3 x0 x2) from rfl) _).trans ((sqStep_apply _ _ r).trans ?_)
  rw [chunks_succ]
  refine congrArg₂ (· + ·) ?_ (Finset.sum_congr rfl fun p _ => by rw [q0_apply])
  rw [chunks_zero]; pointwise [v25, cst]

/-- The sums of the query channels' squares after chunk 1. -/
theorem sum_q1 (r : Fin 24) : v478 c arg1 harg1 arg3 harg3 x0 x2 (ix2 (0 : Fin 1) r) = chunks (fun P => chan x0 x2 r P * chan x0 x2 r P) 2 := by
  refine (congrFun (show v478 c arg1 harg1 arg3 harg3 x0 x2 = sqStep (v262 c arg1 harg1 arg3 harg3 x0 x2) (v370 c arg1 harg1 arg3 harg3 x0 x2) from rfl) _).trans ((sqStep_apply _ _ r).trans ?_)
  rw [chunks_succ]
  refine congrArg₂ (· + ·) (sum_q0 c arg1 harg1 arg3 harg3 x0 x2 r) (Finset.sum_congr rfl fun p _ => by rw [q1_apply])

/-- The sums of the query channels' squares after chunk 2. -/
theorem sum_q2 (r : Fin 24) : v694 c arg1 harg1 arg3 harg3 x0 x2 (ix2 (0 : Fin 1) r) = chunks (fun P => chan x0 x2 r P * chan x0 x2 r P) 3 := by
  refine (congrFun (show v694 c arg1 harg1 arg3 harg3 x0 x2 = sqStep (v478 c arg1 harg1 arg3 harg3 x0 x2) (v586 c arg1 harg1 arg3 harg3 x0 x2) from rfl) _).trans ((sqStep_apply _ _ r).trans ?_)
  rw [chunks_succ]
  refine congrArg₂ (· + ·) (sum_q1 c arg1 harg1 arg3 harg3 x0 x2 r) (Finset.sum_congr rfl fun p _ => by rw [q2_apply])

/-- The sums of the query channels' squares after chunk 3. -/
theorem sum_q3 (r : Fin 24) : v910 c arg1 harg1 arg3 harg3 x0 x2 (ix2 (0 : Fin 1) r) = chunks (fun P => chan x0 x2 r P * chan x0 x2 r P) 4 := by
  refine (congrFun (show v910 c arg1 harg1 arg3 harg3 x0 x2 = sqStep (v694 c arg1 harg1 arg3 harg3 x0 x2) (v802 c arg1 harg1 arg3 harg3 x0 x2) from rfl) _).trans ((sqStep_apply _ _ r).trans ?_)
  rw [chunks_succ]
  refine congrArg₂ (· + ·) (sum_q2 c arg1 harg1 arg3 harg3 x0 x2 r) (Finset.sum_congr rfl fun p _ => by rw [q3_apply])

/-- The sums of the query channels' squares after chunk 4. -/
theorem sum_q4 (r : Fin 24) : v1126 c arg1 harg1 arg3 harg3 x0 x2 (ix2 (0 : Fin 1) r) = chunks (fun P => chan x0 x2 r P * chan x0 x2 r P) 5 := by
  refine (congrFun (show v1126 c arg1 harg1 arg3 harg3 x0 x2 = sqStep (v910 c arg1 harg1 arg3 harg3 x0 x2) (v1018 c arg1 harg1 arg3 harg3 x0 x2) from rfl) _).trans ((sqStep_apply _ _ r).trans ?_)
  rw [chunks_succ]
  refine congrArg₂ (· + ·) (sum_q3 c arg1 harg1 arg3 harg3 x0 x2 r) (Finset.sum_congr rfl fun p _ => by rw [q4_apply])

/-- The sums of the query channels' squares after chunk 5. -/
theorem sum_q5 (r : Fin 24) : v1342 c arg1 harg1 arg3 harg3 x0 x2 (ix2 (0 : Fin 1) r) = chunks (fun P => chan x0 x2 r P * chan x0 x2 r P) 6 := by
  refine (congrFun (show v1342 c arg1 harg1 arg3 harg3 x0 x2 = sqStep (v1126 c arg1 harg1 arg3 harg3 x0 x2) (v1234 c arg1 harg1 arg3 harg3 x0 x2) from rfl) _).trans ((sqStep_apply _ _ r).trans ?_)
  rw [chunks_succ]
  refine congrArg₂ (· + ·) (sum_q4 c arg1 harg1 arg3 harg3 x0 x2 r) (Finset.sum_congr rfl fun p _ => by rw [q5_apply])

/-- The sums of the query channels' squares after chunk 6. -/
theorem sum_q6 (r : Fin 24) : v1558 c arg1 harg1 arg3 harg3 x0 x2 (ix2 (0 : Fin 1) r) = chunks (fun P => chan x0 x2 r P * chan x0 x2 r P) 7 := by
  refine (congrFun (show v1558 c arg1 harg1 arg3 harg3 x0 x2 = sqStep (v1342 c arg1 harg1 arg3 harg3 x0 x2) (v1450 c arg1 harg1 arg3 harg3 x0 x2) from rfl) _).trans ((sqStep_apply _ _ r).trans ?_)
  rw [chunks_succ]
  refine congrArg₂ (· + ·) (sum_q5 c arg1 harg1 arg3 harg3 x0 x2 r) (Finset.sum_congr rfl fun p _ => by rw [q6_apply])

/-- The sums of the query channels' squares after chunk 7. -/
theorem sum_q7 (r : Fin 24) : v1774 c arg1 harg1 arg3 harg3 x0 x2 (ix2 (0 : Fin 1) r) = chunks (fun P => chan x0 x2 r P * chan x0 x2 r P) 8 := by
  refine (congrFun (show v1774 c arg1 harg1 arg3 harg3 x0 x2 = sqStep (v1558 c arg1 harg1 arg3 harg3 x0 x2) (v1666 c arg1 harg1 arg3 harg3 x0 x2) from rfl) _).trans ((sqStep_apply _ _ r).trans ?_)
  rw [chunks_succ]
  refine congrArg₂ (· + ·) (sum_q6 c arg1 harg1 arg3 harg3 x0 x2 r) (Finset.sum_congr rfl fun p _ => by rw [q7_apply])

/-- The sums of the query channels' squares after chunk 8. -/
theorem sum_q8 (r : Fin 24) : v1990 c arg1 harg1 arg3 harg3 x0 x2 (ix2 (0 : Fin 1) r) = chunks (fun P => chan x0 x2 r P * chan x0 x2 r P) 9 := by
  refine (congrFun (show v1990 c arg1 harg1 arg3 harg3 x0 x2 = sqStep (v1774 c arg1 harg1 arg3 harg3 x0 x2) (v1882 c arg1 harg1 arg3 harg3 x0 x2) from rfl) _).trans ((sqStep_apply _ _ r).trans ?_)
  rw [chunks_succ]
  refine congrArg₂ (· + ·) (sum_q7 c arg1 harg1 arg3 harg3 x0 x2 r) (Finset.sum_congr rfl fun p _ => by rw [q8_apply])

/-- The sums of the query channels' squares after chunk 9. -/
theorem sum_q9 (r : Fin 24) : v2206 c arg1 harg1 arg3 harg3 x0 x2 (ix2 (0 : Fin 1) r) = chunks (fun P => chan x0 x2 r P * chan x0 x2 r P) 10 := by
  refine (congrFun (show v2206 c arg1 harg1 arg3 harg3 x0 x2 = sqStep (v1990 c arg1 harg1 arg3 harg3 x0 x2) (v2098 c arg1 harg1 arg3 harg3 x0 x2) from rfl) _).trans ((sqStep_apply _ _ r).trans ?_)
  rw [chunks_succ]
  refine congrArg₂ (· + ·) (sum_q8 c arg1 harg1 arg3 harg3 x0 x2 r) (Finset.sum_congr rfl fun p _ => by rw [q9_apply])

/-- The sums of the query channels' squares after chunk 10. -/
theorem sum_q10 (r : Fin 24) : v2422 c arg1 harg1 arg3 harg3 x0 x2 (ix2 (0 : Fin 1) r) = chunks (fun P => chan x0 x2 r P * chan x0 x2 r P) 11 := by
  refine (congrFun (show v2422 c arg1 harg1 arg3 harg3 x0 x2 = sqStep (v2206 c arg1 harg1 arg3 harg3 x0 x2) (v2314 c arg1 harg1 arg3 harg3 x0 x2) from rfl) _).trans ((sqStep_apply _ _ r).trans ?_)
  rw [chunks_succ]
  refine congrArg₂ (· + ·) (sum_q9 c arg1 harg1 arg3 harg3 x0 x2 r) (Finset.sum_congr rfl fun p _ => by rw [q10_apply])

/-- The sums of the query channels' squares after chunk 11. -/
theorem sum_q11 (r : Fin 24) : v2638 c arg1 harg1 arg3 harg3 x0 x2 (ix2 (0 : Fin 1) r) = chunks (fun P => chan x0 x2 r P * chan x0 x2 r P) 12 := by
  refine (congrFun (show v2638 c arg1 harg1 arg3 harg3 x0 x2 = sqStep (v2422 c arg1 harg1 arg3 harg3 x0 x2) (v2530 c arg1 harg1 arg3 harg3 x0 x2) from rfl) _).trans ((sqStep_apply _ _ r).trans ?_)
  rw [chunks_succ]
  refine congrArg₂ (· + ·) (sum_q10 c arg1 harg1 arg3 harg3 x0 x2 r) (Finset.sum_congr rfl fun p _ => by rw [q11_apply])

/-- The sums of the query channels' squares after chunk 12. -/
theorem sum_q12 (r : Fin 24) : v2854 c arg1 harg1 arg3 harg3 x0 x2 (ix2 (0 : Fin 1) r) = chunks (fun P => chan x0 x2 r P * chan x0 x2 r P) 13 := by
  refine (congrFun (show v2854 c arg1 harg1 arg3 harg3 x0 x2 = sqStep (v2638 c arg1 harg1 arg3 harg3 x0 x2) (v2746 c arg1 harg1 arg3 harg3 x0 x2) from rfl) _).trans ((sqStep_apply _ _ r).trans ?_)
  rw [chunks_succ]
  refine congrArg₂ (· + ·) (sum_q11 c arg1 harg1 arg3 harg3 x0 x2 r) (Finset.sum_congr rfl fun p _ => by rw [q12_apply])

/-- The sums of the query channels' squares after chunk 13. -/
theorem sum_q13 (r : Fin 24) : v3094 c arg1 harg1 arg3 harg3 x0 x2 (ix2 (0 : Fin 1) r) = chunks (fun P => chan x0 x2 r P * chan x0 x2 r P) 14 := by
  refine (congrFun (show v3094 c arg1 harg1 arg3 harg3 x0 x2 = sqStep (v2854 c arg1 harg1 arg3 harg3 x0 x2) (v2974 c arg1 harg1 arg3 harg3 x0 x2) from rfl) _).trans ((sqStep_apply _ _ r).trans ?_)
  rw [chunks_succ]
  refine congrArg₂ (· + ·) (sum_q12 c arg1 harg1 arg3 harg3 x0 x2 r) (Finset.sum_congr rfl fun p _ => by rw [q13_apply])

/-- The sums of the key channels' squares after chunk 0. -/
theorem sum_k0 (r : Fin 24) : v266 c arg2 harg2 arg4 harg4 x1 x3 (ix2 (0 : Fin 1) r) = chunks (fun P => chan x1 x3 r P * chan x1 x3 r P) 1 := by
  refine (congrFun (show v266 c arg2 harg2 arg4 harg4 x1 x3 = sqStep (v25) (v258 c arg2 harg2 arg4 harg4 x1 x3) from rfl) _).trans ((sqStep_apply _ _ r).trans ?_)
  rw [chunks_succ]
  refine congrArg₂ (· + ·) ?_ (Finset.sum_congr rfl fun p _ => by rw [k0_apply])
  rw [chunks_zero]; pointwise [v25, cst]

/-- The sums of the key channels' squares after chunk 1. -/
theorem sum_k1 (r : Fin 24) : v482 c arg2 harg2 arg4 harg4 x1 x3 (ix2 (0 : Fin 1) r) = chunks (fun P => chan x1 x3 r P * chan x1 x3 r P) 2 := by
  refine (congrFun (show v482 c arg2 harg2 arg4 harg4 x1 x3 = sqStep (v266 c arg2 harg2 arg4 harg4 x1 x3) (v474 c arg2 harg2 arg4 harg4 x1 x3) from rfl) _).trans ((sqStep_apply _ _ r).trans ?_)
  rw [chunks_succ]
  refine congrArg₂ (· + ·) (sum_k0 c arg2 harg2 arg4 harg4 x1 x3 r) (Finset.sum_congr rfl fun p _ => by rw [k1_apply])

/-- The sums of the key channels' squares after chunk 2. -/
theorem sum_k2 (r : Fin 24) : v698 c arg2 harg2 arg4 harg4 x1 x3 (ix2 (0 : Fin 1) r) = chunks (fun P => chan x1 x3 r P * chan x1 x3 r P) 3 := by
  refine (congrFun (show v698 c arg2 harg2 arg4 harg4 x1 x3 = sqStep (v482 c arg2 harg2 arg4 harg4 x1 x3) (v690 c arg2 harg2 arg4 harg4 x1 x3) from rfl) _).trans ((sqStep_apply _ _ r).trans ?_)
  rw [chunks_succ]
  refine congrArg₂ (· + ·) (sum_k1 c arg2 harg2 arg4 harg4 x1 x3 r) (Finset.sum_congr rfl fun p _ => by rw [k2_apply])

/-- The sums of the key channels' squares after chunk 3. -/
theorem sum_k3 (r : Fin 24) : v914 c arg2 harg2 arg4 harg4 x1 x3 (ix2 (0 : Fin 1) r) = chunks (fun P => chan x1 x3 r P * chan x1 x3 r P) 4 := by
  refine (congrFun (show v914 c arg2 harg2 arg4 harg4 x1 x3 = sqStep (v698 c arg2 harg2 arg4 harg4 x1 x3) (v906 c arg2 harg2 arg4 harg4 x1 x3) from rfl) _).trans ((sqStep_apply _ _ r).trans ?_)
  rw [chunks_succ]
  refine congrArg₂ (· + ·) (sum_k2 c arg2 harg2 arg4 harg4 x1 x3 r) (Finset.sum_congr rfl fun p _ => by rw [k3_apply])

/-- The sums of the key channels' squares after chunk 4. -/
theorem sum_k4 (r : Fin 24) : v1130 c arg2 harg2 arg4 harg4 x1 x3 (ix2 (0 : Fin 1) r) = chunks (fun P => chan x1 x3 r P * chan x1 x3 r P) 5 := by
  refine (congrFun (show v1130 c arg2 harg2 arg4 harg4 x1 x3 = sqStep (v914 c arg2 harg2 arg4 harg4 x1 x3) (v1122 c arg2 harg2 arg4 harg4 x1 x3) from rfl) _).trans ((sqStep_apply _ _ r).trans ?_)
  rw [chunks_succ]
  refine congrArg₂ (· + ·) (sum_k3 c arg2 harg2 arg4 harg4 x1 x3 r) (Finset.sum_congr rfl fun p _ => by rw [k4_apply])

/-- The sums of the key channels' squares after chunk 5. -/
theorem sum_k5 (r : Fin 24) : v1346 c arg2 harg2 arg4 harg4 x1 x3 (ix2 (0 : Fin 1) r) = chunks (fun P => chan x1 x3 r P * chan x1 x3 r P) 6 := by
  refine (congrFun (show v1346 c arg2 harg2 arg4 harg4 x1 x3 = sqStep (v1130 c arg2 harg2 arg4 harg4 x1 x3) (v1338 c arg2 harg2 arg4 harg4 x1 x3) from rfl) _).trans ((sqStep_apply _ _ r).trans ?_)
  rw [chunks_succ]
  refine congrArg₂ (· + ·) (sum_k4 c arg2 harg2 arg4 harg4 x1 x3 r) (Finset.sum_congr rfl fun p _ => by rw [k5_apply])

/-- The sums of the key channels' squares after chunk 6. -/
theorem sum_k6 (r : Fin 24) : v1562 c arg2 harg2 arg4 harg4 x1 x3 (ix2 (0 : Fin 1) r) = chunks (fun P => chan x1 x3 r P * chan x1 x3 r P) 7 := by
  refine (congrFun (show v1562 c arg2 harg2 arg4 harg4 x1 x3 = sqStep (v1346 c arg2 harg2 arg4 harg4 x1 x3) (v1554 c arg2 harg2 arg4 harg4 x1 x3) from rfl) _).trans ((sqStep_apply _ _ r).trans ?_)
  rw [chunks_succ]
  refine congrArg₂ (· + ·) (sum_k5 c arg2 harg2 arg4 harg4 x1 x3 r) (Finset.sum_congr rfl fun p _ => by rw [k6_apply])

/-- The sums of the key channels' squares after chunk 7. -/
theorem sum_k7 (r : Fin 24) : v1778 c arg2 harg2 arg4 harg4 x1 x3 (ix2 (0 : Fin 1) r) = chunks (fun P => chan x1 x3 r P * chan x1 x3 r P) 8 := by
  refine (congrFun (show v1778 c arg2 harg2 arg4 harg4 x1 x3 = sqStep (v1562 c arg2 harg2 arg4 harg4 x1 x3) (v1770 c arg2 harg2 arg4 harg4 x1 x3) from rfl) _).trans ((sqStep_apply _ _ r).trans ?_)
  rw [chunks_succ]
  refine congrArg₂ (· + ·) (sum_k6 c arg2 harg2 arg4 harg4 x1 x3 r) (Finset.sum_congr rfl fun p _ => by rw [k7_apply])

/-- The sums of the key channels' squares after chunk 8. -/
theorem sum_k8 (r : Fin 24) : v1994 c arg2 harg2 arg4 harg4 x1 x3 (ix2 (0 : Fin 1) r) = chunks (fun P => chan x1 x3 r P * chan x1 x3 r P) 9 := by
  refine (congrFun (show v1994 c arg2 harg2 arg4 harg4 x1 x3 = sqStep (v1778 c arg2 harg2 arg4 harg4 x1 x3) (v1986 c arg2 harg2 arg4 harg4 x1 x3) from rfl) _).trans ((sqStep_apply _ _ r).trans ?_)
  rw [chunks_succ]
  refine congrArg₂ (· + ·) (sum_k7 c arg2 harg2 arg4 harg4 x1 x3 r) (Finset.sum_congr rfl fun p _ => by rw [k8_apply])

/-- The sums of the key channels' squares after chunk 9. -/
theorem sum_k9 (r : Fin 24) : v2210 c arg2 harg2 arg4 harg4 x1 x3 (ix2 (0 : Fin 1) r) = chunks (fun P => chan x1 x3 r P * chan x1 x3 r P) 10 := by
  refine (congrFun (show v2210 c arg2 harg2 arg4 harg4 x1 x3 = sqStep (v1994 c arg2 harg2 arg4 harg4 x1 x3) (v2202 c arg2 harg2 arg4 harg4 x1 x3) from rfl) _).trans ((sqStep_apply _ _ r).trans ?_)
  rw [chunks_succ]
  refine congrArg₂ (· + ·) (sum_k8 c arg2 harg2 arg4 harg4 x1 x3 r) (Finset.sum_congr rfl fun p _ => by rw [k9_apply])

/-- The sums of the key channels' squares after chunk 10. -/
theorem sum_k10 (r : Fin 24) : v2426 c arg2 harg2 arg4 harg4 x1 x3 (ix2 (0 : Fin 1) r) = chunks (fun P => chan x1 x3 r P * chan x1 x3 r P) 11 := by
  refine (congrFun (show v2426 c arg2 harg2 arg4 harg4 x1 x3 = sqStep (v2210 c arg2 harg2 arg4 harg4 x1 x3) (v2418 c arg2 harg2 arg4 harg4 x1 x3) from rfl) _).trans ((sqStep_apply _ _ r).trans ?_)
  rw [chunks_succ]
  refine congrArg₂ (· + ·) (sum_k9 c arg2 harg2 arg4 harg4 x1 x3 r) (Finset.sum_congr rfl fun p _ => by rw [k10_apply])

/-- The sums of the key channels' squares after chunk 11. -/
theorem sum_k11 (r : Fin 24) : v2642 c arg2 harg2 arg4 harg4 x1 x3 (ix2 (0 : Fin 1) r) = chunks (fun P => chan x1 x3 r P * chan x1 x3 r P) 12 := by
  refine (congrFun (show v2642 c arg2 harg2 arg4 harg4 x1 x3 = sqStep (v2426 c arg2 harg2 arg4 harg4 x1 x3) (v2634 c arg2 harg2 arg4 harg4 x1 x3) from rfl) _).trans ((sqStep_apply _ _ r).trans ?_)
  rw [chunks_succ]
  refine congrArg₂ (· + ·) (sum_k10 c arg2 harg2 arg4 harg4 x1 x3 r) (Finset.sum_congr rfl fun p _ => by rw [k11_apply])

/-- The sums of the key channels' squares after chunk 12. -/
theorem sum_k12 (r : Fin 24) : v2858 c arg2 harg2 arg4 harg4 x1 x3 (ix2 (0 : Fin 1) r) = chunks (fun P => chan x1 x3 r P * chan x1 x3 r P) 13 := by
  refine (congrFun (show v2858 c arg2 harg2 arg4 harg4 x1 x3 = sqStep (v2642 c arg2 harg2 arg4 harg4 x1 x3) (v2850 c arg2 harg2 arg4 harg4 x1 x3) from rfl) _).trans ((sqStep_apply _ _ r).trans ?_)
  rw [chunks_succ]
  refine congrArg₂ (· + ·) (sum_k11 c arg2 harg2 arg4 harg4 x1 x3 r) (Finset.sum_congr rfl fun p _ => by rw [k12_apply])

/-- The sums of the key channels' squares after chunk 13. -/
theorem sum_k13 (r : Fin 24) : v3098 c arg2 harg2 arg4 harg4 x1 x3 (ix2 (0 : Fin 1) r) = chunks (fun P => chan x1 x3 r P * chan x1 x3 r P) 14 := by
  refine (congrFun (show v3098 c arg2 harg2 arg4 harg4 x1 x3 = sqStep (v2858 c arg2 harg2 arg4 harg4 x1 x3) (v3090 c arg2 harg2 arg4 harg4 x1 x3) from rfl) _).trans ((sqStep_apply _ _ r).trans ?_)
  rw [chunks_succ]
  refine congrArg₂ (· + ·) (sum_k12 c arg2 harg2 arg4 harg4 x1 x3 r) (Finset.sum_congr rfl fun p _ => by rw [k13_apply])

end Cert.KernelIdeal.Gram

end
-- ==== Proof.KernelIdeal.Gram.lean ====
/-
The value of the second kernel call's body: the product of the convolved query and key channels over their norms, and the block it stores.
-/
module

public import proofs.«01_k».proof.Proof.Sums
public import proofs.«01_k».proof.Proof.KernelIdeal.Taps
public import proofs.«01_k».proof.Proof.Gen.Own.KernelIdeal.K1.Frame
public import proofs.«01_k».proof.Proof.KernelIdeal.GramSquares

@[expose] public section

set_option maxRecDepth 16384

noncomputable section

namespace Cert.KernelIdeal.Gram

open Cert.KernelIdeal Cert.KernelIdeal.Gen Cert.KernelIdeal.Taps Cert.KernelIdeal.Own.K1.kernelRun1_A.sl Cert.Attn
open Idealize.ShloMosaic Idealize.ShloMosaic.TcCoe

variable (c : Dev nD) (arg1 : Memref sig .tc .vmem S24x50176 .bf16) (harg1 : arg1.IsWhole) (arg2 : Memref sig .tc .vmem S24x50176 .bf16) (harg2 : arg2.IsWhole)
  (arg3 : Memref sig .tc .vmem S24x9 .f32) (harg3 : arg3.IsWhole) (arg4 : Memref sig .tc .vmem S24x9 .f32) (harg4 : arg4.IsWhole)
  (x0 x1 : Vec Ideal S24x50176 .bf16) (x2 x3 : Vec Ideal S24x9 .f32)

/-- The convolved channel `r` of a block as a row of pixels. -/
def chanRow (y : Vec Ideal S24x50176 .bf16) (w : Vec Ideal S24x9 .f32) (r : Fin 24) : Row := fun p => chan y w r p.val

/-- The query channels' norms. -/
theorem nq_apply (r : Fin 24) : v3102 c arg1 harg1 arg3 harg3 x0 x2 (ix2 r (0 : Fin 1)) = nrm (sq (chanRow x0 x2 r)) := by
  pointwise [v3102, v3101, v3099, v3100, cst_603]
  rw [sum_q13, chunks_all]; rfl

/-- The key channels' norms. -/
theorem nk_apply (r : Fin 24) : v3106 c arg2 harg2 arg4 harg4 x1 x3 (ix2 r (0 : Fin 1)) = nrm (sq (chanRow x1 x3 r)) := by
  pointwise [v3106, v3105, v3103, v3100, cst_603]
  rw [sum_k13, chunks_all]; rfl

/-- One more chunk's product added to the attention. -/
def gStep (acc : FVec Ideal S24x24 .f32) (x : FVec Ideal S24x3584 .f32) (nx : FVec Ideal S24x1 .f32) (y : FVec Ideal S24x3584 .f32) (ny : FVec Ideal S24x1 .f32) : FVec Ideal S24x24 .f32 :=
  addf acc (matmul dot_S24x3584_S24x3584_S24x24_1_1_0_0_n_n none
    (truncf .bf16 (divf x (broadcastTo S24x3584 nx broadcasts_S24x1_S24x3584)) bitsLt_bf16_f32)
    (truncf .bf16 (divf y (broadcastTo S24x3584 ny broadcasts_S24x1_S24x3584)) bitsLt_bf16_f32) (constant S24x24 .f32 0x00000000#32))

/-- The attention with one more chunk, at an index. -/
theorem gStep_apply (acc : FVec Ideal S24x24 .f32) (x : FVec Ideal S24x3584 .f32) (nx : FVec Ideal S24x1 .f32) (y : FVec Ideal S24x3584 .f32) (ny : FVec Ideal S24x1 .f32) (i j : Fin 24) :
    gStep acc x nx y ny (ix2 i j) = acc (ix2 i j) + ∑ p : Fin 3584, Ideal.div (x (ix2 i p)) (nx (ix2 i (0 : Fin 1))) * Ideal.div (y (ix2 j p)) (ny (ix2 j (0 : Fin 1))) := by
  pointwise [gStep]

/-- The product at pixel `P` of two convolved channels, each over its norm. -/
def prodAt (x0 x1 : Vec Ideal S24x50176 .bf16) (x2 x3 : Vec Ideal S24x9 .f32) (i j : Fin 24) (P : ℕ) : EReal :=
  Ideal.div (chan x0 x2 i P) (nrm (sq (chanRow x0 x2 i))) * Ideal.div (chan x1 x3 j P) (nrm (sq (chanRow x1 x3 j)))

/-- One more chunk's product, its tiles being the convolved channels and the norms theirs. -/
theorem gStep_chunk (acc : FVec Ideal S24x24 .f32) (x : FVec Ideal S24x3584 .f32) (nx : FVec Ideal S24x1 .f32) (y : FVec Ideal S24x3584 .f32) (ny : FVec Ideal S24x1 .f32) (K : ℕ)
    (hx : ∀ r p, x (ix2 r p) = chan x0 x2 r (3584 * K + p.val)) (hy : ∀ r p, y (ix2 r p) = chan x1 x3 r (3584 * K + p.val))
    (hnx : ∀ r, nx (ix2 r (0 : Fin 1)) = nrm (sq (chanRow x0 x2 r))) (hny : ∀ r, ny (ix2 r (0 : Fin 1)) = nrm (sq (chanRow x1 x3 r)))
    (i j : Fin 24) (ha : acc (ix2 i j) = chunks (prodAt x0 x1 x2 x3 i j) K) :
    gStep acc x nx y ny (ix2 i j) = chunks (prodAt x0 x1 x2 x3 i j) (K + 1) := by
  rw [gStep_apply, chunks_succ, ha]
  exact congrArg _ (Finset.sum_congr rfl fun p _ => by rw [hx, hy, hnx, hny]; rfl)

/-- The attention after chunk 0. -/
theorem g0 (i j : Fin 24) : v3347 c arg1 harg1 arg2 harg2 arg3 harg3 arg4 harg4 x0 x1 x2 x3 (ix2 i j) = chunks (prodAt x0 x1 x2 x3 i j) 1 :=
  (congrFun (show v3347 c arg1 harg1 arg2 harg2 arg3 harg3 arg4 harg4 x0 x1 x2 x3 = gStep v3107 (v142 c arg1 harg1 arg3 harg3 x0 x2) (v3102 c arg1 harg1 arg3 harg3 x0 x2) (v258 c arg2 harg2 arg4 harg4 x1 x3) (v3106 c arg2 harg2 arg4 harg4 x1 x3) from rfl) _).trans
    (gStep_chunk _ _ _ _ _ _ _ _ _ 0 (q0_apply c arg1 harg1 arg3 harg3 x0 x2) (k0_apply c arg2 harg2 arg4 harg4 x1 x3) (nq_apply c arg1 harg1 arg3 harg3 x0 x2) (nk_apply c arg2 harg2 arg4 harg4 x1 x3) i j (by rw [chunks_zero]; pointwise [v3107, cst]))

/-- The attention after chunk 1. -/
theorem g1 (i j : Fin 24) : v3563 c arg1 harg1 arg2 harg2 arg3 harg3 arg4 harg4 x0 x1 x2 x3 (ix2 i j) = chunks (prodAt x0 x1 x2 x3 i j) 2 :=
  (congrFun (show v3563 c arg1 harg1 arg2 harg2 arg3 harg3 arg4 harg4 x0 x1 x2 x3 = gStep (v3347 c arg1 harg1 arg2 harg2 arg3 harg3 arg4 harg4 x0 x1 x2 x3) (v370 c arg1 harg1 arg3 harg3 x0 x2) (v3102 c arg1 harg1 arg3 harg3 x0 x2) (v474 c arg2 harg2 arg4 harg4 x1 x3) (v3106 c arg2 harg2 arg4 harg4 x1 x3) from rfl) _).trans
    (gStep_chunk _ _ _ _ _ _ _ _ _ 1 (q1_apply c arg1 harg1 arg3 harg3 x0 x2) (k1_apply c arg2 harg2 arg4 harg4 x1 x3) (nq_apply c arg1 harg1 arg3 harg3 x0 x2) (nk_apply c arg2 harg2 arg4 harg4 x1 x3) i j (g0 c arg1 harg1 arg2 harg2 arg3 harg3 arg4 harg4 x0 x1 x2 x3 i j))

/-- The attention after chunk 2. -/
theorem g2 (i j : Fin 24) : v3779 c arg1 harg1 arg2 harg2 arg3 harg3 arg4 harg4 x0 x1 x2 x3 (ix2 i j) = chunks (prodAt x0 x1 x2 x3 i j) 3 :=
  (congrFun (show v3779 c arg1 harg1 arg2 harg2 arg3 harg3 arg4 harg4 x0 x1 x2 x3 = gStep (v3563 c arg1 harg1 arg2 harg2 arg3 harg3 arg4 harg4 x0 x1 x2 x3) (v586 c arg1 harg1 arg3 harg3 x0 x2) (v3102 c arg1 harg1 arg3 harg3 x0 x2) (v690 c arg2 harg2 arg4 harg4 x1 x3) (v3106 c arg2 harg2 arg4 harg4 x1 x3) from rfl) _).trans
    (gStep_chunk _ _ _ _ _ _ _ _ _ 2 (q2_apply c arg1 harg1 arg3 harg3 x0 x2) (k2_apply c arg2 harg2 arg4 harg4 x1 x3) (nq_apply c arg1 harg1 arg3 harg3 x0 x2) (nk_apply c arg2 harg2 arg4 harg4 x1 x3) i j (g1 c arg1 harg1 arg2 harg2 arg3 harg3 arg4 harg4 x0 x1 x2 x3 i j))

/-- The attention after chunk 3. -/
theorem g3 (i j : Fin 24) : v3995 c arg1 harg1 arg2 harg2 arg3 harg3 arg4 harg4 x0 x1 x2 x3 (ix2 i j) = chunks (prodAt x0 x1 x2 x3 i j) 4 :=
  (congrFun (show v3995 c arg1 harg1 arg2 harg2 arg3 harg3 arg4 harg4 x0 x1 x2 x3 = gStep (v3779 c arg1 harg1 arg2 harg2 arg3 harg3 arg4 harg4 x0 x1 x2 x3) (v802 c arg1 harg1 arg3 harg3 x0 x2) (v3102 c arg1 harg1 arg3 harg3 x0 x2) (v906 c arg2 harg2 arg4 harg4 x1 x3) (v3106 c arg2 harg2 arg4 harg4 x1 x3) from rfl) _).trans
    (gStep_chunk _ _ _ _ _ _ _ _ _ 3 (q3_apply c arg1 harg1 arg3 harg3 x0 x2) (k3_apply c arg2 harg2 arg4 harg4 x1 x3) (nq_apply c arg1 harg1 arg3 harg3 x0 x2) (nk_apply c arg2 harg2 arg4 harg4 x1 x3) i j (g2 c arg1 harg1 arg2 harg2 arg3 harg3 arg4 harg4 x0 x1 x2 x3 i j))

/-- The attention after chunk 4. -/
theorem g4 (i j : Fin 24) : v4211 c arg1 harg1 arg2 harg2 arg3 harg3 arg4 harg4 x0 x1 x2 x3 (ix2 i j) = chunks (prodAt x0 x1 x2 x3 i j) 5 :=
  (congrFun (show v4211 c arg1 harg1 arg2 harg2 arg3 harg3 arg4 harg4 x0 x1 x2 x3 = gStep (v3995 c arg1 harg1 arg2 harg2 arg3 harg3 arg4 harg4 x0 x1 x2 x3) (v1018 c arg1 harg1 arg3 harg3 x0 x2) (v3102 c arg1 harg1 arg3 harg3 x0 x2) (v1122 c arg2 harg2 arg4 harg4 x1 x3) (v3106 c arg2 harg2 arg4 harg4 x1 x3) from rfl) _).trans
    (gStep_chunk _ _ _ _ _ _ _ _ _ 4 (q4_apply c arg1 harg1 arg3 harg3 x0 x2) (k4_apply c arg2 harg2 arg4 harg4 x1 x3) (nq_apply c arg1 harg1 arg3 harg3 x0 x2) (nk_apply c arg2 harg2 arg4 harg4 x1 x3) i j (g3 c arg1 harg1 arg2 harg2 arg3 harg3 arg4 harg4 x0 x1 x2 x3 i j))

/-- The attention after chunk 5. -/
theorem g5 (i j : Fin 24) : v4427 c arg1 harg1 arg2 harg2 arg3 harg3 arg4 harg4 x0 x1 x2 x3 (ix2 i j) = chunks (prodAt x0 x1 x2 x3 i j) 6 :=
  (congrFun (show v4427 c arg1 harg1 arg2 harg2 arg3 harg3 arg4 harg4 x0 x1 x2 x3 = gStep (v4211 c arg1 harg1 arg2 harg2 arg3 harg3 arg4 harg4 x0 x1 x2 x3) (v1234 c arg1 harg1 arg3 harg3 x0 x2) (v3102 c arg1 harg1 arg3 harg3 x0 x2) (v1338 c arg2 harg2 arg4 harg4 x1 x3) (v3106 c arg2 harg2 arg4 harg4 x1 x3) from rfl) _).trans
    (gStep_chunk _ _ _ _ _ _ _ _ _ 5 (q5_apply c arg1 harg1 arg3 harg3 x0 x2) (k5_apply c arg2 harg2 arg4 harg4 x1 x3) (nq_apply c arg1 harg1 arg3 harg3 x0 x2) (nk_apply c arg2 harg2 arg4 harg4 x1 x3) i j (g4 c arg1 harg1 arg2 harg2 arg3 harg3 arg4 harg4 x0 x1 x2 x3 i j))

/-- The attention after chunk 6. -/
theorem g6 (i j : Fin 24) : v4643 c arg1 harg1 arg2 harg2 arg3 harg3 arg4 harg4 x0 x1 x2 x3 (ix2 i j) = chunks (prodAt x0 x1 x2 x3 i j) 7 :=
  (congrFun (show v4643 c arg1 harg1 arg2 harg2 arg3 harg3 arg4 harg4 x0 x1 x2 x3 = gStep (v4427 c arg1 harg1 arg2 harg2 arg3 harg3 arg4 harg4 x0 x1 x2 x3) (v1450 c arg1 harg1 arg3 harg3 x0 x2) (v3102 c arg1 harg1 arg3 harg3 x0 x2) (v1554 c arg2 harg2 arg4 harg4 x1 x3) (v3106 c arg2 harg2 arg4 harg4 x1 x3) from rfl) _).trans
    (gStep_chunk _ _ _ _ _ _ _ _ _ 6 (q6_apply c arg1 harg1 arg3 harg3 x0 x2) (k6_apply c arg2 harg2 arg4 harg4 x1 x3) (nq_apply c arg1 harg1 arg3 harg3 x0 x2) (nk_apply c arg2 harg2 arg4 harg4 x1 x3) i j (g5 c arg1 harg1 arg2 harg2 arg3 harg3 arg4 harg4 x0 x1 x2 x3 i j))

/-- The attention after chunk 7. -/
theorem g7 (i j : Fin 24) : v4859 c arg1 harg1 arg2 harg2 arg3 harg3 arg4 harg4 x0 x1 x2 x3 (ix2 i j) = chunks (prodAt x0 x1 x2 x3 i j) 8 :=
  (congrFun (show v4859 c arg1 harg1 arg2 harg2 arg3 harg3 arg4 harg4 x0 x1 x2 x3 = gStep (v4643 c arg1 harg1 arg2 harg2 arg3 harg3 arg4 harg4 x0 x1 x2 x3) (v1666 c arg1 harg1 arg3 harg3 x0 x2) (v3102 c arg1 harg1 arg3 harg3 x0 x2) (v1770 c arg2 harg2 arg4 harg4 x1 x3) (v3106 c arg2 harg2 arg4 harg4 x1 x3) from rfl) _).trans
    (gStep_chunk _ _ _ _ _ _ _ _ _ 7 (q7_apply c arg1 harg1 arg3 harg3 x0 x2) (k7_apply c arg2 harg2 arg4 harg4 x1 x3) (nq_apply c arg1 harg1 arg3 harg3 x0 x2) (nk_apply c arg2 harg2 arg4 harg4 x1 x3) i j (g6 c arg1 harg1 arg2 harg2 arg3 harg3 arg4 harg4 x0 x1 x2 x3 i j))

/-- The attention after chunk 8. -/
theorem g8 (i j : Fin 24) : v5075 c arg1 harg1 arg2 harg2 arg3 harg3 arg4 harg4 x0 x1 x2 x3 (ix2 i j) = chunks (prodAt x0 x1 x2 x3 i j) 9 :=
  (congrFun (show v5075 c arg1 harg1 arg2 harg2 arg3 harg3 arg4 harg4 x0 x1 x2 x3 = gStep (v4859 c arg1 harg1 arg2 harg2 arg3 harg3 arg4 harg4 x0 x1 x2 x3) (v1882 c arg1 harg1 arg3 harg3 x0 x2) (v3102 c arg1 harg1 arg3 harg3 x0 x2) (v1986 c arg2 harg2 arg4 harg4 x1 x3) (v3106 c arg2 harg2 arg4 harg4 x1 x3) from rfl) _).trans
    (gStep_chunk _ _ _ _ _ _ _ _ _ 8 (q8_apply c arg1 harg1 arg3 harg3 x0 x2) (k8_apply c arg2 harg2 arg4 harg4 x1 x3) (nq_apply c arg1 harg1 arg3 harg3 x0 x2) (nk_apply c arg2 harg2 arg4 harg4 x1 x3) i j (g7 c arg1 harg1 arg2 harg2 arg3 harg3 arg4 harg4 x0 x1 x2 x3 i j))

/-- The attention after chunk 9. -/
theorem g9 (i j : Fin 24) : v5291 c arg1 harg1 arg2 harg2 arg3 harg3 arg4 harg4 x0 x1 x2 x3 (ix2 i j) = chunks (prodAt x0 x1 x2 x3 i j) 10 :=
  (congrFun (show v5291 c arg1 harg1 arg2 harg2 arg3 harg3 arg4 harg4 x0 x1 x2 x3 = gStep (v5075 c arg1 harg1 arg2 harg2 arg3 harg3 arg4 harg4 x0 x1 x2 x3) (v2098 c arg1 harg1 arg3 harg3 x0 x2) (v3102 c arg1 harg1 arg3 harg3 x0 x2) (v2202 c arg2 harg2 arg4 harg4 x1 x3) (v3106 c arg2 harg2 arg4 harg4 x1 x3) from rfl) _).trans
    (gStep_chunk _ _ _ _ _ _ _ _ _ 9 (q9_apply c arg1 harg1 arg3 harg3 x0 x2) (k9_apply c arg2 harg2 arg4 harg4 x1 x3) (nq_apply c arg1 harg1 arg3 harg3 x0 x2) (nk_apply c arg2 harg2 arg4 harg4 x1 x3) i j (g8 c arg1 harg1 arg2 harg2 arg3 harg3 arg4 harg4 x0 x1 x2 x3 i j))

/-- The attention after chunk 10. -/
theorem g10 (i j : Fin 24) : v5507 c arg1 harg1 arg2 harg2 arg3 harg3 arg4 harg4 x0 x1 x2 x3 (ix2 i j) = chunks (prodAt x0 x1 x2 x3 i j) 11 :=
  (congrFun (show v5507 c arg1 harg1 arg2 harg2 arg3 harg3 arg4 harg4 x0 x1 x2 x3 = gStep (v5291 c arg1 harg1 arg2 harg2 arg3 harg3 arg4 harg4 x0 x1 x2 x3) (v2314 c arg1 harg1 arg3 harg3 x0 x2) (v3102 c arg1 harg1 arg3 harg3 x0 x2) (v2418 c arg2 harg2 arg4 harg4 x1 x3) (v3106 c arg2 harg2 arg4 harg4 x1 x3) from rfl) _).trans
    (gStep_chunk _ _ _ _ _ _ _ _ _ 10 (q10_apply c arg1 harg1 arg3 harg3 x0 x2) (k10_apply c arg2 harg2 arg4 harg4 x1 x3) (nq_apply c arg1 harg1 arg3 harg3 x0 x2) (nk_apply c arg2 harg2 arg4 harg4 x1 x3) i j (g9 c arg1 harg1 arg2 harg2 arg3 harg3 arg4 harg4 x0 x1 x2 x3 i j))

/-- The attention after chunk 11. -/
theorem g11 (i j : Fin 24) : v5723 c arg1 harg1 arg2 harg2 arg3 harg3 arg4 harg4 x0 x1 x2 x3 (ix2 i j) = chunks (prodAt x0 x1 x2 x3 i j) 12 :=
  (congrFun (show v5723 c arg1 harg1 arg2 harg2 arg3 harg3 arg4 harg4 x0 x1 x2 x3 = gStep (v5507 c arg1 harg1 arg2 harg2 arg3 harg3 arg4 harg4 x0 x1 x2 x3) (v2530 c arg1 harg1 arg3 harg3 x0 x2) (v3102 c arg1 harg1 arg3 harg3 x0 x2) (v2634 c arg2 harg2 arg4 harg4 x1 x3) (v3106 c arg2 harg2 arg4 harg4 x1 x3) from rfl) _).trans
    (gStep_chunk _ _ _ _ _ _ _ _ _ 11 (q11_apply c arg1 harg1 arg3 harg3 x0 x2) (k11_apply c arg2 harg2 arg4 harg4 x1 x3) (nq_apply c arg1 harg1 arg3 harg3 x0 x2) (nk_apply c arg2 harg2 arg4 harg4 x1 x3) i j (g10 c arg1 harg1 arg2 harg2 arg3 harg3 arg4 harg4 x0 x1 x2 x3 i j))

/-- The attention after chunk 12. -/
theorem g12 (i j : Fin 24) : r_13 c arg1 harg1 arg2 harg2 arg3 harg3 arg4 harg4 x0 x1 x2 x3 (ix2 i j) = chunks (prodAt x0 x1 x2 x3 i j) 13 :=
  (congrFun (show r_13 c arg1 harg1 arg2 harg2 arg3 harg3 arg4 harg4 x0 x1 x2 x3 = gStep (v5723 c arg1 harg1 arg2 harg2 arg3 harg3 arg4 harg4 x0 x1 x2 x3) (v2746 c arg1 harg1 arg3 harg3 x0 x2) (v3102 c arg1 harg1 arg3 harg3 x0 x2) (v2850 c arg2 harg2 arg4 harg4 x1 x3) (v3106 c arg2 harg2 arg4 harg4 x1 x3) from rfl) _).trans
    (gStep_chunk _ _ _ _ _ _ _ _ _ 12 (q12_apply c arg1 harg1 arg3 harg3 x0 x2) (k12_apply c arg2 harg2 arg4 harg4 x1 x3) (nq_apply c arg1 harg1 arg3 harg3 x0 x2) (nk_apply c arg2 harg2 arg4 harg4 x1 x3) i j (g11 c arg1 harg1 arg2 harg2 arg3 harg3 arg4 harg4 x0 x1 x2 x3 i j))

/-- The attention after the last chunk. -/
theorem g13 (i j : Fin 24) : gStep (r_13 c arg1 harg1 arg2 harg2 arg3 harg3 arg4 harg4 x0 x1 x2 x3) (v2974 c arg1 harg1 arg3 harg3 x0 x2) (v3102 c arg1 harg1 arg3 harg3 x0 x2) (v3090 c arg2 harg2 arg4 harg4 x1 x3) (v3106 c arg2 harg2 arg4 harg4 x1 x3) (ix2 i j) = chunks (prodAt x0 x1 x2 x3 i j) 14 :=
  gStep_chunk _ _ _ _ _ _ _ _ _ 13 (q13_apply c arg1 harg1 arg3 harg3 x0 x2) (k13_apply c arg2 harg2 arg4 harg4 x1 x3) (nq_apply c arg1 harg1 arg3 harg3 x0 x2) (nk_apply c arg2 harg2 arg4 harg4 x1 x3) i j (g12 c arg1 harg1 arg2 harg2 arg3 harg3 arg4 harg4 x0 x1 x2 x3 i j)

/-- The four pieces of the stored block, one above the other. -/
def stack (g : FVec Ideal S24x24 .f32) (a b : FVec Ideal S1x24 .f32) : FVec Ideal S1x32x24 .f32 :=
  shapeCast S1x32x24 (concatenate S32x24 0 [⟨S24x24, g⟩, ⟨S1x24, a⟩, ⟨S1x24, b⟩, ⟨S6x24, broadcast S6x24 (Scalar.ofBits .f32 0x00000000#32)⟩] concatenates_S24x24_S1x24_S1x24_S6x24_S32x24_d0) shapeCasts_S32x24_S1x32x24

/-- The first rows of the stored block are the attention. -/
theorem stack_apply (g : FVec Ideal S24x24 .f32) (a b : FVec Ideal S1x24 .f32) (i j : Fin 24) :
    stack g a b (ix3 (0 : Fin 1) (⟨i.val, by omega⟩ : Fin 32) j) = g (ix2 i j) := by
  pointwise [stack]

/-- What the body stores, at a row of the attention. -/
theorem stored_apply (i j : Fin 24) : r_25 c arg1 harg1 arg2 harg2 arg3 harg3 arg4 harg4 x0 x1 x2 x3 (ix3 (0 : Fin 1) (⟨i.val, by omega⟩ : Fin 32) j)
    = gram (chanRow x0 x2 i) (chanRow x1 x3 j) := by
  refine (congrFun (show r_25 c arg1 harg1 arg2 harg2 arg3 harg3 arg4 harg4 x0 x1 x2 x3 = stack (gStep (r_13 c arg1 harg1 arg2 harg2 arg3 harg3 arg4 harg4 x0 x1 x2 x3) (v2974 c arg1 harg1 arg3 harg3 x0 x2) (v3102 c arg1 harg1 arg3 harg3 x0 x2) (v3090 c arg2 harg2 arg4 harg4 x1 x3) (v3106 c arg2 harg2 arg4 harg4 x1 x3)) (v3094 c arg1 harg1 arg3 harg3 x0 x2) (v3098 c arg2 harg2 arg4 harg4 x1 x3) from rfl) _).trans ((stack_apply _ _ _ i j).trans ((g13 c arg1 harg1 arg2 harg2 arg3 harg3 arg4 harg4 x0 x1 x2 x3 i j).trans ?_))
  rw [chunks_all]; rfl

end Cert.KernelIdeal.Gram

end
-- ==== Proof.KernelIdeal.Second.lean ====
/-
What the second call leaves in its output array: each head's product of query and key channels over their norms.
-/
module

public import proofs.«01_k».proof.Proof.KernelIdeal.First
public import proofs.«01_k».proof.Proof.KernelIdeal.Gram

@[expose] public section

set_option maxRecDepth 16384

noncomputable section

namespace Cert.KernelIdeal.Value

open Cert.KernelIdeal Cert.KernelIdeal.Gen Cert.KernelIdeal.Own Cert.KernelIdeal.Whole Cert.KernelIdeal.Gram Cert.Attn
open Idealize.ShloMosaic Idealize.ShloMosaic.TcCoe
open Idealize.ShloMosaic.Rounds
open Idealize.ShloMosaic.Pipeline (Dat)

variable (m : (ℓ : Loc nD τ sig) → Buf (Elt Ideal) ℓ) (c : Dev nD)

/-- The block indices of the second call's windows at every point. -/
theorem idx1 : ∀ t : Fin cfg1.N, win1_0.index t = ![t.val, 0] ∧ win1_1.index t = ![t.val, 0]
    ∧ win1_2.index t = ![t.val, 0] ∧ win1_3.index t = ![t.val, 0] ∧ win1_4.index t = ![t.val, 0, 0] :=
  (by decide +kernel : ∀ t : Fin grid1.N, _)

/-- The head of a point of the second call. -/
abbrev hd1 (t : Fin cfg1.N) : Fin 8 := ⟨t.val, t.isLt⟩

/-- The second call finds the first call's query array. -/
theorem entry1_q (o : Fin 192) (p : Fin 50176) : Ve1 m (outs m) c main_v12_0 (ix2 o p) = conv (inputs m c).wq (inputs m c).xq o p :=
  congrFun ((V2_at_main_v12_0 m (outs m) c).trans (q_array m c)) (ix2 o p)
/-- The second call finds the first call's key and value array. -/
theorem entry1_kv (o : Fin 384) (p : Fin 50176) : Ve1 m (outs m) c main_v12_1 (ix2 o p) = conv (inputs m c).wkv (inputs m c).xkv o p :=
  congrFun ((V2_at_main_v12_1 m (outs m) c).trans (kv_array m c)) (ix2 o p)
/-- The second call finds the query's depthwise weights. -/
theorem entry1_dq (o : Fin 192) (t : Fin 9) : Ve1 m (outs m) c main_v4 (ix2 o t) = (inputs m c).dq o t :=
  (congrFun (V2_of m (outs m) c main_v4 (by decide)) (ix2 o t)).trans (host_dq m c o t)
/-- The second call finds the key's and value's depthwise weights. -/
theorem entry1_dkv (o : Fin 384) (t : Fin 9) : Ve1 m (outs m) c main_v5 (ix2 o t) = (inputs m c).dkv o t :=
  (congrFun (V2_of m (outs m) c main_v5 (by decide)) (ix2 o t)).trans (host_dkv m c o t)

/-- The block of query channels at point `t`. -/
theorem blk1_q (t : Fin cfg1.N) (r : Fin 24) (p : Fin 50176) :
    K1.iblk (Ve1 m (outs m)) c 0 t (ix2 r p) = conv (inputs m c).wq (inputs m c).xq (ch (hd1 t) r) p := by
  refine Eq.trans ?_ (entry1_q m c (ch (hd1 t) r) p)
  blk_ext [K1.iblk, idx1 t, ch]
/-- The block of key channels at point `t`. -/
theorem blk1_k (t : Fin cfg1.N) (r : Fin 24) (p : Fin 50176) :
    K1.iblk (Ve1 m (outs m)) c 1 t (ix2 r p) = conv (inputs m c).wkv (inputs m c).xkv (kch (hd1 t) r) p := by
  refine Eq.trans ?_ (entry1_kv m c (kch (hd1 t) r) p)
  blk_ext [K1.iblk, idx1 t, kch]
/-- The block of the query's depthwise weights at point `t`. -/
theorem blk1_dq (t : Fin cfg1.N) (r : Fin 24) (n : Fin 9) :
    K1.iblk (Ve1 m (outs m)) c 2 t (ix2 r n) = (inputs m c).dq (ch (hd1 t) r) n := by
  refine Eq.trans ?_ (entry1_dq m c (ch (hd1 t) r) n)
  blk_ext [K1.iblk, idx1 t, ch]
/-- The block of the key's depthwise weights at point `t`. -/
theorem blk1_dk (t : Fin cfg1.N) (r : Fin 24) (n : Fin 9) :
    K1.iblk (Ve1 m (outs m)) c 3 t (ix2 r n) = (inputs m c).dkv (kch (hd1 t) r) n := by
  refine Eq.trans ?_ (entry1_dkv m c (kch (hd1 t) r) n)
  blk_ext [K1.iblk, idx1 t, kch]

/-- A convolved channel depends on its weights and its row alone. -/
theorem chanRow_eq (y : Vec Ideal S24x50176 .bf16) (w : Vec Ideal S24x9 .f32) (r : Fin 24) (w' : Fin 9 → EReal) (y' : Row)
    (hw : ∀ n, w (ix2 r n) = w' n) (hy : ∀ q, y (ix2 r q) = y' q) : chanRow y w r = fun p => dw w' y' p.val := by
  obtain rfl : (fun n => w (ix2 r n)) = w' := funext hw
  obtain rfl : (fun q => y (ix2 r q)) = y' := funext hy
  rfl

/-- The convolved query channels of point `t`. -/
theorem chan_q (t : Fin cfg1.N) (r : Fin 24) :
    chanRow (K1.iblk (Ve1 m (outs m)) c 0 t) (K1.iblk (Ve1 m (outs m)) c 2 t) r = (inputs m c).q (ch (hd1 t) r) := by
  exact chanRow_eq _ _ r _ _ (blk1_dq m c t r) (blk1_q m c t r)
/-- The convolved key channels of point `t`. -/
theorem chan_k (t : Fin cfg1.N) (r : Fin 24) :
    chanRow (K1.iblk (Ve1 m (outs m)) c 1 t) (K1.iblk (Ve1 m (outs m)) c 3 t) r = (inputs m c).kv (kch (hd1 t) r) := by
  exact chanRow_eq _ _ r _ _ (blk1_dk m c t r) (blk1_k m c t r)

/-- The block point `t` leaves, at a row of the attention. -/
theorem s_point (t : Fin cfg1.N) (i j : Fin 24) :
    K1.outsAt1 (U := UR sig nD τ) (Lvl := ℕ) (Ix := Unit) Variants.none (Ve1 m (outs m)) c t (ix3 (0 : Fin 1) (⟨i.val, by omega⟩ : Fin 32) j)
      = gram ((inputs m c).q (ch (hd1 t) i)) ((inputs m c).kv (kch (hd1 t) j)) := by
  unfold K1.outsAt1 K1.out1_A_4
  rw [View.read_writes_junk_eq_canon]
  unfold K1.kernelRun1_A
  dsimp only
  rw [View.canon_unit_zero (by decide)]
  refine (stored_apply c _ _ _ _ _ _ _ _ _ _ _ _ i j).trans ?_
  rw [chan_q, chan_k]

/-- The second call's output array, at a row of the attention. -/
theorem s_array (h : Fin 8) (i j : Fin 24) : outs m 3 main_v13 c (ix3 h (⟨i.val, by omega⟩ : Fin 32) j)
    = gram ((inputs m c).q (ch h i)) ((inputs m c).kv (kch h j)) := by
  rw [outs_s]
  refine Dat.arrAt_forall_of_covers (K1.dat (U := UR sig nD τ) (Lvl := ℕ) (Ix := Unit) Variants.none (Ve1 m (outs m)) D0 c) 4
    (fun x v => ∀ (h : Fin 8) (i j : Fin 24), x = ix3 h (⟨i.val, by omega⟩ : Fin 32) j → v = gram ((inputs m c).q (ch h i)) ((inputs m c).kv (kch h j)))
    (by decide +kernel) (fun t _ y => ?_) (ix3 h (⟨i.val, by omega⟩ : Fin 32) j) (Memref.isWhole_whole _) h i j rfl
  intro h i j hx
  blk_simp
  rw [K1.after1_4]
  idx_vars y
  have e : ((cfg1.win 4).blk t).view.emb (ix3 y0 y1 y2) = ix3 (hd1 t) y1 y2 := by blk_ext [idx1 t]
  have hx' : ix3 (hd1 t) y1 y2 = ix3 h (⟨i.val, by omega⟩ : Fin 32) j := e.symm.trans hx
  have h0 : hd1 t = h := congrFun hx' 0
  have h1 : y1 = (⟨i.val, by omega⟩ : Fin 32) := congrFun hx' 1
  have h2 : y2 = j := congrFun hx' 2
  subst h0 h1 h2
  have hy : y0 = 0 := Subsingleton.elim _ _
  subst hy
  exact s_point m c t i y2

end Cert.KernelIdeal.Value

end
-- ==== Proof.KernelIdeal.Val.lean ====
/-
The value of the third kernel call's body: the convolved value channels, stored chunk by chunk.
-/
module

public import proofs.«01_k».proof.Proof.KernelIdeal.Taps
public import proofs.«01_k».proof.Proof.Gen.Own.KernelIdeal.K2.Frame

@[expose] public section

set_option maxRecDepth 16384

noncomputable section

namespace Cert.KernelIdeal.Val

open Cert.KernelIdeal Cert.KernelIdeal.Gen Cert.KernelIdeal.Taps Cert.KernelIdeal.Own Cert.Attn
open Idealize.ShloMosaic Idealize.ShloMosaic.TcCoe
open Idealize.ShloMosaic.Rounds

variable (c : Dev nD) (i : grid2.Coords) (arg1 : Memref sig .tc .vmem S24x50176 .bf16) (harg1 : arg1.IsWhole) (arg2 : Memref sig .tc .vmem S24x9 .f32) (harg2 : arg2.IsWhole)
  (arg3 : Memref sig .tc .vmem S24x50176 .bf16) (harg3 : arg3.IsWhole) (x0 : Vec Ideal S24x50176 .bf16) (x1 : Vec Ideal S24x9 .f32)

/-- The weights as the body reads them. -/
theorem taps_apply (r : Fin 24) (t : Fin 9) : K2.kernelRun2_A.sl.r c arg2 harg2 x1 (ix2 r t) = x1 (ix2 r t) := by
  have e : K2.kernelRun2_A.sl.r c arg2 harg2 x1 = shapeCast S24x9 (View.ld x1 (Rect.unit (s := S24x9) ![0, 0] S24x9.size inb_S24x9_S24x9_0_0)) shapeCasts_S24x9_S24x9 :=
    congrArg (fun z => shapeCast S24x9 (View.ld z (Rect.unit (s := S24x9) ![0, 0] S24x9.size inb_S24x9_S24x9_0_0)) shapeCasts_S24x9_S24x9) (harg2.read_unread x1)
  rw [e, View.ld_unit_zero (by decide)]
  pointwise

/-- The fourteen stores of the body. -/
theorem pieces : (K2.kernelRun2_A (Ix := Unit) (U := UR sig nD τ) (Lvl := ℕ) Variants.none c i arg1 harg1 arg2 harg2 arg3 harg3 x0 x1).1 =
    [⟨Rect.unit ![0, 46592] S24x3584.size inb_S24x50176_S24x3584_0_46592, truncf .bf16 (lastChunk (K2.kernelRun2_A.sl.r c arg2 harg2 x1) arg1 harg1 x0) bitsLt_bf16_f32⟩,
      ⟨Rect.unit ![0, 43008] S24x3584.size inb_S24x50176_S24x3584_0_43008, truncf .bf16 (midChunk (K2.kernelRun2_A.sl.r c arg2 harg2 x1) arg1 harg1 x0 (3584 * 12) (by norm_num) (by norm_num)) bitsLt_bf16_f32⟩,
      ⟨Rect.unit ![0, 39424] S24x3584.size inb_S24x50176_S24x3584_0_39424, truncf .bf16 (midChunk (K2.kernelRun2_A.sl.r c arg2 harg2 x1) arg1 harg1 x0 (3584 * 11) (by norm_num) (by norm_num)) bitsLt_bf16_f32⟩,
      ⟨Rect.unit ![0, 35840] S24x3584.size inb_S24x50176_S24x3584_0_35840, truncf .bf16 (midChunk (K2.kernelRun2_A.sl.r c arg2 harg2 x1) arg1 harg1 x0 (3584 * 10) (by norm_num) (by norm_num)) bitsLt_bf16_f32⟩,
      ⟨Rect.unit ![0, 32256] S24x3584.size inb_S24x50176_S24x3584_0_32256, truncf .bf16 (midChunk (K2.kernelRun2_A.sl.r c arg2 harg2 x1) arg1 harg1 x0 (3584 * 9) (by norm_num) (by norm_num)) bitsLt_bf16_f32⟩,
      ⟨Rect.unit ![0, 28672] S24x3584.size inb_S24x50176_S24x3584_0_28672, truncf .bf16 (midChunk (K2.kernelRun2_A.sl.r c arg2 harg2 x1) arg1 harg1 x0 (3584 * 8) (by norm_num) (by norm_num)) bitsLt_bf16_f32⟩,
      ⟨Rect.unit ![0, 25088] S24x3584.size inb_S24x50176_S24x3584_0_25088, truncf .bf16 (midChunk (K2.kernelRun2_A.sl.r c arg2 harg2 x1) arg1 harg1 x0 (3584 * 7) (by norm_num) (by norm_num)) bitsLt_bf16_f32⟩,
      ⟨Rect.unit ![0, 21504] S24x3584.size inb_S24x50176_S24x3584_0_21504, truncf .bf16 (midChunk (K2.kernelRun2_A.sl.r c arg2 harg2 x1) arg1 harg1 x0 (3584 * 6) (by norm_num) (by norm_num)) bitsLt_bf16_f32⟩,
      ⟨Rect.unit ![0, 17920] S24x3584.size inb_S24x50176_S24x3584_0_17920, truncf .bf16 (midChunk (K2.kernelRun2_A.sl.r c arg2 harg2 x1) arg1 harg1 x0 (3584 * 5) (by norm_num) (by norm_num)) bitsLt_bf16_f32⟩,
      ⟨Rect.unit ![0, 14336] S24x3584.size inb_S24x50176_S24x3584_0_14336, truncf .bf16 (midChunk (K2.kernelRun2_A.sl.r c arg2 harg2 x1) arg1 harg1 x0 (3584 * 4) (by norm_num) (by norm_num)) bitsLt_bf16_f32⟩,
      ⟨Rect.unit ![0, 10752] S24x3584.size inb_S24x50176_S24x3584_0_10752, truncf .bf16 (midChunk (K2.kernelRun2_A.sl.r c arg2 harg2 x1) arg1 harg1 x0 (3584 * 3) (by norm_num) (by norm_num)) bitsLt_bf16_f32⟩,
      ⟨Rect.unit ![0, 7168] S24x3584.size inb_S24x50176_S24x3584_0_7168, truncf .bf16 (midChunk (K2.kernelRun2_A.sl.r c arg2 harg2 x1) arg1 harg1 x0 (3584 * 2) (by norm_num) (by norm_num)) bitsLt_bf16_f32⟩,
      ⟨Rect.unit ![0, 3584] S24x3584.size inb_S24x50176_S24x3584_0_3584, truncf .bf16 (midChunk (K2.kernelRun2_A.sl.r c arg2 harg2 x1) arg1 harg1 x0 (3584 * 1) (by norm_num) (by norm_num)) bitsLt_bf16_f32⟩,
      ⟨Rect.unit ![0, 0] S24x3584.size inb_S24x50176_S24x3584_0_0, truncf .bf16 (firstChunk (K2.kernelRun2_A.sl.r c arg2 harg2 x1) arg1 harg1 x0) bitsLt_bf16_f32⟩] := by
  unfold K2.kernelRun2_A
  dsimp only
  rfl

/-- What the body leaves in its output block. -/
theorem out_apply (r : Fin 24) (p : Fin 50176) : K2.out2_A_2 (Ix := Unit) (U := UR sig nD τ) (Lvl := ℕ) Variants.none c i arg1 harg1 arg2 harg2 arg3 harg3 x0 x1 (ix2 r p)
    = dw (fun t => x1 (ix2 r t)) (row x0 r) p.val := by
  have hc := K2.cover2_A_2 (Ix := Unit) (U := UR sig nD τ) (Lvl := ℕ) Variants.none c i arg1 harg1 arg2 harg2 arg3 harg3 x0 x1 (ix2 r p)
  unfold K2.out2_A_2
  rw [View.read_writes_junk_eq_canon]
  rw [pieces] at hc ⊢
  canon_tiles y h using hc
  all_goals clear hc
  · idx_vars y
    obtain rfl : r = y0 := Fin.ext h0
    refine (lastChunk_apply _ arg1 harg1 x0 _ _).trans ?_
    simp only [taps_apply]
    exact congrArg (dw _ _) ((by omega : _ = p.val))
  · idx_vars y
    obtain rfl : r = y0 := Fin.ext h0
    refine (midChunk_apply _ arg1 harg1 x0 (3584 * 12) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 11) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 10) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 9) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 8) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 7) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 6) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 5) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 4) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 3) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 2) (by norm_num) (by norm_num) (by norm_num) _ _).trans ?_
    simp only [taps_apply]
    exact congrArg (dw _ _) ((by omega : _ = p.val))
  · idx_vars y
    obtain rfl : r = y0 := Fin.ext h0
    refine (midChunk_apply _ arg1 harg1 x0 (3584 * 1) (by norm_num) (by norm_num) (by norm_num) _ _).trans ?_
    simp only [taps_apply]
    exact congrArg (dw _ _) ((by omega : _ = p.val))
  · idx_vars y
    obtain rfl : r = y0 := Fin.ext h0
    refine (firstChunk_apply _ arg1 harg1 x0 _ _).trans ?_
    simp only [taps_apply]
    exact congrArg (dw _ _) ((by omega : _ = p.val))

end Cert.KernelIdeal.Val

end
-- ==== Proof.KernelIdeal.Third.lean ====
/-
What the third call leaves in its output array: the value channels after both convolutions.
-/
module

public import proofs.«01_k».proof.Proof.KernelIdeal.First
public import proofs.«01_k».proof.Proof.KernelIdeal.Val

@[expose] public section

set_option maxRecDepth 16384

noncomputable section

namespace Cert.KernelIdeal.Value

open Cert.KernelIdeal Cert.KernelIdeal.Gen Cert.KernelIdeal.Own Cert.KernelIdeal.Whole Cert.Attn
open Idealize.ShloMosaic Idealize.ShloMosaic.TcCoe
open Idealize.ShloMosaic.Rounds
open Idealize.ShloMosaic.Pipeline (Dat)

variable (m : (ℓ : Loc nD τ sig) → Buf (Elt Ideal) ℓ) (c : Dev nD)

/-- The block indices of the third call's windows at every point. -/
theorem idx2 : ∀ t : Fin cfg2.N, win2_0.index t = ![t.val + 8, 0] ∧ win2_1.index t = ![t.val + 8, 0] ∧ win2_2.index t = ![t.val, 0] :=
  (by decide +kernel : ∀ t : Fin grid2.N, _)

/-- The head of a point of the third call. -/
abbrev hd2 (t : Fin cfg2.N) : Fin 8 := ⟨t.val, t.isLt⟩

/-- The third call finds the first call's key and value array. -/
theorem entry2_kv (o : Fin 384) (p : Fin 50176) : Ve2 m (outs m) c main_v12_1 (ix2 o p) = conv (inputs m c).wkv (inputs m c).xkv o p :=
  congrFun ((V3_of m (outs m) c main_v12_1 (by decide)).trans ((V2_at_main_v12_1 m (outs m) c).trans (kv_array m c))) (ix2 o p)
/-- The third call finds the key's and value's depthwise weights. -/
theorem entry2_dkv (o : Fin 384) (t : Fin 9) : Ve2 m (outs m) c main_v5 (ix2 o t) = (inputs m c).dkv o t :=
  (congrFun ((V3_of m (outs m) c main_v5 (by decide)).trans (V2_of m (outs m) c main_v5 (by decide))) (ix2 o t)).trans (host_dkv m c o t)

/-- The block of value channels at point `t`. -/
theorem blk2_v (t : Fin cfg2.N) (r : Fin 24) (p : Fin 50176) :
    K2.iblk (Ve2 m (outs m)) c 0 t (ix2 r p) = conv (inputs m c).wkv (inputs m c).xkv (vch (hd2 t) r) p := by
  refine Eq.trans ?_ (entry2_kv m c (vch (hd2 t) r) p)
  blk_ext [K2.iblk, idx2 t, vch]
/-- The block of the value's depthwise weights at point `t`. -/
theorem blk2_dv (t : Fin cfg2.N) (r : Fin 24) (n : Fin 9) :
    K2.iblk (Ve2 m (outs m)) c 1 t (ix2 r n) = (inputs m c).dkv (vch (hd2 t) r) n := by
  refine Eq.trans ?_ (entry2_dkv m c (vch (hd2 t) r) n)
  blk_ext [K2.iblk, idx2 t, vch]

/-- The value channels after both convolutions. -/
def vv : FVec Ideal S192x50176 .bf16 := fun j => (inputs m c).kv (⟨192 + (j 0).val, by have : (j 0).val < 192 := (j 0).isLt; omega⟩) (j 1)

/-- The block point `t` leaves. -/
theorem v_point (t : Fin cfg2.N) (r : Fin 24) (p : Fin 50176) :
    K2.outsAt2 (U := UR sig nD τ) (Lvl := ℕ) (Ix := Unit) Variants.none (Ve2 m (outs m)) c t (ix2 r p) = (inputs m c).kv (vch (hd2 t) r) p := by
  unfold K2.outsAt2
  refine (Val.out_apply c _ _ _ _ _ _ _ _ _ r p).trans ?_
  exact congrArg₂ (fun w y => dw w y p.val) (funext fun n => blk2_dv m c t r n) (funext fun q => blk2_v m c t r q)

/-- What the third call's data hold of its output after the run. -/
theorem v_data : (K2.dat (U := UR sig nD τ) (Lvl := ℕ) (Ix := Unit) Variants.none (Ve2 m (outs m)) D0 c).arrAt 2 cfg2.N = vv m c := by
  refine Dat.arrAt_eq_of_covers _ 2 _ (by decide +kernel) fun t _ y => ?_
  blk_simp
  rw [K2.after2_2]
  idx_vars y
  have e : ((cfg2.win 2).blk t).view.emb (ix2 y0 y1) = ix2 (ch (hd2 t) y0) y1 := by blk_ext [idx2 t, ch]
  refine (v_point m c t y0 y1).trans (Eq.trans ?_ (congrArg (vv m c) e.symm))
  exact congrArg (fun o => (inputs m c).kv o y1) (Fin.ext (by simp [vch, ch]; omega))

/-- The third call's output array. -/
theorem v_array : outs m 4 main_v14 c = vv m c := (outs_v m c).trans (v_data m c)

end Cert.KernelIdeal.Value

end
-- ==== Proof.KernelIdeal.Mixture.lean ====
/-
The value of the fourth kernel call's first stage: the attention from the second call's sums, each entry's place in its row
counted, the four masked softmaxes, their mixture, and the projection of every head.
-/
module

public import proofs.«01_k».proof.Proof.Formula
public import proofs.«01_k».proof.Proof.Order
public import proofs.«01_k».proof.Proof.Gen.KernelIdeal.Skeleton
public import Idealize.ShloMosaic.Lib.Pipeline.ValueKit
public import Idealize.ShloMosaic.Lib.Pointwise
public import Idealize.ShloMosaic.PureOps.IdealRules

@[expose] public section

set_option maxRecDepth 16384

noncomputable section

namespace Cert.KernelIdeal.Mix

open Cert.KernelIdeal Cert.KernelIdeal.Gen Cert.Attn
open Idealize.ShloMosaic Idealize.ShloMosaic.TcCoe

/-- A row's maximum, in every lane. -/
def mxv (v : FVec Ideal S8x24x24 .f32) : FVec Ideal S8x24x24 .f32 :=
  broadcastTo S8x24x24 (shapeCast S8x24x1 (multiReduction .maximumf [2] S8x24 v 0xFF800000#32 reduces_S8x24x24_S8x24 (.inl rfl) rfl) shapeCasts_S8x24_S8x24x1) broadcasts_S8x24x1_S8x24x24

/-- The kernel's softmax along the last axis. -/
def smx (v : FVec Ideal S8x24x24 .f32) : FVec Ideal S8x24x24 .f32 :=
  divf (exp (subf v (mxv v)))
    (broadcastTo S8x24x24 (shapeCast S8x24x1 (multiReduction .add [2] S8x24 (exp (subf v (mxv v))) 0x00000000#32 reduces_S8x24x24_S8x24 (.inl rfl) rfl) shapeCasts_S8x24_S8x24x1) broadcasts_S8x24x1_S8x24x24)

/-- It is the softmax of a row. -/
theorem smx_apply (v : FVec Ideal S8x24x24 .f32) (h : Fin 8) (i j : Fin 24) :
    smx v (ix3 h i j) = softmax (fun j => v (ix3 h i j)) j := by
  pointwise [smx, mxv]
  rw [fold_max]
  rfl

/-- The entries whose place in their row is before a bound, the others at the mask's constant. -/
def mk (w : BitVec 32) (x r : FVec Ideal S8x24x24 .f32) : FVec Ideal S8x24x24 .f32 :=
  select (cmpf .olt r (broadcast S8x24x24 (Scalar.ofBits .f32 w))) x (broadcast S8x24x24 (Named.named κ "mask" 0xF149F2CA#32))

/-- The mask's constant is minus infinity. -/
theorem mask_value : (Named.named κ "mask" 0xF149F2CA#32 : Ideal .f32) = (⊥ : EReal) :=
  IdealRules.named_const.ideal_named_scalar _ _ _ _ rfl

/-- The mask at an index, the places being numbers. -/
theorem mk_apply (w : BitVec 32) (k : ℕ) (hw : Ideal.ofBits .f32 w = (k : EReal)) (x r : FVec Ideal S8x24x24 .f32) (h : Fin 8) (i j : Fin 24)
    (hr : r (ix3 h i j) = (rank (fun j => x (ix3 h i j)) j : EReal)) :
    mk w x r (ix3 h i j) = masked k (fun j => x (ix3 h i j)) j := by
  pointwise [mk]
  rw [hr, hw, mask_value]
  unfold masked
  by_cases hk : rank (fun j => x (ix3 h i j)) j < k
  · rw [if_pos hk]; exact if_pos (EReal.coe_lt_coe_iff.2 (by exact_mod_cast hk))
  · rw [if_neg hk]; exact if_neg fun h => hk (by have := EReal.coe_lt_coe_iff.1 h; exact_mod_cast this)

/-- The attention of the block. -/
theorem pay3_apply (v9 : Vec Ideal S8x32x24 .f32) (v11 : Vec Ideal S8x24 .f32) (h : Fin 8) (i j : Fin 24) :
    k3_pay3 v9 v11 (ix3 h i j) = v9 (ix3 h (⟨i.val, by omega⟩ : Fin 32) j) * v11 (ix2 h (0 : Fin 24)) := by
  pointwise [k3_pay3]

/-- Counting a condition over a row. -/
theorem sum_select (b : Fin 24 → BitVec 1) (P : Fin 24 → Prop) [DecidablePred P] (hb : ∀ i, b i = 1#1 ↔ P i) :
    (∑ i : Fin 24, Scalar.select (b i) (1 : EReal) 0) = ((Finset.univ.filter P).card : EReal) := by
  have e : ∀ i, Scalar.select (b i) (1 : EReal) 0 = if P i then 1 else 0 := fun i => if_congr (hb i) rfl rfl
  rw [Finset.sum_congr rfl fun i _ => e i, Finset.sum_boole]

/-- The one-bit words of three conditions, put together. -/
theorem word_or : ∀ a b c : Bool, IntOp.ori (BitVec.ofBool a) (IntOp.andi (BitVec.ofBool b) (BitVec.ofBool c)) = 1#1 ↔ a = true ∨ (b = true ∧ c = true) := by
  decide

/-- Each entry's place in its row. -/
theorem pay4_apply (v9 : Vec Ideal S8x32x24 .f32) (v11 : Vec Ideal S8x24 .f32) (h : Fin 8) (i j : Fin 24) :
    k3_pay4 v9 v11 (ix3 h i j) = (rank (fun j => k3_pay3 v9 v11 (ix3 h i j)) j : EReal) := by
  unfold k3_pay4
  generalize k3_pay3 v9 v11 = x
  pointwise
  refine sum_select _ _ fun n => ?_
  have hs : IntOp.cmpi CmpIPredicate.slt (BitVec.ofNat 32 n.val) (BitVec.ofNat 32 j.val) = BitVec.ofBool (decide (n < j)) := by
    revert n j; decide +kernel
  rw [hs]
  exact (word_or _ _ _).trans (or_congr decide_eq_true_iff (and_congr decide_eq_true_iff decide_eq_true_iff))

/-- A scalar of the weights, in every lane. -/
def bc (v : Vec Ideal S1x1 .f32) : FVec Ideal S8x24x24 .f32 := broadcast S8x24x24 (extractAt ![0, 0] v inpos_S1x1_p0_0)

/-- The mixture of the four masked softmaxes. -/
def acc (x r : FVec Ideal S8x24x24 .f32) (a0 a1 a2 a3 : Vec Ideal S1x1 .f32) : FVec Ideal S8x24x24 .f32 :=
  addf (addf (addf (addf (broadcast S8x24x24 (Scalar.ofBits .f32 0x00000000#32))
    (mulf (bc a0) (smx (mk 0x41400000#32 x r)))) (mulf (bc a1) (smx (mk 0x41800000#32 x r))))
    (mulf (bc a2) (smx (mk 0x41900000#32 x r)))) (mulf (bc a3) (smx (mk 0x41980000#32 x r)))

/-- The word of twelve. -/
theorem word12 : Ideal.ofBits .f32 0x41400000#32 = ((12 : ℕ) : EReal) := by simp [Ideal.ofBits, Ideal.ieee, -EReal.coe_mul]; norm_num; rfl
/-- The word of sixteen. -/
theorem word16 : Ideal.ofBits .f32 0x41800000#32 = ((16 : ℕ) : EReal) := by simp [Ideal.ofBits, Ideal.ieee, -EReal.coe_mul]; norm_num; rfl
/-- The word of eighteen. -/
theorem word18 : Ideal.ofBits .f32 0x41900000#32 = ((18 : ℕ) : EReal) := by simp [Ideal.ofBits, Ideal.ieee, -EReal.coe_mul]; norm_num; rfl
/-- The word of nineteen. -/
theorem word19 : Ideal.ofBits .f32 0x41980000#32 = ((19 : ℕ) : EReal) := by simp [Ideal.ofBits, Ideal.ieee, -EReal.coe_mul]; norm_num; rfl

/-- The mixture at an index. -/
theorem acc_apply (x r : FVec Ideal S8x24x24 .f32) (a0 a1 a2 a3 : Vec Ideal S1x1 .f32) (h : Fin 8) (i j : Fin 24)
    (hr : ∀ j, r (ix3 h i j) = (rank (fun j => x (ix3 h i j)) j : EReal)) :
    acc x r a0 a1 a2 a3 (ix3 h i j) =
      a0 (ix2 (0 : Fin 1) (0 : Fin 1)) * softmax (masked 12 fun j => x (ix3 h i j)) j + a1 (ix2 (0 : Fin 1) (0 : Fin 1)) * softmax (masked 16 fun j => x (ix3 h i j)) j
        + a2 (ix2 (0 : Fin 1) (0 : Fin 1)) * softmax (masked 18 fun j => x (ix3 h i j)) j + a3 (ix2 (0 : Fin 1) (0 : Fin 1)) * softmax (masked 19 fun j => x (ix3 h i j)) j := by
  have e : ∀ (w : BitVec 32) (k : ℕ), Ideal.ofBits .f32 w = (k : EReal) → smx (mk w x r) (ix3 h i j) = softmax (masked k fun j => x (ix3 h i j)) j := fun w k hw => by
    rw [smx_apply]
    exact congrFun (congrArg softmax (funext fun j => mk_apply w k hw x r h i j (hr j))) j
  rw [← e _ _ word12, ← e _ _ word16, ← e _ _ word18, ← e _ _ word19]
  unfold acc
  generalize smx (mk 0x41400000#32 x r) = s0
  generalize smx (mk 0x41800000#32 x r) = s1
  generalize smx (mk 0x41900000#32 x r) = s2
  generalize smx (mk 0x41980000#32 x r) = s3
  pointwise [bc]

/-- Each head's columns of the projection times the head's mixture, side by side. -/
def cols (g : FVec Ideal S8x24x24 .f32) (w : FVec Ideal S192x192 .f32) : FVec Ideal S192x192 .f32 :=
  k3_pay1 (concatenate S192x192 1 [
    ⟨S192x24, matmul (φ₁ := .f32) dot_S192x24_S24x24_S192x24_1_0_0_1_n_n (some .fp32) (extractStridedSlice S192x24 ![0, 0] (shapeCast S192x192 w shapeCasts_S192x192_S192x192) slices_S192x192_o0_0_S192x24) (shapeCast S24x24 (extractStridedSlice S1x24x24 ![0, 0, 0] g slices_S8x24x24_o0_0_0_S1x24x24) shapeCasts_S1x24x24_S24x24) (constant S192x24 .f32 0x00000000#32)⟩,
    ⟨S192x24, matmul (φ₁ := .f32) dot_S192x24_S24x24_S192x24_1_0_0_1_n_n (some .fp32) (extractStridedSlice S192x24 ![0, 24] (shapeCast S192x192 w shapeCasts_S192x192_S192x192) slices_S192x192_o0_24_S192x24) (shapeCast S24x24 (extractStridedSlice S1x24x24 ![1, 0, 0] g slices_S8x24x24_o1_0_0_S1x24x24) shapeCasts_S1x24x24_S24x24) (constant S192x24 .f32 0x00000000#32)⟩,
    ⟨S192x24, matmul (φ₁ := .f32) dot_S192x24_S24x24_S192x24_1_0_0_1_n_n (some .fp32) (extractStridedSlice S192x24 ![0, 48] (shapeCast S192x192 w shapeCasts_S192x192_S192x192) slices_S192x192_o0_48_S192x24) (shapeCast S24x24 (extractStridedSlice S1x24x24 ![2, 0, 0] g slices_S8x24x24_o2_0_0_S1x24x24) shapeCasts_S1x24x24_S24x24) (constant S192x24 .f32 0x00000000#32)⟩,
    ⟨S192x24, matmul (φ₁ := .f32) dot_S192x24_S24x24_S192x24_1_0_0_1_n_n (some .fp32) (extractStridedSlice S192x24 ![0, 72] (shapeCast S192x192 w shapeCasts_S192x192_S192x192) slices_S192x192_o0_72_S192x24) (shapeCast S24x24 (extractStridedSlice S1x24x24 ![3, 0, 0] g slices_S8x24x24_o3_0_0_S1x24x24) shapeCasts_S1x24x24_S24x24) (constant S192x24 .f32 0x00000000#32)⟩,
    ⟨S192x24, matmul (φ₁ := .f32) dot_S192x24_S24x24_S192x24_1_0_0_1_n_n (some .fp32) (extractStridedSlice S192x24 ![0, 96] (shapeCast S192x192 w shapeCasts_S192x192_S192x192) slices_S192x192_o0_96_S192x24) (shapeCast S24x24 (extractStridedSlice S1x24x24 ![4, 0, 0] g slices_S8x24x24_o4_0_0_S1x24x24) shapeCasts_S1x24x24_S24x24) (constant S192x24 .f32 0x00000000#32)⟩,
    ⟨S192x24, matmul (φ₁ := .f32) dot_S192x24_S24x24_S192x24_1_0_0_1_n_n (some .fp32) (extractStridedSlice S192x24 ![0, 120] (shapeCast S192x192 w shapeCasts_S192x192_S192x192) slices_S192x192_o0_120_S192x24) (shapeCast S24x24 (extractStridedSlice S1x24x24 ![5, 0, 0] g slices_S8x24x24_o5_0_0_S1x24x24) shapeCasts_S1x24x24_S24x24) (constant S192x24 .f32 0x00000000#32)⟩,
    ⟨S192x24, matmul (φ₁ := .f32) dot_S192x24_S24x24_S192x24_1_0_0_1_n_n (some .fp32) (extractStridedSlice S192x24 ![0, 144] (shapeCast S192x192 w shapeCasts_S192x192_S192x192) slices_S192x192_o0_144_S192x24) (shapeCast S24x24 (extractStridedSlice S1x24x24 ![6, 0, 0] g slices_S8x24x24_o6_0_0_S1x24x24) shapeCasts_S1x24x24_S24x24) (constant S192x24 .f32 0x00000000#32)⟩,
    ⟨S192x24, matmul (φ₁ := .f32) dot_S192x24_S24x24_S192x24_1_0_0_1_n_n (some .fp32) (extractStridedSlice S192x24 ![0, 168] (shapeCast S192x192 w shapeCasts_S192x192_S192x192) slices_S192x192_o0_168_S192x24) (shapeCast S24x24 (extractStridedSlice S1x24x24 ![7, 0, 0] g slices_S8x24x24_o7_0_0_S1x24x24) shapeCasts_S1x24x24_S24x24) (constant S192x24 .f32 0x00000000#32)⟩] concatenates_S192x24_S192x24_S192x24_S192x24_S192x24_S192x24_S192x24_S192x24_S192x192_d1)

/-- One product of a column, its indices given by their values. -/
theorem col (g : FVec Ideal S8x24x24 .f32) (w : Vec Ideal S192x192 .f32) (o d : Fin 192) (x : Fin 24) (e : Fin 192) (k : Fin 8) (l : Fin 24)
    (he : e.val = 24 * (d.val / 24) + x.val) (hk : k.val = d.val / 24) (hl : l.val = d.val % 24) :
    w (ix2 o e) * g (ix3 k x l) = w (ix2 o (ch (hd d) x)) * g (ix3 (hd d) x (lc d)) := by
  obtain rfl : e = ch (hd d) x := Fin.ext he
  obtain rfl : k = hd d := Fin.ext hk
  obtain rfl : l = lc d := Fin.ext hl
  rfl

/-- A column of the concatenation. -/
theorem cols_apply (g : FVec Ideal S8x24x24 .f32) (w : Vec Ideal S192x192 .f32) (o d : Fin 192) :
    cols g w (ix2 o d) = ∑ x : Fin 24, w (ix2 o (ch (hd d) x)) * g (ix3 (hd d) x (lc d)) := by
  have hd' := d.isLt
  pointwise [cols, k3_pay1]
  split_ifs
  all_goals first
    | (rename_i hh; exact absurd rfl hh)
    | (refine Finset.sum_congr rfl fun x _ => col g w o d x _ _ _ ?_ ?_ ?_ <;> (simp; omega))

/-- What the stage stores, over the blocks it loads. -/
theorem stored_eq (v9 : Vec Ideal S8x32x24 .f32) (v11 : Vec Ideal S8x24 .f32) (a0 a1 a2 a3 : Vec Ideal S1x1 .f32) (w : Vec Ideal S192x192 .f32) :
    k3_pay1 (k3_pay11 (k3_pay8 (k3_pay3 v9 v11) (k3_pay4 v9 v11) (k3_pay5 (F := Ideal)) (k3_pay6 v9 v11) (k3_pay7 a0) a1 a2)
      (k3_pay9 (k3_pay3 v9 v11) (k3_pay4 v9 v11)) (k3_pay10 (k3_pay3 v9 v11) (k3_pay4 v9 v11)) a3 w)
      = cols (acc (k3_pay3 v9 v11) (k3_pay4 v9 v11) a0 a1 a2 a3) w := rfl

end Cert.KernelIdeal.Mix

end
-- ==== Proof.KernelIdeal.Fourth.lean ====
/-
What the fourth call leaves in its output array: the mixture's projection of the value channels.
-/
module

public import proofs.«01_k».proof.Proof.KernelIdeal.Second
public import proofs.«01_k».proof.Proof.KernelIdeal.Third
public import proofs.«01_k».proof.Proof.KernelIdeal.Mixture

@[expose] public section

set_option maxRecDepth 16384

noncomputable section

namespace Cert.KernelIdeal.Value

open Cert.KernelIdeal Cert.KernelIdeal.Gen Cert.KernelIdeal.Own Cert.KernelIdeal.Whole Cert.Attn
open Idealize.ShloMosaic Idealize.ShloMosaic.TcCoe
open Idealize.ShloMosaic.Rounds
open Idealize.ShloMosaic.Pipeline (Dat)

variable (m : (ℓ : Loc nD τ sig) → Buf (Elt Ideal) ℓ) (c : Dev nD)

/-- The block indices of the fourth call's windows at every point. -/
theorem idx3 : ∀ t : Fin cfg3.N, win3_0.index t = ![0, 0, 0] ∧ win3_1.index t = ![0, 0] ∧ win3_2.index t = ![0, 0] ∧ win3_3.index t = ![0, 0]
    ∧ win3_4.index t = ![0, t.val] ∧ win3_5.index t = ![0, t.val] :=
  (by decide +kernel : ∀ t : Fin grid3.N, _)

/-- A point of the fourth call's grid is before 14. -/
theorem lt14' (t : Fin cfg3.N) : t.val < 14 := t.isLt

/-- A pixel of a point's block of pixels. -/
abbrev tpix3 (t : Fin cfg3.N) (p : Fin 3584) : Fin 50176 := ⟨t.val * 3584 + p.val, by have := lt14' t; omega⟩

/-- The fourth call finds the second call's sums. -/
theorem entry3_s (h : Fin 8) (i j : Fin 24) :
    Ve3 m (outs m) c main_v13 (ix3 h (⟨i.val, by omega⟩ : Fin 32) j) = gram ((inputs m c).q (ch h i)) ((inputs m c).kv (kch h j)) :=
  (congrFun ((V4_of m (outs m) c main_v13 (by decide)).trans (V3_at_main_v13 m (outs m) c)) _).trans (s_array m c h i j)
/-- The fourth call finds the temperatures. -/
theorem entry3_temp (h : Fin 8) : Ve3 m (outs m) c main_v8 (ix2 h (0 : Fin 24)) = (inputs m c).temp h :=
  (congrFun ((V4_of m (outs m) c main_v8 (by decide)).trans ((V3_of m (outs m) c main_v8 (by decide)).trans (V2_of m (outs m) c main_v8 (by decide)))) _).trans (host_temp m c h 0)
/-- The fourth call finds the projection's weights. -/
theorem entry3_wp (o d : Fin 192) : Ve3 m (outs m) c main_v6 (ix2 o d) = (inputs m c).wp o d :=
  (congrFun ((V4_of m (outs m) c main_v6 (by decide)).trans ((V3_of m (outs m) c main_v6 (by decide)).trans (V2_of m (outs m) c main_v6 (by decide)))) _).trans (host_wp m c o d)
/-- The fourth call finds the first weight of the mixture. -/
theorem entry3_a0 : Ve3 m (outs m) c main_v11 (ix2 (0 : Fin 8) (0 : Fin 4)) = (inputs m c).a 0 :=
  (congrFun ((V4_of m (outs m) c main_v11 (by decide)).trans ((V3_of m (outs m) c main_v11 (by decide)).trans (V2_of m (outs m) c main_v11 (by decide)))) _).trans (host_a0 m c 0)
/-- The fourth call finds the second weight of the mixture. -/
theorem entry3_a1 : Ve3 m (outs m) c main_v11 (ix2 (0 : Fin 8) (1 : Fin 4)) = (inputs m c).a 1 :=
  (congrFun ((V4_of m (outs m) c main_v11 (by decide)).trans ((V3_of m (outs m) c main_v11 (by decide)).trans (V2_of m (outs m) c main_v11 (by decide)))) _).trans (host_a1 m c 0)
/-- The fourth call finds the third weight of the mixture. -/
theorem entry3_a2 : Ve3 m (outs m) c main_v11 (ix2 (0 : Fin 8) (2 : Fin 4)) = (inputs m c).a 2 :=
  (congrFun ((V4_of m (outs m) c main_v11 (by decide)).trans ((V3_of m (outs m) c main_v11 (by decide)).trans (V2_of m (outs m) c main_v11 (by decide)))) _).trans (host_a2 m c 0)
/-- The fourth call finds the fourth weight of the mixture. -/
theorem entry3_a3 : Ve3 m (outs m) c main_v11 (ix2 (0 : Fin 8) (3 : Fin 4)) = (inputs m c).a 3 :=
  (congrFun ((V4_of m (outs m) c main_v11 (by decide)).trans ((V3_of m (outs m) c main_v11 (by decide)).trans (V2_of m (outs m) c main_v11 (by decide)))) _).trans (host_a3 m c 0)
/-- The value array's row `d` is channel `d % 24` of head `d / 24`. -/
theorem vv_apply (d : Fin 192) (p : Fin 50176) : vv m c (ix2 d p) = (inputs m c).kv (vch (hd d) (lc d)) p := by
  have e : (⟨192 + d.val, by omega⟩ : Fin 384) = vch (hd d) (lc d) := Fin.ext (by show 192 + d.val = 192 + 24 * (d.val / 24) + d.val % 24; omega)
  exact congrArg (fun o => (inputs m c).kv o p) e

/-- The fourth call finds the third call's value channels. -/
theorem entry3_v (d : Fin 192) (p : Fin 50176) : Ve3 m (outs m) c main_v14 (ix2 d p) = (inputs m c).kv (vch (hd d) (lc d)) p :=
  (congrFun ((V4_at_main_v14 m (outs m) c).trans (v_array m c)) (ix2 d p)).trans (vv_apply m c d p)

/-- The block of sums. -/
theorem blk3_s (t : Fin cfg3.N) (h : Fin 8) (i j : Fin 24) :
    Call3.iblk (Ve3 m (outs m)) c 0 t (ix3 h (⟨i.val, by omega⟩ : Fin 32) j) = gram ((inputs m c).q (ch h i)) ((inputs m c).kv (kch h j)) := by
  refine Eq.trans ?_ (entry3_s m c h i j)
  blk_ext [Call3.iblk, idx3 t]
/-- The block of temperatures. -/
theorem blk3_temp (t : Fin cfg3.N) (h : Fin 8) : Call3.iblk (Ve3 m (outs m)) c 1 t (ix2 h (0 : Fin 24)) = (inputs m c).temp h := by
  refine Eq.trans ?_ (entry3_temp m c h)
  blk_ext [Call3.iblk, idx3 t]
/-- The block of the projection's weights. -/
theorem blk3_wp (t : Fin cfg3.N) (o d : Fin 192) : Call3.iblk (Ve3 m (outs m)) c 3 t (ix2 o d) = (inputs m c).wp o d := by
  refine Eq.trans ?_ (entry3_wp m c o d)
  blk_ext [Call3.iblk, idx3 t]
/-- The block of value channels at point `t` is its tile of pixels. -/
theorem blk3_tile (V : (c : Dev nD) → (b : Ref sig .tc) → Buf (Elt Ideal) ((c : Thread nD τ).loc b)) (t : Fin cfg3.N) (d : Fin 192) (p : Fin 3584) :
    Call3.iblk V c 4 t (ix2 d p) = V c main_v14 (ix2 d (tpix3 t p)) := by
  blk_ext [Call3.iblk, idx3 t]
/-- The block of value channels at point `t`. -/
theorem blk3_v (t : Fin cfg3.N) (d : Fin 192) (p : Fin 3584) :
    Call3.iblk (Ve3 m (outs m)) c 4 t (ix2 d p) = (inputs m c).kv (vch (hd d) (lc d)) (tpix3 t p) :=
  (blk3_tile c (Ve3 m (outs m)) t d p).trans (entry3_v m c d (tpix3 t p))

/-- The weights' four 1x1 loads read the first row's entries. -/
theorem ld_a (V : Vec Ideal S8x4 .f32) :
    View.ld (Val := Elt Ideal) V (Rect.unit ![0, 0] ![1, 1] inb_S8x4_S1x1_0_0) (ix2 (0 : Fin 1) (0 : Fin 1)) = V (ix2 (0 : Fin 8) (0 : Fin 4))
    ∧ View.ld (Val := Elt Ideal) V (Rect.unit ![0, 1] ![1, 1] inb_S8x4_S1x1_0_1) (ix2 (0 : Fin 1) (0 : Fin 1)) = V (ix2 (0 : Fin 8) (1 : Fin 4))
    ∧ View.ld (Val := Elt Ideal) V (Rect.unit ![0, 2] ![1, 1] inb_S8x4_S1x1_0_2) (ix2 (0 : Fin 1) (0 : Fin 1)) = V (ix2 (0 : Fin 8) (2 : Fin 4))
    ∧ View.ld (Val := Elt Ideal) V (Rect.unit ![0, 3] ![1, 1] inb_S8x4_S1x1_0_3) (ix2 (0 : Fin 1) (0 : Fin 1)) = V (ix2 (0 : Fin 8) (3 : Fin 4)) := by
  refine ⟨?_, ?_, ?_, ?_⟩ <;> exact congrArg V (by funext a; fin_cases a <;> rfl)

/-- The projected mixture, over blocks that hold the sums, the temperatures, the mixture's weights and the projection. -/
theorem mix_value (v9 : Vec Ideal S8x32x24 .f32) (v11 : Vec Ideal S8x24 .f32) (va : Vec Ideal S8x4 .f32) (w : Vec Ideal S192x192 .f32) (I : Inputs)
    (hs : ∀ (h : Fin 8) (i j : Fin 24), v9 (ix3 h (⟨i.val, by omega⟩ : Fin 32) j) = gram (I.q (ch h i)) (I.kv (kch h j)))
    (ht : ∀ h : Fin 8, v11 (ix2 h (0 : Fin 24)) = I.temp h) (ha : ∀ n : Fin 4, va (ix2 (0 : Fin 8) n) = I.a n)
    (hw : ∀ o d : Fin 192, w (ix2 o d) = I.wp o d) (o d : Fin 192) :
    Mix.cols (Mix.acc (k3_pay3 v9 v11) (k3_pay4 v9 v11) (View.ld va (Rect.unit ![0, 0] ![1, 1] inb_S8x4_S1x1_0_0)) (View.ld va (Rect.unit ![0, 1] ![1, 1] inb_S8x4_S1x1_0_1))
      (View.ld va (Rect.unit ![0, 2] ![1, 1] inb_S8x4_S1x1_0_2)) (View.ld va (Rect.unit ![0, 3] ![1, 1] inb_S8x4_S1x1_0_3))) w (ix2 o d) = I.weff o d := by
  have hx : ∀ (h : Fin 8) (i : Fin 24), (fun j => k3_pay3 v9 v11 (ix3 h i j)) = I.attn h i := fun h i => funext fun j => by
    rw [Mix.pay3_apply, hs, ht]; rfl
  rw [Mix.cols_apply]
  refine Finset.sum_congr rfl fun x _ => ?_
  rw [Mix.acc_apply _ _ _ _ _ _ _ _ _ (Mix.pay4_apply v9 v11 _ _), (ld_a va).1, (ld_a va).2.1, (ld_a va).2.2.1, (ld_a va).2.2.2, ha, ha, ha, ha, hw, hx]
  rfl

/-- The block of the mixture's weights. -/
theorem blk3_a (t : Fin cfg3.N) (n : Fin 4) : Call3.iblk (Ve3 m (outs m)) c 2 t (ix2 (0 : Fin 8) n) = (inputs m c).a n := by
  have h : Call3.iblk (Ve3 m (outs m)) c 2 t (ix2 (0 : Fin 8) n) = Ve3 m (outs m) c main_v11 (ix2 (0 : Fin 8) n) := by
    blk_ext [Call3.iblk, idx3 t]
  rw [h]
  fin_cases n
  exacts [entry3_a0 m c, entry3_a1 m c, entry3_a2 m c, entry3_a3 m c]

/-- What the first point stores in the scratch buffer. -/
abbrev stored (t : Fin cfg3.N) : FVec Ideal S192x192 .f32 :=
  Mix.cols (Mix.acc (k3_pay3 (Call3.iblk (Ve3 m (outs m)) c 0 t) (Call3.iblk (Ve3 m (outs m)) c 1 t)) (k3_pay4 (Call3.iblk (Ve3 m (outs m)) c 0 t) (Call3.iblk (Ve3 m (outs m)) c 1 t))
    (View.ld (Call3.iblk (Ve3 m (outs m)) c 2 t) (Rect.unit ![0, 0] ![1, 1] inb_S8x4_S1x1_0_0)) (View.ld (Call3.iblk (Ve3 m (outs m)) c 2 t) (Rect.unit ![0, 1] ![1, 1] inb_S8x4_S1x1_0_1))
    (View.ld (Call3.iblk (Ve3 m (outs m)) c 2 t) (Rect.unit ![0, 2] ![1, 1] inb_S8x4_S1x1_0_2)) (View.ld (Call3.iblk (Ve3 m (outs m)) c 2 t) (Rect.unit ![0, 3] ![1, 1] inb_S8x4_S1x1_0_3)))
    (Call3.iblk (Ve3 m (outs m)) c 3 t)

/-- It is the projected mixture. -/
theorem stored_value (t : Fin cfg3.N) (o d : Fin 192) : stored m c t (ix2 o d) = (inputs m c).weff o d :=
  mix_value _ _ _ _ (inputs m c) (blk3_s m c t) (blk3_temp m c t) (blk3_a m c t) (blk3_wp m c t) o d

/-- The scratch buffer holds the projected mixture after the first point. -/
theorem scratch_eq : Call3.weff (Ix := Unit) (U := UR sig nD τ) (Lvl := ℕ) Variants.none (Ve3 m (outs m)) c = stored m c t3_0 := by
  rw [Call3.weff_at _ _ _ t3_0 (Nat.zero_mod _)]
  unfold Call3.sout3_A_0
  frame_out
  exact Mix.stored_eq _ _ _ _ _ _ _

/-- The product of the scratch buffer with a block. -/
theorem pay2_apply (w : FVec Ideal S192x192 .f32) (x : FVec Ideal S192x3584 .bf16) (o : Fin 192) (p : Fin 3584) :
    k3_pay2 (F := Ideal) w x (ix2 o p) = ∑ d : Fin 192, w (ix2 o d) * x (ix2 d p) := by
  pointwise [k3_pay2]

/-- The product of the projected mixture with the block of point `t`. -/
theorem o_point (t : Fin cfg3.N) (w : FVec Ideal S192x192 .f32) (hw : ∀ o d, w (ix2 o d) = (inputs m c).weff o d) (o : Fin 192) (p : Fin 3584) :
    k3_pay2 (F := Ideal) w (Call3.iblk (Ve3 m (outs m)) c 4 t) (ix2 o p) = (inputs m c).outK o (tpix3 t p) := by
  rw [pay2_apply]
  exact Finset.sum_congr rfl fun d _ => by rw [hw, blk3_v]

/-- The fourth call's output. -/
def oo : FVec Ideal S192x50176 .f32 := fun j => (inputs m c).outK (j 0) (j 1)

/-- The fourth call's output at an index. -/
theorem oo_apply (o : Fin 192) (p : Fin 50176) : oo m c (ix2 o p) = (inputs m c).outK o p := rfl

/-- What the first point leaves in the output block. -/
theorem out_A (t : Fin cfg3.N) (h0 : t.val % 14 = 0) :
    Call3.outsAt3 (Ix := Unit) (U := UR sig nD τ) (Lvl := ℕ) Variants.none (Ve3 m (outs m)) c t = k3_pay2 (F := Ideal) (stored m c t) (Call3.iblk (Ve3 m (outs m)) c 4 t) := by
  unfold Call3.outsAt3
  rw [dif_pos h0]
  unfold Call3.out3_A_5
  frame_out
  exact congrArg (fun w => k3_pay2 (F := Ideal) w (Call3.iblk (Ve3 m (outs m)) c 4 t)) (Mix.stored_eq _ _ _ _ _ _ _)

/-- Reading the scratch buffer gives what it holds. -/
theorem scratch_read (w : Vec Ideal S192x192 .f32) :
    View.read (Elt Ideal) (View.whole cc3_scratch0) ((Memref.isWhole_whole cc3_scratch0).unread w) = w :=
  (Memref.isWhole_whole cc3_scratch0).read_unread w

/-- What a later point leaves in the output block. -/
theorem out_B (t : Fin cfg3.N) (h0 : ¬t.val % 14 = 0) :
    Call3.outsAt3 (Ix := Unit) (U := UR sig nD τ) (Lvl := ℕ) Variants.none (Ve3 m (outs m)) c t = k3_pay2 (F := Ideal) (stored m c t3_0) (Call3.iblk (Ve3 m (outs m)) c 4 t) := by
  unfold Call3.outsAt3
  rw [dif_neg h0, scratch_eq]
  generalize stored m c t3_0 = w
  unfold Call3.out3_B_5
  frame_out
  exact congrArg (fun w => k3_pay2 (F := Ideal) w (Call3.iblk (Ve3 m (outs m)) c 4 t)) (scratch_read w)

/-- What any point leaves in the output block. -/
theorem out_point (t : Fin cfg3.N) (o : Fin 192) (p : Fin 3584) :
    Call3.outsAt3 (Ix := Unit) (U := UR sig nD τ) (Lvl := ℕ) Variants.none (Ve3 m (outs m)) c t (ix2 o p) = (inputs m c).outK o (tpix3 t p) := by
  by_cases h0 : t.val % 14 = 0
  · rw [out_A m c t h0]; exact o_point m c t _ (stored_value m c t) o p
  · rw [out_B m c t h0]; exact o_point m c t _ (stored_value m c t3_0) o p

/-- What the fourth call's data hold of its output after the run. -/
theorem o_data : (Call3.dat (Ix := Unit) (U := UR sig nD τ) (Lvl := ℕ) Variants.none (Ve3 m (outs m)) D0 c).arrAt 5 cfg3.N = oo m c := by
  refine Dat.arrAt_eq_of_covers _ 5 _ (by decide +kernel) fun t _ y => ?_
  blk_simp
  rw [Call3.after3_5]
  idx_vars y
  have e : ((cfg3.win 5).blk t).view.emb (ix2 y0 y1) = ix2 y0 (tpix3 t y1) := by blk_ext [idx3 t]
  exact (out_point m c t y0 y1).trans ((oo_apply m c y0 (tpix3 t y1)).symm.trans (congrArg (oo m c) e.symm))

/-- The fourth call's output array. -/
theorem o_array : outs m 5 main_v15 c = oo m c := (outs_o m c).trans (o_data m c)

/-- The program's result. -/
theorem result_value (o : Fin 192) (r w : Fin 224) :
    V6 m (outs m) c (Proc.devRef .tc main_v16) (ix4 (0 : Fin 1) o r w) = (inputs m c).outK o ⟨r.val * 224 + w.val, by omega⟩ := by
  have e : V5 m (outs m) c (Proc.devRef .tc main_v15) = oo m c := (Function.update_self _ _ _).trans (o_array m c)
  unfold V6
  generalize V5 m (outs m) c = W at e
  entry_read
  rw [e]
  pointwise
  exact oo_apply m c o _

end Cert.KernelIdeal.Value

end
-- ==== Proof.Reference.Mask.lean ====
/-
The reference's masks, read at an index: the largest entries of a row by a stable sort, their positions as one-hot rows
summed, and the entries outside them at minus infinity.
-/
module

public import proofs.«01_k».proof.Proof.Order
public import proofs.«01_k».proof.Proof.Gen.ReferenceIdeal.Read
public import Idealize.ShloMosaic.Lib.Pointwise

@[expose] public section

set_option maxRecDepth 16384

noncomputable section

namespace Cert.ReferenceIdeal.Value

open Cert.ReferenceIdeal Cert.ReferenceIdeal.Gen Cert.ReferenceIdeal.Read Cert.Attn
open Idealize.ShloMosaic Idealize.ShloMosaic.TcCoe

/-- Two words of numbers below 24 are equal exactly when the numbers are. -/
theorem word_eq (a b : Fin 24) : IntOp.cmpi .eq (BitVec.ofNat 32 a.val) (BitVec.ofNat 32 b.val) = if a = b then 1#1 else 0#1 := by
  revert a b; decide +kernel

/-- A one-hot entry as a number. -/
theorem hot_value (P : Prop) [Decidable P] : (FloatOps.uitofp (F := Ideal) .f32 (if P then 1#1 else 0#1) : EReal) = if P then 1 else 0 := by
  split_ifs
  · show (((1#1 : BitVec 1).toNat : ℝ) : EReal) = 1
    simp
  · show (((0#1 : BitVec 1).toNat : ℝ) : EReal) = 0
    simp

/-- One number greater than another, as a bit. -/
theorem greater_bit (a b : EReal) : ((FloatOps.cmpfTotal (F := Ideal) (φ := .f32) .gt a b : BitVec 1) == 1#1) = decide (b < a) := by
  show ((BitVec.ofBool (decide (b < a)) : BitVec 1) == 1#1) = decide (b < a)
  cases decide (b < a) <;> rfl

/-- A row's index with its last axis replaced. -/
theorem along_last (h : Fin 8) (i m k : Fin 24) :
    (ix4 (0 : Fin 1) h i m : S1x8x24x24.Idx).along (3 : Fin 4) k = ix4 (0 : Fin 1) h i k := by
  funext a
  match a with
  | ⟨0, _⟩ => rfl
  | ⟨1, _⟩ => rfl
  | ⟨2, _⟩ => rfl
  | ⟨3, _⟩ => rfl

/-- The second operand of a sort of two, at an index. -/
theorem sort2_snd (s : Shape) (d : ℕ) {α β : Type} (hd : d < s.rank) (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The positions of the largest entries are the first of the sorted positions. -/
theorem topK_snd {s : Shape} (t : Shape) (d : ℕ) {α : Type} (gt : α → α → BitVec 1) (x : s.Idx → α) (hs : s.Slices (fun _ => 0) t) (j : t.Idx) :
    (Host.topK t d gt x hs).2 j
      = (Host.sort2 s d (fun l r : α × BitVec 32 => gt l.1 r.1) x (fun i => if hd : d < s.rank then iotaInDim s 32 ⟨d, hd⟩ i else 0#32)).2
          (fun a => ⟨0 + (j (a.cast hs.1.symm)).val, Nat.lt_of_lt_of_le (Nat.add_lt_add_left (j _).isLt _) (hs.2 a)⟩) := rfl

/-- The last axis's numbers at such an index. -/
theorem iota_along (h : Fin 8) (i m q : Fin 24) :
    iotaInDim S1x8x24x24 32 (3 : Fin 4) ((ix4 (0 : Fin 1) h i m : S1x8x24x24.Idx).along (3 : Fin 4) q) = BitVec.ofNat 32 q.val := by
  rw [along_last]
  rfl

attribute [local irreducible] sortedFrom in
/-- The positions carried along by the stable sort of a row from the largest down. -/
theorem sorted_place (x : FVec Ideal S1x8x24x24 .f32) (h : Fin 8) (i m : Fin 24) :
    (Host.sort2 S1x8x24x24 3 (fun l r : Ideal .f32 × BitVec 32 => FloatOps.cmpfTotal .gt l.1 r.1) x
        (fun i => if hd : 3 < S1x8x24x24.rank then iotaInDim S1x8x24x24 32 ⟨3, hd⟩ i else 0#32)).2 (ix4 (0 : Fin 1) h i m)
      = BitVec.ofNat 32 (sortedFrom (fun a b : Fin 24 => decide (x (ix4 (0 : Fin 1) h i b) < x (ix4 (0 : Fin 1) h i a))) m).val := by
  have hf : (fun k k' : Fin 24 => ((FloatOps.cmpfTotal (F := Ideal) (φ := .f32) .gt
        (x ((ix4 (0 : Fin 1) h i m : S1x8x24x24.Idx).along (3 : Fin 4) k)) (x ((ix4 (0 : Fin 1) h i m : S1x8x24x24.Idx).along (3 : Fin 4) k')) : BitVec 1) == 1#1))
      = fun a b : Fin 24 => decide (x (ix4 (0 : Fin 1) h i b) < x (ix4 (0 : Fin 1) h i a)) := by
    funext a b
    rw [greater_bit, along_last, along_last]
  have key : ∀ B B' : Fin 24 → Fin 24 → Bool, B = B' → ∀ p : Fin 24,
      iotaInDim S1x8x24x24 32 (3 : Fin 4) ((ix4 (0 : Fin 1) h i m : S1x8x24x24.Idx).along (3 : Fin 4) (sortedFrom B p))
        = BitVec.ofNat 32 (sortedFrom B' p).val := by
    intro B B' hB p
    rw [hB]
    exact iota_along h i m _
  refine (sort2_snd S1x8x24x24 3 (by decide) _ _ _ _).trans ?_
  refine Eq.trans ?_ (key _ _ hf m)
  rw [dif_pos (by decide : 3 < S1x8x24x24.rank)]
  rfl

/-- The position at place `n` of a row's largest entries, as a word. -/
theorem top_place (k : ℕ) (hk : k ≤ 24) (x : FVec Ideal S1x8x24x24 .f32) (hs : S1x8x24x24.Slices (fun _ => 0) ⟨4, ![1, 8, 24, k]⟩)
    (h : Fin 8) (i : Fin 24) (n : Fin k) :
    (Host.topK ⟨4, ![1, 8, 24, k]⟩ 3 (FloatOps.cmpfTotal .gt) x hs).2 (ix4 (0 : Fin 1) h i n)
      = BitVec.ofNat 32 (sortedFrom (fun a b : Fin 24 => decide (x (ix4 (0 : Fin 1) h i b) < x (ix4 (0 : Fin 1) h i a))) (n.castLE hk)).val := by
  refine (topK_snd _ 3 _ x hs _).trans (Eq.trans (congrArg _ ?_) (sorted_place x h i (n.castLE hk)))
  funext a
  match a with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

/-- The one-hot rows of a row's `k` largest entries, summed, are positive exactly at the entries fewer than `k` come before. -/
theorem hot_pos (k : ℕ) (hk : k ≤ 24) (x : FVec Ideal S1x8x24x24 .f32) (hs : S1x8x24x24.Slices (fun _ => 0) ⟨4, ![1, 8, 24, k]⟩)
    (h : Fin 8) (i j : Fin 24) :
    0 < ∑ n : Fin k, (FloatOps.uitofp (F := Ideal) .f32 (IntOp.cmpi .eq
        ((Host.topK ⟨4, ![1, 8, 24, k]⟩ 3 (FloatOps.cmpfTotal .gt) x hs).2 (ix4 (0 : Fin 1) h i n)) (BitVec.ofNat 32 j.val)) : EReal)
      ↔ rank (fun j => x (ix4 (0 : Fin 1) h i j)) j < k := by
  rw [Finset.sum_congr rfl fun n _ => by rw [top_place k hk, word_eq, hot_value], count_pos]
  exact among_first (fun j => x (ix4 (0 : Fin 1) h i j)) k hk j

variable (x0 : FVec Ideal S1x192x224x224 .f32) (x1 : FVec Ideal S1x192x224x224 .f32) (x2 : FVec Ideal S192x192x1x1 .f32) (x3 : FVec Ideal S192x1x3x3 .f32)
  (x4 : FVec Ideal S384x192x1x1 .f32) (x5 : FVec Ideal S384x1x3x3 .f32) (x7 : FVec Ideal S8x1x1 .f32)

/-- The first mask keeps twelve entries of a row. -/
theorem mask_12 (h : Fin 8) (i j : Fin 24) :
    val_main_v166 (F := Ideal) x0 x1 x2 x3 x4 x5 x7 (ix4 (0 : Fin 1) h i j)
      = masked 12 (fun j => val_main_v160 (F := Ideal) x0 x1 x2 x3 x4 x5 x7 (ix4 (0 : Fin 1) h i j)) j := by
  pointwise [val_main_v166, val_main_v165, val_main_cst_6, val_main_v164, val_main_v163, val_main_cst_5, val_main_v162, val_main_cst_4,
    val_main_v161, val_main_call2_v4, val_main_call2_v3, val_main_call2_v2, val_main_call2_v1, val_main_call2_v0]
  rw [bot_word]
  exact if_congr (hot_pos 12 (by decide) (val_main_v160 (F := Ideal) x0 x1 x2 x3 x4 x5 x7) sliceFits_S1x8x24x24_S1x8x24x12 h i j) rfl rfl

/-- The second mask keeps sixteen entries of a row. -/
theorem mask_16 (h : Fin 8) (i j : Fin 24) :
    val_main_v172 (F := Ideal) x0 x1 x2 x3 x4 x5 x7 (ix4 (0 : Fin 1) h i j)
      = masked 16 (fun j => val_main_v160 (F := Ideal) x0 x1 x2 x3 x4 x5 x7 (ix4 (0 : Fin 1) h i j)) j := by
  pointwise [val_main_v172, val_main_v171, val_main_cst_11, val_main_v170, val_main_v169, val_main_cst_10, val_main_v168, val_main_cst_9,
    val_main_v167, val_main_call4_v4, val_main_call4_v3, val_main_call4_v2, val_main_call4_v1, val_main_call4_v0]
  rw [bot_word]
  exact if_congr (hot_pos 16 (by decide) (val_main_v160 (F := Ideal) x0 x1 x2 x3 x4 x5 x7) sliceFits_S1x8x24x24_S1x8x24x16 h i j) rfl rfl

/-- The third mask keeps eighteen entries of a row. -/
theorem mask_18 (h : Fin 8) (i j : Fin 24) :
    val_main_v178 (F := Ideal) x0 x1 x2 x3 x4 x5 x7 (ix4 (0 : Fin 1) h i j)
      = masked 18 (fun j => val_main_v160 (F := Ideal) x0 x1 x2 x3 x4 x5 x7 (ix4 (0 : Fin 1) h i j)) j := by
  pointwise [val_main_v178, val_main_v177, val_main_cst_16, val_main_v176, val_main_v175, val_main_cst_15, val_main_v174, val_main_cst_14,
    val_main_v173, val_main_call6_v4, val_main_call6_v3, val_main_call6_v2, val_main_call6_v1, val_main_call6_v0]
  rw [bot_word]
  exact if_congr (hot_pos 18 (by decide) (val_main_v160 (F := Ideal) x0 x1 x2 x3 x4 x5 x7) sliceFits_S1x8x24x24_S1x8x24x18 h i j) rfl rfl

/-- The fourth mask keeps nineteen entries of a row. -/
theorem mask_19 (h : Fin 8) (i j : Fin 24) :
    val_main_v184 (F := Ideal) x0 x1 x2 x3 x4 x5 x7 (ix4 (0 : Fin 1) h i j)
      = masked 19 (fun j => val_main_v160 (F := Ideal) x0 x1 x2 x3 x4 x5 x7 (ix4 (0 : Fin 1) h i j)) j := by
  pointwise [val_main_v184, val_main_v183, val_main_cst_21, val_main_v182, val_main_v181, val_main_cst_20, val_main_v180, val_main_cst_19,
    val_main_v179, val_main_call8_v4, val_main_call8_v3, val_main_call8_v2, val_main_call8_v1, val_main_call8_v0]
  rw [bot_word]
  exact if_congr (hot_pos 19 (by decide) (val_main_v160 (F := Ideal) x0 x1 x2 x3 x4 x5 x7) sliceFits_S1x8x24x24_S1x8x24x19 h i j) rfl rfl

end Cert.ReferenceIdeal.Value

end
-- ==== Proof.Reference.Conv.lean ====
/-
The reference's two convolutions, read at an index.
-/
module

public import proofs.«01_k».proof.Proof.Formula
public import proofs.«01_k».proof.Proof.Gen.ReferenceIdeal.Read
public import Idealize.ShloMosaic.Lib.Pointwise

@[expose] public section

set_option maxRecDepth 16384

noncomputable section

namespace Cert.ReferenceIdeal.Value

open Cert.ReferenceIdeal Cert.ReferenceIdeal.Gen Cert.ReferenceIdeal.Read Cert.Attn
open Idealize.ShloMosaic Idealize.ShloMosaic.TcCoe

/-- An image, its pixels in a row. -/
def img (x : FVec Ideal S1x192x224x224 .f32) : Fin 192 → Row := fun i p =>
  x (ix4 (0 : Fin 1) i (⟨p.val / 224, by omega⟩ : Fin 224) (⟨p.val % 224, by omega⟩ : Fin 224))

/-- An image at a row and a column. -/
theorem img_apply (x : FVec Ideal S1x192x224x224 .f32) (i : Fin 192) (r w : Fin 224) :
    img x i ⟨r.val * 224 + w.val, by omega⟩ = x (ix4 (0 : Fin 1) i r w) := by
  have h1 : (⟨(r.val * 224 + w.val) / 224, by omega⟩ : Fin 224) = r := Fin.ext (by show (r.val * 224 + w.val) / 224 = r.val; omega)
  have h2 : (⟨(r.val * 224 + w.val) % 224, by omega⟩ : Fin 224) = w := Fin.ext (by show (r.val * 224 + w.val) % 224 = w.val; omega)
  exact congrArg₂ (fun a b => x (ix4 (0 : Fin 1) i a b)) h1 h2

/-- Pointwise weights as a matrix. -/
def cw {n : ℕ} (x : FVec Ideal ⟨4, ![n, 192, 1, 1]⟩ .f32) : Fin n → Fin 192 → EReal := fun o i => x (ix4 o i (0 : Fin 1) (0 : Fin 1))

/-- Depthwise weights, the window's nine places in a row. -/
def dk {n : ℕ} (x : FVec Ideal ⟨4, ![n, 1, 3, 3]⟩ .f32) : Fin n → Fin 9 → EReal := fun o t =>
  x (ix4 o (0 : Fin 1) (⟨t.val / 3, by omega⟩ : Fin 3) (⟨t.val % 3, by omega⟩ : Fin 3))

/-- The integer zero as a float. -/
theorem zero_word : (FloatOps.sitofp FTy.f32 (0#32 : BitVec 32) : Ideal .f32) = (0 : EReal) := by
  show ((((0#32 : BitVec 32).toInt : ℤ) : ℝ) : EReal) = 0
  norm_num

variable (x0 : FVec Ideal S1x192x224x224 .f32) (x1 : FVec Ideal S1x192x224x224 .f32) (x2 : FVec Ideal S192x192x1x1 .f32) (x3 : FVec Ideal S192x1x3x3 .f32)
  (x4 : FVec Ideal S384x192x1x1 .f32) (x5 : FVec Ideal S384x1x3x3 .f32)

/-- The pointwise convolution of the query image. -/
theorem q_conv (o : Fin 192) (r w : Fin 224) :
    val_main_v2 (F := Ideal) x0 x2 (ix4 (0 : Fin 1) o r w) = conv (cw x2) (img x0) o ⟨r.val * 224 + w.val, by omega⟩ := by
  pointwise [val_main_v2, val_main_v1, val_main_v0]
  exact Finset.sum_congr rfl fun x _ => (mul_comm _ _).trans (congrArg (cw x2 o x * ·) (img_apply x0 x r w).symm)

/-- A neighbour of a pixel of the padded query image. -/
theorem q_pad (o : Fin 192) (r w : Fin 224) (i j : ℕ) (hi : i < 3) (hj : j < 3) (a b : Fin 226) (ha : a.val = i + r.val) (hb : b.val = j + w.val) :
    val_main_v3 (F := Ideal) x0 x2 (ix4 (0 : Fin 1) o a b) = tap (conv (cw x2) (img x0) o) i j (r.val * 224 + w.val) := by
  pointwise [val_main_v3, val_main_call0_v0, val_main_c]
  have h1 : (r.val * 224 + w.val) / 224 = r.val := by omega
  have h2 : (r.val * 224 + w.val) % 224 = w.val := by omega
  unfold tap
  rw [h1, h2]
  by_cases h : 1 ≤ r.val + i ∧ r.val + i ≤ 224 ∧ 1 ≤ w.val + j ∧ w.val + j ≤ 224
  · rw [if_pos h, dif_pos (by omega), q_conv, px, dif_pos (by omega)]
    exact congrArg (conv (cw x2) (img x0) o) (Fin.ext (by show (a.val - 1) * 224 + (b.val - 1) = r.val * 224 + w.val + i * 224 + j - 225; rw [ha, hb]; omega))
  · rw [if_neg h, dif_neg (by omega)]
    exact zero_word

/-- Both convolutions of the query image. -/
theorem q_dw (o : Fin 192) (r w : Fin 224) :
    val_main_v65 (F := Ideal) x0 x2 x3 (ix4 (0 : Fin 1) o r w) = dw (dk x3 o) (conv (cw x2) (img x0) o) (r.val * 224 + w.val) := by
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]
  rw [q_pad x0 x2 o r w 0 0 (by omega) (by omega) _ _ (Nat.zero_add _).symm (Nat.zero_add _).symm,
    q_pad x0 x2 o r w 0 1 (by omega) (by omega) _ _ (Nat.zero_add _).symm rfl,
    q_pad x0 x2 o r w 0 2 (by omega) (by omega) _ _ (Nat.zero_add _).symm rfl,
    q_pad x0 x2 o r w 1 0 (by omega) (by omega) _ _ rfl (Nat.zero_add _).symm,
    q_pad x0 x2 o r w 1 1 (by omega) (by omega) _ _ rfl rfl,
    q_pad x0 x2 o r w 1 2 (by omega) (by omega) _ _ rfl rfl,
    q_pad x0 x2 o r w 2 0 (by omega) (by omega) _ _ rfl (Nat.zero_add _).symm,
    q_pad x0 x2 o r w 2 1 (by omega) (by omega) _ _ rfl rfl,
    q_pad x0 x2 o r w 2 2 (by omega) (by omega) _ _ rfl rfl]
  rfl

/-- The pointwise convolution of the key and value image. -/
theorem kv_conv (o : Fin 384) (r w : Fin 224) :
    val_main_v68 (F := Ideal) x1 x4 (ix4 (0 : Fin 1) o r w) = conv (cw x4) (img x1) o ⟨r.val * 224 + w.val, by omega⟩ := by
  pointwise [val_main_v68, val_main_v67, val_main_v66]
  exact Finset.sum_congr rfl fun x _ => (mul_comm _ _).trans (congrArg (cw x4 o x * ·) (img_apply x1 x r w).symm)

/-- A neighbour of a pixel of the padded key and value image. -/
theorem kv_pad (o : Fin 384) (r w : Fin 224) (i j : ℕ) (hi : i < 3) (hj : j < 3) (a b : Fin 226) (ha : a.val = i + r.val) (hb : b.val = j + w.val) :
    val_main_v69 (F := Ideal) x1 x4 (ix4 (0 : Fin 1) o a b) = tap (conv (cw x4) (img x1) o) i j (r.val * 224 + w.val) := by
  pointwise [val_main_v69, val_main_call1_v0, val_main_c_0]
  have h1 : (r.val * 224 + w.val) / 224 = r.val := by omega
  have h2 : (r.val * 224 + w.val) % 224 = w.val := by omega
  unfold tap
  rw [h1, h2]
  by_cases h : 1 ≤ r.val + i ∧ r.val + i ≤ 224 ∧ 1 ≤ w.val + j ∧ w.val + j ≤ 224
  · rw [if_pos h, dif_pos (by omega), kv_conv, px, dif_pos (by omega)]
    exact congrArg (conv (cw x4) (img x1) o) (Fin.ext (by show (a.val - 1) * 224 + (b.val - 1) = r.val * 224 + w.val + i * 224 + j - 225; rw [ha, hb]; omega))
  · rw [if_neg h, dif_neg (by omega)]
    exact zero_word

/-- Both convolutions of the key and value image. -/
theorem kv_dw (o : Fin 384) (r w : Fin 224) :
    val_main_v131 (F := Ideal) x1 x4 x5 (ix4 (0 : Fin 1) o r w) = dw (dk x5 o) (conv (cw x4) (img x1) o) (r.val * 224 + w.val) := by
  pointwise [val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70]
  rw [kv_pad x1 x4 o r w 0 0 (by omega) (by omega) _ _ (Nat.zero_add _).symm (Nat.zero_add _).symm,
    kv_pad x1 x4 o r w 0 1 (by omega) (by omega) _ _ (Nat.zero_add _).symm rfl,
    kv_pad x1 x4 o r w 0 2 (by omega) (by omega) _ _ (Nat.zero_add _).symm rfl,
    kv_pad x1 x4 o r w 1 0 (by omega) (by omega) _ _ rfl (Nat.zero_add _).symm,
    kv_pad x1 x4 o r w 1 1 (by omega) (by omega) _ _ rfl rfl,
    kv_pad x1 x4 o r w 1 2 (by omega) (by omega) _ _ rfl rfl,
    kv_pad x1 x4 o r w 2 0 (by omega) (by omega) _ _ rfl (Nat.zero_add _).symm,
    kv_pad x1 x4 o r w 2 1 (by omega) (by omega) _ _ rfl rfl,
    kv_pad x1 x4 o r w 2 2 (by omega) (by omega) _ _ rfl rfl]
  rfl

end Cert.ReferenceIdeal.Value

end
-- ==== Proof.Reference.Attention.lean ====
/-
The reference's attention, read at an index: the channels by head, their norms, the products and the temperature.
-/
module

public import proofs.«01_k».proof.Proof.Reference.Conv

@[expose] public section

set_option maxRecDepth 16384

noncomputable section

namespace Cert.ReferenceIdeal.Value

open Cert.ReferenceIdeal Cert.ReferenceIdeal.Gen Cert.ReferenceIdeal.Read Cert.Attn
open Idealize.ShloMosaic Idealize.ShloMosaic.TcCoe

variable (x0 : FVec Ideal S1x192x224x224 .f32) (x1 : FVec Ideal S1x192x224x224 .f32) (x2 : FVec Ideal S192x192x1x1 .f32) (x3 : FVec Ideal S192x1x3x3 .f32)
  (x4 : FVec Ideal S384x192x1x1 .f32) (x5 : FVec Ideal S384x1x3x3 .f32) (x6 : FVec Ideal S192x192x1x1 .f32) (x7 : FVec Ideal S8x1x1 .f32)
  (x8 x9 x10 x11 : FVec Ideal S1 .f32)

/-- The arguments over plain indices. -/
def inputs : Inputs where
  xq := img x0
  xkv := img x1
  wq := cw x2
  wkv := cw x4
  dq := dk x3
  dkv := dk x5
  wp := cw x6
  temp h := x7 (ix3 h (0 : Fin 1) (0 : Fin 1))
  a n := ![x8 (ix1 (0 : Fin 1)), x9 (ix1 (0 : Fin 1)), x10 (ix1 (0 : Fin 1)), x11 (ix1 (0 : Fin 1))] n

/-- The query's channel `r` of head `h`. -/
theorem q_heads (h : Fin 8) (r : Fin 24) (p : Fin 50176) :
    val_main_v134 (F := Ideal) x0 x2 x3 (ix4 (0 : Fin 1) h r p) = (inputs x0 x1 x2 x3 x4 x5 x6 x7 x8 x9 x10 x11).q (ch h r) p := by
  pointwise [val_main_v134]
  rw [q_dw]
  have e1 : (⟨h.val * 24 + r.val, by omega⟩ : Fin 192) = ch h r := Fin.ext (by show h.val * 24 + r.val = 24 * h.val + r.val; omega)
  rw [e1]
  exact congrArg (dw _ _) (by show p.val / 224 * 224 + p.val % 224 = p.val; omega)

/-- The key's channel `r` of head `h`. -/
theorem k_heads (h : Fin 8) (r : Fin 24) (p : Fin 50176) :
    val_main_v135 (F := Ideal) x1 x4 x5 (ix4 (0 : Fin 1) h r p) = (inputs x0 x1 x2 x3 x4 x5 x6 x7 x8 x9 x10 x11).kv (kch h r) p := by
  pointwise [val_main_v135, val_main_v132]
  rw [kv_dw]
  have e1 : (⟨h.val * 24 + r.val, by omega⟩ : Fin 384) = kch h r := Fin.ext (by show h.val * 24 + r.val = 24 * h.val + r.val; omega)
  rw [e1]
  exact congrArg (dw _ _) (by show p.val / 224 * 224 + p.val % 224 = p.val; omega)

/-- The value's channel `r` of head `h`. -/
theorem v_heads (h : Fin 8) (r : Fin 24) (p : Fin 50176) :
    val_main_v136 (F := Ideal) x1 x4 x5 (ix4 (0 : Fin 1) h r p) = (inputs x0 x1 x2 x3 x4 x5 x6 x7 x8 x9 x10 x11).kv (vch h r) p := by
  pointwise [val_main_v136, val_main_v133]
  rw [kv_dw]
  have e1 : (⟨192 + (h.val * 24 + r.val), by omega⟩ : Fin 384) = vch h r := Fin.ext (by show 192 + (h.val * 24 + r.val) = 192 + 24 * h.val + r.val; omega)
  rw [e1]
  exact congrArg (dw _ _) (by show p.val / 224 * 224 + p.val % 224 = p.val; omega)

/-- The query's norm. -/
theorem q_norm (h : Fin 8) (i : Fin 24) :
    val_main_v142 (F := Ideal) x0 x2 x3 (ix4 (0 : Fin 1) h i (0 : Fin 1)) = nrm (sq fun p => val_main_v134 (F := Ideal) x0 x2 x3 (ix4 (0 : Fin 1) h i p)) := by
  pointwise [val_main_v142, val_main_v141, val_main_v140, val_main_v139, val_main_v138, val_main_v137, val_main_cst, val_main_cst_1]
  rfl

/-- The key's norm. -/
theorem k_norm (h : Fin 8) (i : Fin 24) :
    val_main_v150 (F := Ideal) x1 x4 x5 (ix4 (0 : Fin 1) h i (0 : Fin 1)) = nrm (sq fun p => val_main_v135 (F := Ideal) x1 x4 x5 (ix4 (0 : Fin 1) h i p)) := by
  pointwise [val_main_v150, val_main_v149, val_main_v148, val_main_v147, val_main_v146, val_main_v145, val_main_cst_2, val_main_cst_3]
  rfl

/-- The query over its norm. -/
theorem q_unit (h : Fin 8) (i : Fin 24) (p : Fin 50176) :
    val_main_v154 (F := Ideal) x0 x2 x3 (ix3 h i p) = Ideal.div (val_main_v134 (F := Ideal) x0 x2 x3 (ix4 (0 : Fin 1) h i p)) (nrm (sq fun p => val_main_v134 (F := Ideal) x0 x2 x3 (ix4 (0 : Fin 1) h i p))) := by
  rw [← q_norm]
  pointwise [val_main_v154, val_main_v144, val_main_v143]

/-- The key over its norm. -/
theorem k_unit (h : Fin 8) (i : Fin 24) (p : Fin 50176) :
    val_main_v155 (F := Ideal) x1 x4 x5 (ix3 h p i) = Ideal.div (val_main_v135 (F := Ideal) x1 x4 x5 (ix4 (0 : Fin 1) h i p)) (nrm (sq fun p => val_main_v135 (F := Ideal) x1 x4 x5 (ix4 (0 : Fin 1) h i p))) := by
  rw [← k_norm]
  pointwise [val_main_v155, val_main_v153, val_main_v152, val_main_v151]

/-- The products of the channels. -/
theorem gram_read (h : Fin 8) (i j : Fin 24) :
    val_main_v156 (F := Ideal) x0 x1 x2 x3 x4 x5 (ix3 h i j)
      = gram (fun p => val_main_v134 (F := Ideal) x0 x2 x3 (ix4 (0 : Fin 1) h i p)) (fun p => val_main_v135 (F := Ideal) x1 x4 x5 (ix4 (0 : Fin 1) h j p)) := by
  pointwise [val_main_v156]
  exact Finset.sum_congr rfl fun p _ => congrArg₂ (· * ·) (q_unit x0 x2 x3 h i p) (k_unit x1 x4 x5 h j p)

/-- The attention. -/
theorem attn_read (h : Fin 8) (i j : Fin 24) :
    val_main_v160 (F := Ideal) x0 x1 x2 x3 x4 x5 x7 (ix4 (0 : Fin 1) h i j) = (inputs x0 x1 x2 x3 x4 x5 x6 x7 x8 x9 x10 x11).attn h i j := by
  pointwise [val_main_v160, val_main_v159, val_main_v158, val_main_v157]
  rw [gram_read]
  exact congrArg₂ (fun a b => gram a b * x7 (ix3 h (0 : Fin 1) (0 : Fin 1))) (funext fun p => q_heads x0 x1 x2 x3 x4 x5 x6 x7 x8 x9 x10 x11 h i p)
    (funext fun p => k_heads x0 x1 x2 x3 x4 x5 x6 x7 x8 x9 x10 x11 h j p)

end Cert.ReferenceIdeal.Value

end
-- ==== Proof.Reference.Softmax.lean ====
/-
The reference's four softmaxes, read at an index.
-/
module

public import proofs.«01_k».proof.Proof.Reference.Mask
public import proofs.«01_k».proof.Proof.Reference.Attention

@[expose] public section

set_option maxRecDepth 16384

noncomputable section

namespace Cert.ReferenceIdeal.Value

open Cert.ReferenceIdeal Cert.ReferenceIdeal.Gen Cert.ReferenceIdeal.Read Cert.Attn
open Idealize.ShloMosaic Idealize.ShloMosaic.TcCoe

variable (x0 : FVec Ideal S1x192x224x224 .f32) (x1 : FVec Ideal S1x192x224x224 .f32) (x2 : FVec Ideal S192x192x1x1 .f32) (x3 : FVec Ideal S192x1x3x3 .f32)
  (x4 : FVec Ideal S384x192x1x1 .f32) (x5 : FVec Ideal S384x1x3x3 .f32) (x6 : FVec Ideal S192x192x1x1 .f32) (x7 : FVec Ideal S8x1x1 .f32)
  (x8 x9 x10 x11 : FVec Ideal S1 .f32)

/-- The first softmax. -/
theorem soft_12 (h : Fin 8) (i j : Fin 24) :
    val_main_v195 (F := Ideal) x0 x1 x2 x3 x4 x5 x7 (ix4 (0 : Fin 1) h i j) = (inputs x0 x1 x2 x3 x4 x5 x6 x7 x8 x9 x10 x11).soft 0 h i j := by
  pointwise [val_main_v195, val_main_v194, val_main_v193, val_main_v192, val_main_v191, val_main_v190, val_main_v189, val_main_v188, val_main_v187, val_main_v186, val_main_v185, val_main_cst_24, val_main_cst_23, val_main_cst_22]
  rw [fold_max, bot_word, bot_sup_eq]
  simp only [mask_12, attn_read x0 x1 x2 x3 x4 x5 x6 x7 x8 x9 x10 x11]
  rfl

/-- The second softmax. -/
theorem soft_16 (h : Fin 8) (i j : Fin 24) :
    val_main_v206 (F := Ideal) x0 x1 x2 x3 x4 x5 x7 (ix4 (0 : Fin 1) h i j) = (inputs x0 x1 x2 x3 x4 x5 x6 x7 x8 x9 x10 x11).soft 1 h i j := by
  pointwise [val_main_v206, val_main_v205, val_main_v204, val_main_v203, val_main_v202, val_main_v201, val_main_v200, val_main_v199, val_main_v198, val_main_v197, val_main_v196, val_main_cst_27, val_main_cst_26, val_main_cst_25]
  rw [fold_max, bot_word, bot_sup_eq]
  simp only [mask_16, attn_read x0 x1 x2 x3 x4 x5 x6 x7 x8 x9 x10 x11]
  rfl

/-- The third softmax. -/
theorem soft_18 (h : Fin 8) (i j : Fin 24) :
    val_main_v217 (F := Ideal) x0 x1 x2 x3 x4 x5 x7 (ix4 (0 : Fin 1) h i j) = (inputs x0 x1 x2 x3 x4 x5 x6 x7 x8 x9 x10 x11).soft 2 h i j := by
  pointwise [val_main_v217, val_main_v216, val_main_v215, val_main_v214, val_main_v213, val_main_v212, val_main_v211, val_main_v210, val_main_v209, val_main_v208, val_main_v207, val_main_cst_30, val_main_cst_29, val_main_cst_28]
  rw [fold_max, bot_word, bot_sup_eq]
  simp only [mask_18, attn_read x0 x1 x2 x3 x4 x5 x6 x7 x8 x9 x10 x11]
  rfl

/-- The fourth softmax. -/
theorem soft_19 (h : Fin 8) (i j : Fin 24) :
    val_main_v228 (F := Ideal) x0 x1 x2 x3 x4 x5 x7 (ix4 (0 : Fin 1) h i j) = (inputs x0 x1 x2 x3 x4 x5 x6 x7 x8 x9 x10 x11).soft 3 h i j := by
  pointwise [val_main_v228, val_main_v227, val_main_v226, val_main_v225, val_main_v224, val_main_v223, val_main_v222, val_main_v221, val_main_v220, val_main_v219, val_main_v218, val_main_cst_33, val_main_cst_32, val_main_cst_31]
  rw [fold_max, bot_word, bot_sup_eq]
  simp only [mask_19, attn_read x0 x1 x2 x3 x4 x5 x6 x7 x8 x9 x10 x11]
  rfl

end Cert.ReferenceIdeal.Value

end
-- ==== Proof.Reference.Result.lean ====
/-
The reference's result, read at an index: each softmax applied to the value channels, the weighted sum of the four, and the
projection.
-/
module

public import proofs.«01_k».proof.Proof.Reference.Softmax

@[expose] public section

set_option maxRecDepth 16384

noncomputable section

namespace Cert.ReferenceIdeal.Value

open Cert.ReferenceIdeal Cert.ReferenceIdeal.Gen Cert.ReferenceIdeal.Read Cert.Attn
open Idealize.ShloMosaic Idealize.ShloMosaic.TcCoe

variable (x0 : FVec Ideal S1x192x224x224 .f32) (x1 : FVec Ideal S1x192x224x224 .f32) (x2 : FVec Ideal S192x192x1x1 .f32) (x3 : FVec Ideal S192x1x3x3 .f32)
  (x4 : FVec Ideal S384x192x1x1 .f32) (x5 : FVec Ideal S384x1x3x3 .f32) (x6 : FVec Ideal S192x192x1x1 .f32) (x7 : FVec Ideal S8x1x1 .f32)
  (x8 x9 x10 x11 : FVec Ideal S1 .f32)

/-- The first softmax applied to the value channels. -/
theorem part_12 (h : Fin 8) (i : Fin 24) (p : Fin 50176) :
    val_main_v232 (F := Ideal) x0 x1 x2 x3 x4 x5 x7 (ix4 (0 : Fin 1) h i p) = ∑ j : Fin 24, (inputs x0 x1 x2 x3 x4 x5 x6 x7 x8 x9 x10 x11).soft 0 h i j * (inputs x0 x1 x2 x3 x4 x5 x6 x7 x8 x9 x10 x11).kv (vch h j) p := by
  pointwise [val_main_v232, val_main_v231, val_main_v230, val_main_v229]
  simp only [soft_12 x0 x1 x2 x3 x4 x5 x6 x7 x8 x9 x10 x11, v_heads x0 x1 x2 x3 x4 x5 x6 x7 x8 x9 x10 x11]

/-- The second softmax applied to the value channels. -/
theorem part_16 (h : Fin 8) (i : Fin 24) (p : Fin 50176) :
    val_main_v236 (F := Ideal) x0 x1 x2 x3 x4 x5 x7 (ix4 (0 : Fin 1) h i p) = ∑ j : Fin 24, (inputs x0 x1 x2 x3 x4 x5 x6 x7 x8 x9 x10 x11).soft 1 h i j * (inputs x0 x1 x2 x3 x4 x5 x6 x7 x8 x9 x10 x11).kv (vch h j) p := by
  pointwise [val_main_v236, val_main_v235, val_main_v234, val_main_v233]
  simp only [soft_16 x0 x1 x2 x3 x4 x5 x6 x7 x8 x9 x10 x11, v_heads x0 x1 x2 x3 x4 x5 x6 x7 x8 x9 x10 x11]

/-- The third softmax applied to the value channels. -/
theorem part_18 (h : Fin 8) (i : Fin 24) (p : Fin 50176) :
    val_main_v240 (F := Ideal) x0 x1 x2 x3 x4 x5 x7 (ix4 (0 : Fin 1) h i p) = ∑ j : Fin 24, (inputs x0 x1 x2 x3 x4 x5 x6 x7 x8 x9 x10 x11).soft 2 h i j * (inputs x0 x1 x2 x3 x4 x5 x6 x7 x8 x9 x10 x11).kv (vch h j) p := by
  pointwise [val_main_v240, val_main_v239, val_main_v238, val_main_v237]
  simp only [soft_18 x0 x1 x2 x3 x4 x5 x6 x7 x8 x9 x10 x11, v_heads x0 x1 x2 x3 x4 x5 x6 x7 x8 x9 x10 x11]

/-- The fourth softmax applied to the value channels. -/
theorem part_19 (h : Fin 8) (i : Fin 24) (p : Fin 50176) :
    val_main_v244 (F := Ideal) x0 x1 x2 x3 x4 x5 x7 (ix4 (0 : Fin 1) h i p) = ∑ j : Fin 24, (inputs x0 x1 x2 x3 x4 x5 x6 x7 x8 x9 x10 x11).soft 3 h i j * (inputs x0 x1 x2 x3 x4 x5 x6 x7 x8 x9 x10 x11).kv (vch h j) p := by
  pointwise [val_main_v244, val_main_v243, val_main_v242, val_main_v241]
  simp only [soft_19 x0 x1 x2 x3 x4 x5 x6 x7 x8 x9 x10 x11, v_heads x0 x1 x2 x3 x4 x5 x6 x7 x8 x9 x10 x11]

/-- The weighted sum of the four. -/
theorem sum_read (h : Fin 8) (i : Fin 24) (p : Fin 50176) :
    val_main_v259 (F := Ideal) x0 x1 x2 x3 x4 x5 x7 x8 x9 x10 x11 (ix4 (0 : Fin 1) h i p)
      = (∑ j : Fin 24, (inputs x0 x1 x2 x3 x4 x5 x6 x7 x8 x9 x10 x11).soft 0 h i j * (inputs x0 x1 x2 x3 x4 x5 x6 x7 x8 x9 x10 x11).kv (vch h j) p) * x8 (ix1 (0 : Fin 1)) + (∑ j : Fin 24, (inputs x0 x1 x2 x3 x4 x5 x6 x7 x8 x9 x10 x11).soft 1 h i j * (inputs x0 x1 x2 x3 x4 x5 x6 x7 x8 x9 x10 x11).kv (vch h j) p) * x9 (ix1 (0 : Fin 1)) + (∑ j : Fin 24, (inputs x0 x1 x2 x3 x4 x5 x6 x7 x8 x9 x10 x11).soft 2 h i j * (inputs x0 x1 x2 x3 x4 x5 x6 x7 x8 x9 x10 x11).kv (vch h j) p) * x10 (ix1 (0 : Fin 1)) + (∑ j : Fin 24, (inputs x0 x1 x2 x3 x4 x5 x6 x7 x8 x9 x10 x11).soft 3 h i j * (inputs x0 x1 x2 x3 x4 x5 x6 x7 x8 x9 x10 x11).kv (vch h j) p) * x11 (ix1 (0 : Fin 1)) := by
  pointwise [val_main_v259, val_main_v258, val_main_v257, val_main_v256, val_main_v255, val_main_v254, val_main_v253, val_main_v252, val_main_v251, val_main_v250, val_main_v249, val_main_v248, val_main_v247, val_main_v246, val_main_v245]
  simp only [part_12 x0 x1 x2 x3 x4 x5 x6 x7 x8 x9 x10 x11, part_16 x0 x1 x2 x3 x4 x5 x6 x7 x8 x9 x10 x11, part_18 x0 x1 x2 x3 x4 x5 x6 x7 x8 x9 x10 x11, part_19 x0 x1 x2 x3 x4 x5 x6 x7 x8 x9 x10 x11]

/-- The same by channel and pixel. -/
theorem heads_joined (d : Fin 192) (r w : Fin 224) :
    val_main_v260 (F := Ideal) x0 x1 x2 x3 x4 x5 x7 x8 x9 x10 x11 (ix4 (0 : Fin 1) d r w)
      = val_main_v259 (F := Ideal) x0 x1 x2 x3 x4 x5 x7 x8 x9 x10 x11 (ix4 (0 : Fin 1) (hd d) (lc d) ⟨r.val * 224 + w.val, by omega⟩) := by
  pointwise [val_main_v260]
  rfl

/-- The reference's result. -/
theorem result_value (o : Fin 192) (r w : Fin 224) :
    val_main_v263 (F := Ideal) x0 x1 x2 x3 x4 x5 x6 x7 x8 x9 x10 x11 (ix4 (0 : Fin 1) o r w) = (inputs x0 x1 x2 x3 x4 x5 x6 x7 x8 x9 x10 x11).outR o ⟨r.val * 224 + w.val, by omega⟩ := by
  pointwise [val_main_v263, val_main_v262, val_main_v261]
  simp only [heads_joined, sum_read x0 x1 x2 x3 x4 x5 x6 x7 x8 x9 x10 x11]
  exact Finset.sum_congr rfl fun d _ => mul_comm _ _

end Cert.ReferenceIdeal.Value

end
-- ==== Proof.Reference.Whole.lean ====
/-
The reference's run: it ends with its result at every index as the mathematics has it, and its arguments unchanged.
-/
module

public import proofs.«01_k».proof.Proof.Reference.Result
public import proofs.«01_k».proof.Proof.Gen.ReferenceIdeal.Run

@[expose] public section

set_option maxRecDepth 16384

noncomputable section

namespace Cert.ReferenceIdeal.Whole

open Cert.ReferenceIdeal Cert.ReferenceIdeal.Gen Cert.Attn
open Idealize.ShloMosaic Idealize.SL.Sem Idealize.ShloMosaic.StableHlo Idealize.ShloMosaic.TcCoe

/-- The reference's arguments over plain indices. -/
def args (m : (ℓ : Loc nD τ sig) → Buf (Elt Ideal) ℓ) (c : Dev nD) : Inputs :=
  Value.inputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- The reference ends with its result as the mathematics has it, and with its arguments as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (o : Fin 192) (a b : Fin 224), r.2.mem ((c.tc : Thread nD τ).loc main_v263) (ix4 (0 : Fin 1) o a b) = (args m c).outR o ⟨a.val * 224 + b.val, by omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨fun o a b =>
      (congrFun ((h c).1.trans (Read.val_main_v263_eq (launchContents m c))) _).trans (Value.result_value _ _ _ _ _ _ _ _ _ _ _ _ o a b), (h c).2⟩)
    (Value.run m ρ)

end Cert.ReferenceIdeal.Whole

end
-- ==== Proof.lean ====
/-
The certificate of the whole attention kernel: the frames of the three programs, the named mask constant, and equality of the
result over the extended reals where the arguments but for the query's are finite.
-/
module

public import proofs.«01_k».proof.Defs
public import proofs.«01_k».proof.Proof.Precondition
public import proofs.«01_k».proof.Proof.Exchange
public import proofs.«01_k».proof.Proof.Kernel.Whole
public import proofs.«01_k».proof.Proof.KernelIdeal.Whole
public import proofs.«01_k».proof.Proof.KernelIdeal.Fourth
public import proofs.«01_k».proof.Proof.Reference.Whole
public import Idealize.ShloMosaic.Lib.Claim

@[expose] public section

set_option maxRecDepth 16384

noncomputable section

namespace Cert.Proof

open Idealize.ShloMosaic Idealize.SL.Sem Cert.Attn

/-- Dropping the result of a kernel's run leaves the arguments. -/
theorem drop_last {p0 p1 p2 p3 p4 p5 p6 p7 p8 p9 p10 p11 q : Prop} (h : p0 ∧ p1 ∧ p2 ∧ p3 ∧ p4 ∧ p5 ∧ p6 ∧ p7 ∧ p8 ∧ p9 ∧ p10 ∧ p11 ∧ q) : p0 ∧ p1 ∧ p2 ∧ p3 ∧ p4 ∧ p5 ∧ p6 ∧ p7 ∧ p8 ∧ p9 ∧ p10 ∧ p11 :=
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1⟩

/-- The result first, then the arguments. -/
theorem last_first {p0 p1 p2 p3 p4 p5 p6 p7 p8 p9 p10 p11 q : Prop} (h : p0 ∧ p1 ∧ p2 ∧ p3 ∧ p4 ∧ p5 ∧ p6 ∧ p7 ∧ p8 ∧ p9 ∧ p10 ∧ p11 ∧ q) : q ∧ p0 ∧ p1 ∧ p2 ∧ p3 ∧ p4 ∧ p5 ∧ p6 ∧ p7 ∧ p8 ∧ p9 ∧ p10 ∧ p11 :=
  ⟨h.2.2.2.2.2.2.2.2.2.2.2.2, drop_last h⟩

/-- The kernel runs and leaves its arguments as they were. -/
theorem kernel_frame : Cert.quiescent_Kernel := fun m g _ =>
  (θ_run _ _ _).mono (fun _ h => ⟨fun c => drop_last (h.1 c), h.2⟩) (Cert.Kernel.Whole.run_main (F := Bits) m g)

/-- The idealized kernel runs and leaves its arguments as they were. -/
theorem ideal_frame : Cert.quiescent_KernelIdeal := fun m g _ =>
  (θ_run _ _ _).mono (fun _ h => ⟨fun c => drop_last (h.1 c), h.2⟩) (Cert.KernelIdeal.Whole.run_main (F := Ideal) m g)

/-- The reference runs and leaves its arguments as they were. -/
theorem reference_frame : Cert.quiescent_ReferenceIdeal := fun m g _ =>
  (θ_run _ _ _).mono (fun _ h => ⟨fun c => (h c).2, funext fun x => nomatch x⟩) (Cert.ReferenceIdeal.Whole.run_value m g)

/-- The mask's constant stands for minus infinity. -/
theorem preserves : Cert.preserves_Kernel_KernelIdeal :=
  IdealRules.named_const.statement Cert.KernelIdeal.κ "mask" .f32 0xF149F2CA#32 ⊥ rfl

/-- Under the precondition the arguments but for the query's are real numbers. -/
theorem finite_inputs (m : (ℓ : Loc Cert.KernelIdeal.nD Cert.KernelIdeal.τ Cert.KernelIdeal.sig) → Buf (Elt Ideal) ℓ)
    (hm : Cert.Pre_KernelIdeal_finite m) (c : Dev Cert.KernelIdeal.nD) : (Cert.KernelIdeal.Value.inputs m c).Finite := by
  obtain ⟨h1, h4, h5, h6, h7, h8, h9, h10, h11⟩ := Cert.Pre_finite.Read.all_real _ _ _ _ _ _ _ _ _ _ _ _ (hm c)
  refine ⟨fun _ _ => h1 _, fun _ _ => h4 _, fun _ _ => h5 _, fun _ _ => h6 _, fun _ => h7 _, ?_⟩
  intro n
  match n with
  | 0 => exact h8 _
  | 1 => exact h9 _
  | 2 => exact h10 _
  | 3 => exact h11 _

/-- Where the two programs' arguments agree, so do they over plain indices. -/
theorem same_inputs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Whole.args m' c = Cert.KernelIdeal.Value.inputs m c := by
  obtain ⟨h0, h1, h2, h3, h4, h5, h6, h7, h8, h9, h10, h11⟩ := h
  unfold Cert.ReferenceIdeal.Whole.args
  rw [h0, h1, h2, h3, h4, h5, h6, h7, h8, h9, h10, h11]
  rfl

/-- Over the extended reals, where the arguments but for the query's are finite, the kernel's result is the reference's. -/
theorem algebraic : Cert.algebraic_KernelIdeal_ReferenceIdeal_pre_finite := by
  intro m g m' g' hm hag
  refine ⟨fun c => Cert.KernelIdeal.Gen.V6 m (Cert.KernelIdeal.Whole.outs m) c (Proc.devRef .tc Cert.KernelIdeal.main_v16), ?_, ?_⟩
  · exact (θ_run _ _ _).mono (fun _ h c => last_first (h.1 c)) (Cert.KernelIdeal.Whole.run_main (F := Ideal) m g)
  · refine (θ_run _ _ _).mono (fun r h c => ⟨?_, (h c).2⟩) (Cert.ReferenceIdeal.Whole.run_value m' g')
    funext j
    idx_vars j
    obtain rfl : j0 = 0 := Subsingleton.elim _ _
    refine ((h c).1 j1 j2 j3).trans ?_
    rw [same_inputs m m' c (hag c), ← Inputs.outK_eq_outR (finite_inputs m hm c)]
    exact (Cert.KernelIdeal.Value.result_value m c j1 j2 j3).symm

/-- Everything the certificate claims. -/
theorem claim : Cert.Claim := ⟨Cert.Kernel.Gen.facts, Cert.KernelIdeal.Gen.facts, Cert.ReferenceIdeal.Gen.facts, Cert.Pre_finite.Read.facts,
  kernel_frame, ideal_frame, fun m g _ => ideal_frame m g trivial, reference_frame, fun m g _ => reference_frame m g trivial, preserves, algebraic⟩

end Cert.Proof

end
